-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S_ : Shape := ⟨0, ![]⟩
abbrev S16 : Shape := ⟨1, ![16]⟩
abbrev S256x8192 : Shape := ⟨2, ![256, 8192]⟩
abbrev S16x256x256 : Shape := ⟨3, ![16, 256, 256]⟩
abbrev S4x256x8192 : Shape := ⟨3, ![4, 256, 8192]⟩
abbrev S4 : Shape := ⟨1, ![4]⟩
abbrev S1 : Shape := ⟨1, ![1]⟩
abbrev S1x256x8192 : Shape := ⟨3, ![1, 256, 8192]⟩
abbrev S256x256 : Shape := ⟨2, ![256, 256]⟩
abbrev S1x256x256 : Shape := ⟨3, ![1, 256, 256]⟩

abbrev nBuf : Space → Nat
  | .hbm => 33
  | .vmem => 5
  | .smem => 1
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S_, .i32⟩
  | .hbm, ⟨23, _⟩ => ⟨S16, .i32⟩
  | .hbm, ⟨24, _⟩ => ⟨S16, .i1⟩
  | .hbm, ⟨25, _⟩ => ⟨S_, .i32⟩
  | .hbm, ⟨26, _⟩ => ⟨S_, .i1⟩
  | .hbm, ⟨27, _⟩ => ⟨S16, .i1⟩
  | .hbm, ⟨28, _⟩ => ⟨S16, .i1⟩
  | .hbm, ⟨29, _⟩ => ⟨S16, .i1⟩
  | .hbm, ⟨30, _⟩ => ⟨S16, .i32⟩
  | .hbm, ⟨31, _⟩ => ⟨S16, .i32⟩
  | .hbm, ⟨32, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S4096x256, .bf16⟩
  | .local _ .vmem, ⟨3, _⟩ => ⟨S16x256x256, .bf16⟩
  | .local _ .vmem, ⟨4, _⟩ => ⟨S4x256x8192, .f32⟩
  | .local _ .smem, ⟨0, _⟩ => ⟨S16, .i32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v9 : Ref sig .tc := ⟨.hbm, 32, rfl⟩
abbrev main_v8 : Ref sig .tc := ⟨.smem, 0, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := ⟨1, ![16], ![false]⟩

abbrev pre0 : Pipeline.Prefetch sig := ⟨1, ![main_v8.idx], fun | 0 => main_v8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_off2 : Fin 1 → Nat :=
  let c0_i32_157 : BitVec 32 := 0#32
  let c4_i32_158 : BitVec 32 := 4#32
  let v192 : BitVec 32 := Scalar.remsi c0_i32_157 c4_i32_158
  ![v192.toNat]
def k0_off3 : Fin 3 → Nat :=
  let c0_i32_157 : BitVec 32 := 0#32
  let c4_i32_158 : BitVec 32 := 4#32
  let v192 : BitVec 32 := Scalar.remsi c0_i32_157 c4_i32_158
  let c0_i32_161 : BitVec 32 := 0#32
  let c0_i32_162 : BitVec 32 := 0#32
  ![v192.toNat, 0, 0]
def k0_off4 (v193 : BitVec 32) : Fin 2 → Nat :=
  let c256_i32_160 : BitVec 32 := 256#32
  let v194 : BitVec 32 := Scalar.muli v193 c256_i32_160
  let c0_i32_163 : BitVec 32 := 0#32
  ![v194.toNat, 0]

def k0_chk1 (i : grid0.Coords) (v193 : BitVec 32) : Prop :=
  (∀ (k0_h1 : k0_cond1 i = 1#1), ∀ a, (k0_off4 v193) a + S256x8192.size a ≤ S4096x8192.size a)
theorem k0_off4_inb : ∀ (i : grid0.Coords) (v193 : BitVec 32) (k0_hw1 : k0_chk1 i v193), ∀ (k0_h1 : k0_cond1 i = 1#1), ∀ a, (k0_off4 v193) a + S256x8192.size a ≤ S4096x8192.size a := fun i v193 k0_hw1 k0_h1 => k0_hw1 k0_h1

def k0_off5 : Fin 1 → Nat :=
  let c1_i32_164 : BitVec 32 := 1#32
  let c4_i32_165 : BitVec 32 := 4#32
  let v200 : BitVec 32 := Scalar.remsi c1_i32_164 c4_i32_165
  ![v200.toNat]
def k0_off6 : Fin 3 → Nat :=
  let c1_i32_164 : BitVec 32 := 1#32
  let c4_i32_165 : BitVec 32 := 4#32
  let v200 : BitVec 32 := Scalar.remsi c1_i32_164 c4_i32_165
  let c0_i32_167 : BitVec 32 := 0#32
  let c0_i32_168 : BitVec 32 := 0#32
  ![v200.toNat, 0, 0]
def k0_off7 (v201 : BitVec 32) : Fin 2 → Nat :=
  let c256_i32_166 : BitVec 32 := 256#32
  let v202 : BitVec 32 := Scalar.muli v201 c256_i32_166
  let c0_i32_169 : BitVec 32 := 0#32
  ![v202.toNat, 0]

def k0_chk2 (i : grid0.Coords) (v201 : BitVec 32) : Prop :=
  (∀ (k0_h1 : k0_cond1 i = 1#1), ∀ a, (k0_off7 v201) a + S256x8192.size a ≤ S4096x8192.size a)
theorem k0_off7_inb : ∀ (i : grid0.Coords) (v201 : BitVec 32) (k0_hw2 : k0_chk2 i v201), ∀ (k0_h1 : k0_cond1 i = 1#1), ∀ a, (k0_off7 v201) a + S256x8192.size a ≤ S4096x8192.size a := fun i v201 k0_hw2 k0_h1 => k0_hw2 k0_h1

def k0_off8 : Fin 1 → Nat :=
  let c2_i32_170 : BitVec 32 := 2#32
  let c4_i32_171 : BitVec 32 := 4#32
  let v208 : BitVec 32 := Scalar.remsi c2_i32_170 c4_i32_171
  ![v208.toNat]
def k0_off9 : Fin 3 → Nat :=
  let c2_i32_170 : BitVec 32 := 2#32
  let c4_i32_171 : BitVec 32 := 4#32
  let v208 : BitVec 32 := Scalar.remsi c2_i32_170 c4_i32_171
  let c0_i32_173 : BitVec 32 := 0#32
  let c0_i32_174 : BitVec 32 := 0#32
  ![v208.toNat, 0, 0]
def k0_off10 (v209 : BitVec 32) : Fin 2 → Nat :=
  let c256_i32_172 : BitVec 32 := 256#32
  let v210 : BitVec 32 := Scalar.muli v209 c256_i32_172
  let c0_i32_175 : BitVec 32 := 0#32
  ![v210.toNat, 0]

def k0_chk3 (i : grid0.Coords) (v209 : BitVec 32) : Prop :=
  (∀ (k0_h1 : k0_cond1 i = 1#1), ∀ a, (k0_off10 v209) a + S256x8192.size a ≤ S4096x8192.size a)
theorem k0_off10_inb : ∀ (i : grid0.Coords) (v209 : BitVec 32) (k0_hw3 : k0_chk3 i v209), ∀ (k0_h1 : k0_cond1 i = 1#1), ∀ a, (k0_off10 v209) a + S256x8192.size a ≤ S4096x8192.size a := fun i v209 k0_hw3 k0_h1 => k0_hw3 k0_h1

def k0_off11 : Fin 1 → Nat :=
  let c3_i32_176 : BitVec 32 := 3#32
  let c4_i32_177 : BitVec 32 := 4#32
  let v216 : BitVec 32 := Scalar.remsi c3_i32_176 c4_i32_177
  ![v216.toNat]
def k0_off12 : Fin 3 → Nat :=
  let c3_i32_176 : BitVec 32 := 3#32
  let c4_i32_177 : BitVec 32 := 4#32
  let v216 : BitVec 32 := Scalar.remsi c3_i32_176 c4_i32_177
  let c0_i32_179 : BitVec 32 := 0#32
  let c0_i32_180 : BitVec 32 := 0#32
  ![v216.toNat, 0, 0]
def k0_off13 (v217 : BitVec 32) : Fin 2 → Nat :=
  let c256_i32_178 : BitVec 32 := 256#32
  let v218 : BitVec 32 := Scalar.muli v217 c256_i32_178
  let c0_i32_181 : BitVec 32 := 0#32
  ![v218.toNat, 0]

def k0_chk4 (i : grid0.Coords) (v217 : BitVec 32) : Prop :=
  (∀ (k0_h1 : k0_cond1 i = 1#1), ∀ a, (k0_off13 v217) a + S256x8192.size a ≤ S4096x8192.size a)
theorem k0_off13_inb : ∀ (i : grid0.Coords) (v217 : BitVec 32) (k0_hw4 : k0_chk4 i v217), ∀ (k0_h1 : k0_cond1 i = 1#1), ∀ a, (k0_off13 v217) a + S256x8192.size a ≤ S4096x8192.size a := fun i v217 k0_hw4 k0_h1 => k0_hw4 k0_h1

def k0_off14 (v0 : BitVec 32) : Fin 2 → Nat :=
  let c256_i32_186 : BitVec 32 := 256#32
  let v230 : BitVec 32 := Scalar.muli v0 c256_i32_186
  let v231 : Index := Scalar.indexCast v230
  let c0_187 : Index := 0#32
  ![v231.toNat, 0]

def k0_off15 (v0 : BitVec 32) : Fin 3 → Nat :=
  let v233 : Index := Scalar.indexCast v0
  let c0_188 : Index := 0#32
  let c0_189 : Index := 0#32
  ![v233.toNat, 0, 0]
def k0_dev1 : Nat :=
  let c0_i32_193 : BitVec 32 := 0#32
  let c0_i32_191 : BitVec 32 := 0#32
  let c1_i32_192 : BitVec 32 := 1#32
  let v238 : BitVec 32 := Scalar.muli c0_i32_191 c1_i32_192
  let v239 : BitVec 32 := Scalar.addi c0_i32_193 v238
  v239.toNat
def k0_dev2 : Nat :=
  let c0_i32_197 : BitVec 32 := 0#32
  let c1_i32_195 : BitVec 32 := 1#32
  let c1_i32_196 : BitVec 32 := 1#32
  let v240 : BitVec 32 := Scalar.muli c1_i32_195 c1_i32_196
  let v241 : BitVec 32 := Scalar.addi c0_i32_197 v240
  v241.toNat
def k0_dev3 : Nat :=
  let c0_i32_201 : BitVec 32 := 0#32
  let c2_i32_199 : BitVec 32 := 2#32
  let c1_i32_200 : BitVec 32 := 1#32
  let v242 : BitVec 32 := Scalar.muli c2_i32_199 c1_i32_200
  let v243 : BitVec 32 := Scalar.addi c0_i32_201 v242
  v243.toNat
def k0_dev4 : Nat :=
  let c0_i32_205 : BitVec 32 := 0#32
  let c3_i32_203 : BitVec 32 := 3#32
  let c1_i32_204 : BitVec 32 := 1#32
  let v244 : BitVec 32 := Scalar.muli c3_i32_203 c1_i32_204
  let v245 : BitVec 32 := Scalar.addi c0_i32_205 v244
  v245.toNat
def k0_dev5 : Nat :=
  let c0_i32_209 : BitVec 32 := 0#32
  let c4_i32_207 : BitVec 32 := 4#32
  let c1_i32_208 : BitVec 32 := 1#32
  let v246 : BitVec 32 := Scalar.muli c4_i32_207 c1_i32_208
  let v247 : BitVec 32 := Scalar.addi c0_i32_209 v246
  v247.toNat
def k0_dev6 : Nat :=
  let c0_i32_213 : BitVec 32 := 0#32
  let c5_i32_211 : BitVec 32 := 5#32
  let c1_i32_212 : BitVec 32 := 1#32
  let v248 : BitVec 32 := Scalar.muli c5_i32_211 c1_i32_212
  let v249 : BitVec 32 := Scalar.addi c0_i32_213 v248
  v249.toNat
def k0_dev7 : Nat :=
  let c0_i32_217 : BitVec 32 := 0#32
  let c6_i32_215 : BitVec 32 := 6#32
  let c1_i32_216 : BitVec 32 := 1#32
  let v250 : BitVec 32 := Scalar.muli c6_i32_215 c1_i32_216
  let v251 : BitVec 32 := Scalar.addi c0_i32_217 v250
  v251.toNat
def k0_dev8 : Nat :=
  let c0_i32_221 : BitVec 32 := 0#32
  let c7_i32_219 : BitVec 32 := 7#32
  let c1_i32_220 : BitVec 32 := 1#32
  let v252 : BitVec 32 := Scalar.muli c7_i32_219 c1_i32_220
  let v253 : BitVec 32 := Scalar.addi c0_i32_221 v252
  v253.toNat
def k0_dev9 : Nat :=
  let c0_i32_225 : BitVec 32 := 0#32
  let c8_i32_223 : BitVec 32 := 8#32
  let c1_i32_224 : BitVec 32 := 1#32
  let v254 : BitVec 32 := Scalar.muli c8_i32_223 c1_i32_224
  let v255 : BitVec 32 := Scalar.addi c0_i32_225 v254
  v255.toNat
def k0_dev10 : Nat :=
  let c0_i32_229 : BitVec 32 := 0#32
  let c9_i32_227 : BitVec 32 := 9#32
  let c1_i32_228 : BitVec 32 := 1#32
  let v256 : BitVec 32 := Scalar.muli c9_i32_227 c1_i32_228
  let v257 : BitVec 32 := Scalar.addi c0_i32_229 v256
  v257.toNat
def k0_dev11 : Nat :=
  let c0_i32_233 : BitVec 32 := 0#32
  let c10_i32_231 : BitVec 32 := 10#32
  let c1_i32_232 : BitVec 32 := 1#32
  let v258 : BitVec 32 := Scalar.muli c10_i32_231 c1_i32_232
  let v259 : BitVec 32 := Scalar.addi c0_i32_233 v258
  v259.toNat
def k0_dev12 : Nat :=
  let c0_i32_237 : BitVec 32 := 0#32
  let c11_i32_235 : BitVec 32 := 11#32
  let c1_i32_236 : BitVec 32 := 1#32
  let v260 : BitVec 32 := Scalar.muli c11_i32_235 c1_i32_236
  let v261 : BitVec 32 := Scalar.addi c0_i32_237 v260
  v261.toNat
def k0_dev13 : Nat :=
  let c0_i32_241 : BitVec 32 := 0#32
  let c12_i32_239 : BitVec 32 := 12#32
  let c1_i32_240 : BitVec 32 := 1#32
  let v262 : BitVec 32 := Scalar.muli c12_i32_239 c1_i32_240
  let v263 : BitVec 32 := Scalar.addi c0_i32_241 v262
  v263.toNat
def k0_dev14 : Nat :=
  let c0_i32_245 : BitVec 32 := 0#32
  let c13_i32_243 : BitVec 32 := 13#32
  let c1_i32_244 : BitVec 32 := 1#32
  let v264 : BitVec 32 := Scalar.muli c13_i32_243 c1_i32_244
  let v265 : BitVec 32 := Scalar.addi c0_i32_245 v264
  v265.toNat
def k0_dev15 : Nat :=
  let c0_i32_249 : BitVec 32 := 0#32
  let c14_i32_247 : BitVec 32 := 14#32
  let c1_i32_248 : BitVec 32 := 1#32
  let v266 : BitVec 32 := Scalar.muli c14_i32_247 c1_i32_248
  let v267 : BitVec 32 := Scalar.addi c0_i32_249 v266
  v267.toNat
def k0_dev16 : Nat :=
  let c0_i32_253 : BitVec 32 := 0#32
  let c15_i32_251 : BitVec 32 := 15#32
  let c1_i32_252 : BitVec 32 := 1#32
  let v268 : BitVec 32 := Scalar.muli c15_i32_251 c1_i32_252
  let v269 : BitVec 32 := Scalar.addi c0_i32_253 v268
  v269.toNat
def k0_cond2 (i : grid0.Coords) : BitVec 1 :=
  let arg0 : BitVec 32 := BitVec.ofNat 32 (i 0).val
  let c0_i32_2 : BitVec 32 := 0#32
  let v10 : BitVec 1 := Scalar.cmpi .eq arg0 c0_i32_2
  let v11 : BitVec 32 := Scalar.extui v10
  let c0_i32_4 : BitVec 32 := 0#32
  let v12 : BitVec 1 := Scalar.cmpi .ne v11 c0_i32_4
  v12

def k0_off16 (v0 : BitVec 32) : Fin 1 → Nat :=
  ![v0.toNat]
def k0_off17 (v0 : BitVec 32) : Fin 3 → Nat :=
  let c0_i32_157 : BitVec 32 := 0#32
  let c0_i32_158 : BitVec 32 := 0#32
  ![v0.toNat, 0, 0]
def k0_off18 (v0 : BitVec 32) : Fin 2 → Nat :=
  let c1_i32 : BitVec 32 := 1#32
  let v6 : BitVec 32 := Scalar.subi v0 c1_i32
  let c16_i32 : BitVec 32 := 16#32
  let v7 : BitVec 32 := Scalar.addi v6 c16_i32
  let c16_i32_1 : BitVec 32 := 16#32
  let v8 : BitVec 32 := Scalar.remsi v7 c16_i32_1
  let c256_i32 : BitVec 32 := 256#32
  let v9 : BitVec 32 := Scalar.muli v8 c256_i32
  let c0_i32_159 : BitVec 32 := 0#32
  ![v9.toNat, 0]
def k0_dev17 (v0 : BitVec 32) : Nat :=
  let c1_i32 : BitVec 32 := 1#32
  let v6 : BitVec 32 := Scalar.subi v0 c1_i32
  let c16_i32 : BitVec 32 := 16#32
  let v7 : BitVec 32 := Scalar.addi v6 c16_i32
  let c16_i32_1 : BitVec 32 := 16#32
  let v8 : BitVec 32 := Scalar.remsi v7 c16_i32_1
  v8.toNat
def k0_cond3 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_6 : BitVec 32 := 0#32
  let v15 : BitVec 1 := Scalar.cmpi .ne v14 c0_i32_6
  v15

def k0_off19 (v0 : BitVec 32) : Fin 2 → Nat :=
  let c1_i32 : BitVec 32 := 1#32
  let v6 : BitVec 32 := Scalar.subi v0 c1_i32
  let c16_i32 : BitVec 32 := 16#32
  let v7 : BitVec 32 := Scalar.addi v6 c16_i32
  let c16_i32_1 : BitVec 32 := 16#32
  let v8 : BitVec 32 := Scalar.remsi v7 c16_i32_1
  let c256_i32 : BitVec 32 := 256#32
  let v9 : BitVec 32 := Scalar.muli v8 c256_i32
  let c0_i32_158 : BitVec 32 := 0#32
  ![v9.toNat, 0]
def k0_off20 (v0 : BitVec 32) : Fin 3 → Nat :=
  let c0_i32_159 : BitVec 32 := 0#32
  let c0_i32_160 : BitVec 32 := 0#32
  ![v0.toNat, 0, 0]
def k0_cond4 (i : grid0.Coords) : BitVec 1 :=
  let arg0 : BitVec 32 := BitVec.ofNat 32 (i 0).val
  let c0_i32_10 : BitVec 32 := 0#32
  let v20 : BitVec 1 := Scalar.cmpi .eq arg0 c0_i32_10
  let v21 : BitVec 32 := Scalar.extui v20
  let c0_i32_12 : BitVec 32 := 0#32
  let v22 : BitVec 1 := Scalar.cmpi .ne v21 c0_i32_12
  v22

def k0_off21 (v0 : BitVec 32) : Fin 1 → Nat :=
  ![v0.toNat]
def k0_off22 (v0 : BitVec 32) : Fin 3 → Nat :=
  let c0_i32_157 : BitVec 32 := 0#32
  let c0_i32_158 : BitVec 32 := 0#32
  ![v0.toNat, 0, 0]
def k0_off23 (v0 : BitVec 32) : Fin 2 → Nat :=
  let c2_i32 : BitVec 32 := 2#32
  let v16 : BitVec 32 := Scalar.subi v0 c2_i32
  let c16_i32_7 : BitVec 32 := 16#32
  let v17 : BitVec 32 := Scalar.addi v16 c16_i32_7
  let c16_i32_8 : BitVec 32 := 16#32
  let v18 : BitVec 32 := Scalar.remsi v17 c16_i32_8
  let c256_i32_9 : BitVec 32 := 256#32
  let v19 : BitVec 32 := Scalar.muli v18 c256_i32_9
  let c0_i32_159 : BitVec 32 := 0#32
  ![v19.toNat, 0]
def k0_dev18 (v0 : BitVec 32) : Nat :=
  let c2_i32 : BitVec 32 := 2#32
  let v16 : BitVec 32 := Scalar.subi v0 c2_i32
  let c16_i32_7 : BitVec 32 := 16#32
  let v17 : BitVec 32 := Scalar.addi v16 c16_i32_7
  let c16_i32_8 : BitVec 32 := 16#32
  let v18 : BitVec 32 := Scalar.remsi v17 c16_i32_8
  v18.toNat
def k0_cond5 (i : grid0.Coords) : BitVec 1 :=
  let arg0 : BitVec 32 := BitVec.ofNat 32 (i 0).val
  let c15_i32_13 : BitVec 32 := 15#32
  let v23 : BitVec 1 := Scalar.cmpi .eq arg0 c15_i32_13
  let v24 : BitVec 32 := Scalar.extui v23
  let c0_i32_15 : BitVec 32 := 0#32
  let v25 : BitVec 1 := Scalar.cmpi .ne v24 c0_i32_15
  v25

def k0_off24 (v0 : BitVec 32) : Fin 2 → Nat :=
  let c2_i32 : BitVec 32 := 2#32
  let v16 : BitVec 32 := Scalar.subi v0 c2_i32
  let c16_i32_7 : BitVec 32 := 16#32
  let v17 : BitVec 32 := Scalar.addi v16 c16_i32_7
  let c16_i32_8 : BitVec 32 := 16#32
  let v18 : BitVec 32 := Scalar.remsi v17 c16_i32_8
  let c256_i32_9 : BitVec 32 := 256#32
  let v19 : BitVec 32 := Scalar.muli v18 c256_i32_9
  let c0_i32_158 : BitVec 32 := 0#32
  ![v19.toNat, 0]
def k0_off25 (v0 : BitVec 32) : Fin 3 → Nat :=
  let c0_i32_159 : BitVec 32 := 0#32
  let c0_i32_160 : BitVec 32 := 0#32
  ![v0.toNat, 0, 0]
def k0_cond6 (i : grid0.Coords) : BitVec 1 :=
  let arg0 : BitVec 32 := BitVec.ofNat 32 (i 0).val
  let c0_i32_19 : BitVec 32 := 0#32
  let v30 : BitVec 1 := Scalar.cmpi .eq arg0 c0_i32_19
  let v31 : BitVec 32 := Scalar.extui v30
  let c0_i32_21 : BitVec 32 := 0#32
  let v32 : BitVec 1 := Scalar.cmpi .ne v31 c0_i32_21
  v32

def k0_off26 (v0 : BitVec 32) : Fin 1 → Nat :=
  ![v0.toNat]
def k0_off27 (v0 : BitVec 32) : Fin 3 → Nat :=
  let c0_i32_157 : BitVec 32 := 0#32
  let c0_i32_158 : BitVec 32 := 0#32
  ![v0.toNat, 0, 0]
def k0_off28 (v0 : BitVec 32) : Fin 2 → Nat :=
  let c3_i32 : BitVec 32 := 3#32
  let v26 : BitVec 32 := Scalar.subi v0 c3_i32
  let c16_i32_16 : BitVec 32 := 16#32
  let v27 : BitVec 32 := Scalar.addi v26 c16_i32_16
  let c16_i32_17 : BitVec 32 := 16#32
  let v28 : BitVec 32 := Scalar.remsi v27 c16_i32_17
  let c256_i32_18 : BitVec 32 := 256#32
  let v29 : BitVec 32 := Scalar.muli v28 c256_i32_18
  let c0_i32_159 : BitVec 32 := 0#32
  ![v29.toNat, 0]
def k0_dev19 (v0 : BitVec 32) : Nat :=
  let c3_i32 : BitVec 32 := 3#32
  let v26 : BitVec 32 := Scalar.subi v0 c3_i32
  let c16_i32_16 : BitVec 32 := 16#32
  let v27 : BitVec 32 := Scalar.addi v26 c16_i32_16
  let c16_i32_17 : BitVec 32 := 16#32
  let v28 : BitVec 32 := Scalar.remsi v27 c16_i32_17
  v28.toNat
def k0_cond7 (i : grid0.Coords) : BitVec 1 :=
  let arg0 : BitVec 32 := BitVec.ofNat 32 (i 0).val
  let c15_i32_22 : BitVec 32 := 15#32
  let v33 : BitVec 1 := Scalar.cmpi .eq arg0 c15_i32_22
  let v34 : BitVec 32 := Scalar.extui v33
  let c0_i32_24 : BitVec 32 := 0#32
  let v35 : BitVec 1 := Scalar.cmpi .ne v34 c0_i32_24
  v35

def k0_off29 (v0 : BitVec 32) : Fin 2 → Nat :=
  let c3_i32 : BitVec 32 := 3#32
  let v26 : BitVec 32 := Scalar.subi v0 c3_i32
  let c16_i32_16 : BitVec 32 := 16#32
  let v27 : BitVec 32 := Scalar.addi v26 c16_i32_16
  let c16_i32_17 : BitVec 32 := 16#32
  let v28 : BitVec 32 := Scalar.remsi v27 c16_i32_17
  let c256_i32_18 : BitVec 32 := 256#32
  let v29 : BitVec 32 := Scalar.muli v28 c256_i32_18
  let c0_i32_158 : BitVec 32 := 0#32
  ![v29.toNat, 0]
def k0_off30 (v0 : BitVec 32) : Fin 3 → Nat :=
  let c0_i32_159 : BitVec 32 := 0#32
  let c0_i32_160 : BitVec 32 := 0#32
  ![v0.toNat, 0, 0]
def k0_cond8 (i : grid0.Coords) : BitVec 1 :=
  let arg0 : BitVec 32 := BitVec.ofNat 32 (i 0).val
  let c0_i32_28 : BitVec 32 := 0#32
  let v40 : BitVec 1 := Scalar.cmpi .eq arg0 c0_i32_28
  let v41 : BitVec 32 := Scalar.extui v40
  let c0_i32_30 : BitVec 32 := 0#32
  let v42 : BitVec 1 := Scalar.cmpi .ne v41 c0_i32_30
  v42

def k0_off31 (v0 : BitVec 32) : Fin 1 → Nat :=
  ![v0.toNat]
def k0_off32 (v0 : BitVec 32) : Fin 3 → Nat :=
  let c0_i32_157 : BitVec 32 := 0#32
  let c0_i32_158 : BitVec 32 := 0#32
  ![v0.toNat, 0, 0]
def k0_off33 (v0 : BitVec 32) : Fin 2 → Nat :=
  let c4_i32 : BitVec 32 := 4#32
  let v36 : BitVec 32 := Scalar.subi v0 c4_i32
  let c16_i32_25 : BitVec 32 := 16#32
  let v37 : BitVec 32 := Scalar.addi v36 c16_i32_25
  let c16_i32_26 : BitVec 32 := 16#32
  let v38 : BitVec 32 := Scalar.remsi v37 c16_i32_26
  let c256_i32_27 : BitVec 32 := 256#32
  let v39 : BitVec 32 := Scalar.muli v38 c256_i32_27
  let c0_i32_159 : BitVec 32 := 0#32
  ![v39.toNat, 0]
def k0_dev20 (v0 : BitVec 32) : Nat :=
  let c4_i32 : BitVec 32 := 4#32
  let v36 : BitVec 32 := Scalar.subi v0 c4_i32
  let c16_i32_25 : BitVec 32 := 16#32
  let v37 : BitVec 32 := Scalar.addi v36 c16_i32_25
  let c16_i32_26 : BitVec 32 := 16#32
  let v38 : BitVec 32 := Scalar.remsi v37 c16_i32_26
  v38.toNat
def k0_cond9 (i : grid0.Coords) : BitVec 1 :=
  let arg0 : BitVec 32 := BitVec.ofNat 32 (i 0).val
  let c15_i32_31 : BitVec 32 := 15#32
  let v43 : BitVec 1 := Scalar.cmpi .eq arg0 c15_i32_31
  let v44 : BitVec 32 := Scalar.extui v43
  let c0_i32_33 : BitVec 32 := 0#32
  let v45 : BitVec 1 := Scalar.cmpi .ne v44 c0_i32_33
  v45

def k0_off34 (v0 : BitVec 32) : Fin 2 → Nat :=
  let c4_i32 : BitVec 32 := 4#32
  let v36 : BitVec 32 := Scalar.subi v0 c4_i32
  let c16_i32_25 : BitVec 32 := 16#32
  let v37 : BitVec 32 := Scalar.addi v36 c16_i32_25
  let c16_i32_26 : BitVec 32 := 16#32
  let v38 : BitVec 32 := Scalar.remsi v37 c16_i32_26
  let c256_i32_27 : BitVec 32 := 256#32
  let v39 : BitVec 32 := Scalar.muli v38 c256_i32_27
  let c0_i32_158 : BitVec 32 := 0#32
  ![v39.toNat, 0]
def k0_off35 (v0 : BitVec 32) : Fin 3 → Nat :=
  let c0_i32_159 : BitVec 32 := 0#32
  let c0_i32_160 : BitVec 32 := 0#32
  ![v0.toNat, 0, 0]
def k0_cond10 (i : grid0.Coords) : BitVec 1 :=
  let arg0 : BitVec 32 := BitVec.ofNat 32 (i 0).val
  let c0_i32_37 : BitVec 32 := 0#32
  let v50 : BitVec 1 := Scalar.cmpi .eq arg0 c0_i32_37
  let v51 : BitVec 32 := Scalar.extui v50
  let c0_i32_39 : BitVec 32 := 0#32
  let v52 : BitVec 1 := Scalar.cmpi .ne v51 c0_i32_39
  v52

def k0_off36 (v0 : BitVec 32) : Fin 1 → Nat :=
  ![v0.toNat]
def k0_off37 (v0 : BitVec 32) : Fin 3 → Nat :=
  let c0_i32_157 : BitVec 32 := 0#32
  let c0_i32_158 : BitVec 32 := 0#32
  ![v0.toNat, 0, 0]
def k0_off38 (v0 : BitVec 32) : Fin 2 → Nat :=
  let c5_i32 : BitVec 32 := 5#32
  let v46 : BitVec 32 := Scalar.subi v0 c5_i32
  let c16_i32_34 : BitVec 32 := 16#32
  let v47 : BitVec 32 := Scalar.addi v46 c16_i32_34
  let c16_i32_35 : BitVec 32 := 16#32
  let v48 : BitVec 32 := Scalar.remsi v47 c16_i32_35
  let c256_i32_36 : BitVec 32 := 256#32
  let v49 : BitVec 32 := Scalar.muli v48 c256_i32_36
  let c0_i32_159 : BitVec 32 := 0#32
  ![v49.toNat, 0]
def k0_dev21 (v0 : BitVec 32) : Nat :=
  let c5_i32 : BitVec 32 := 5#32
  let v46 : BitVec 32 := Scalar.subi v0 c5_i32
  let c16_i32_34 : BitVec 32 := 16#32
  let v47 : BitVec 32 := Scalar.addi v46 c16_i32_34
  let c16_i32_35 : BitVec 32 := 16#32
  let v48 : BitVec 32 := Scalar.remsi v47 c16_i32_35
  v48.toNat
def k0_cond11 (i : grid0.Coords) : BitVec 1 :=
  let arg0 : BitVec 32 := BitVec.ofNat 32 (i 0).val
  let c15_i32_40 : BitVec 32 := 15#32
  let v53 : BitVec 1 := Scalar.cmpi .eq arg0 c15_i32_40
  let v54 : BitVec 32 := Scalar.extui v53
  let c0_i32_42 : BitVec 32 := 0#32
  let v55 : BitVec 1 := Scalar.cmpi .ne v54 c0_i32_42
  v55

def k0_off39 (v0 : BitVec 32) : Fin 2 → Nat :=
  let c5_i32 : BitVec 32 := 5#32
  let v46 : BitVec 32 := Scalar.subi v0 c5_i32
  let c16_i32_34 : BitVec 32 := 16#32
  let v47 : BitVec 32 := Scalar.addi v46 c16_i32_34
  let c16_i32_35 : BitVec 32 := 16#32
  let v48 : BitVec 32 := Scalar.remsi v47 c16_i32_35
  let c256_i32_36 : BitVec 32 := 256#32
  let v49 : BitVec 32 := Scalar.muli v48 c256_i32_36
  let c0_i32_158 : BitVec 32 := 0#32
  ![v49.toNat, 0]
def k0_off40 (v0 : BitVec 32) : Fin 3 → Nat :=
  let c0_i32_159 : BitVec 32 := 0#32
  let c0_i32_160 : BitVec 32 := 0#32
  ![v0.toNat, 0, 0]
def k0_cond12 (i : grid0.Coords) : BitVec 1 :=
  let arg0 : BitVec 32 := BitVec.ofNat 32 (i 0).val
  let c0_i32_46 : BitVec 32 := 0#32
  let v60 : BitVec 1 := Scalar.cmpi .eq arg0 c0_i32_46
  let v61 : BitVec 32 := Scalar.extui v60
  let c0_i32_48 : BitVec 32 := 0#32
  let v62 : BitVec 1 := Scalar.cmpi .ne v61 c0_i32_48
  v62

def k0_off41 (v0 : BitVec 32) : Fin 1 → Nat :=
  ![v0.toNat]
def k0_off42 (v0 : BitVec 32) : Fin 3 → Nat :=
  let c0_i32_157 : BitVec 32 := 0#32
  let c0_i32_158 : BitVec 32 := 0#32
  ![v0.toNat, 0, 0]
def k0_off43 (v0 : BitVec 32) : Fin 2 → Nat :=
  let c6_i32 : BitVec 32 := 6#32
  let v56 : BitVec 32 := Scalar.subi v0 c6_i32
  let c16_i32_43 : BitVec 32 := 16#32
  let v57 : BitVec 32 := Scalar.addi v56 c16_i32_43
  let c16_i32_44 : BitVec 32 := 16#32
  let v58 : BitVec 32 := Scalar.remsi v57 c16_i32_44
  let c256_i32_45 : BitVec 32 := 256#32
  let v59 : BitVec 32 := Scalar.muli v58 c256_i32_45
  let c0_i32_159 : BitVec 32 := 0#32
  ![v59.toNat, 0]
def k0_dev22 (v0 : BitVec 32) : Nat :=
  let c6_i32 : BitVec 32 := 6#32
  let v56 : BitVec 32 := Scalar.subi v0 c6_i32
  let c16_i32_43 : BitVec 32 := 16#32
  let v57 : BitVec 32 := Scalar.addi v56 c16_i32_43
  let c16_i32_44 : BitVec 32 := 16#32
  let v58 : BitVec 32 := Scalar.remsi v57 c16_i32_44
  v58.toNat
def k0_cond13 (i : grid0.Coords) : BitVec 1 :=
  let arg0 : BitVec 32 := BitVec.ofNat 32 (i 0).val
  let c15_i32_49 : BitVec 32 := 15#32
  let v63 : BitVec 1 := Scalar.cmpi .eq arg0 c15_i32_49
  let v64 : BitVec 32 := Scalar.extui v63
  let c0_i32_51 : BitVec 32 := 0#32
  let v65 : BitVec 1 := Scalar.cmpi .ne v64 c0_i32_51
  v65

def k0_off44 (v0 : BitVec 32) : Fin 2 → Nat :=
  let c6_i32 : BitVec 32 := 6#32
  let v56 : BitVec 32 := Scalar.subi v0 c6_i32
  let c16_i32_43 : BitVec 32 := 16#32
  let v57 : BitVec 32 := Scalar.addi v56 c16_i32_43
  let c16_i32_44 : BitVec 32 := 16#32
  let v58 : BitVec 32 := Scalar.remsi v57 c16_i32_44
  let c256_i32_45 : BitVec 32 := 256#32
  let v59 : BitVec 32 := Scalar.muli v58 c256_i32_45
  let c0_i32_158 : BitVec 32 := 0#32
  ![v59.toNat, 0]
def k0_off45 (v0 : BitVec 32) : Fin 3 → Nat :=
  let c0_i32_159 : BitVec 32 := 0#32
  let c0_i32_160 : BitVec 32 := 0#32
  ![v0.toNat, 0, 0]
def k0_cond14 (i : grid0.Coords) : BitVec 1 :=
  let arg0 : BitVec 32 := BitVec.ofNat 32 (i 0).val
  let c0_i32_55 : BitVec 32 := 0#32
  let v70 : BitVec 1 := Scalar.cmpi .eq arg0 c0_i32_55
  let v71 : BitVec 32 := Scalar.extui v70
  let c0_i32_57 : BitVec 32 := 0#32
  let v72 : BitVec 1 := Scalar.cmpi .ne v71 c0_i32_57
  v72

def k0_off46 (v0 : BitVec 32) : Fin 1 → Nat :=
  ![v0.toNat]
def k0_off47 (v0 : BitVec 32) : Fin 3 → Nat :=
  let c0_i32_157 : BitVec 32 := 0#32
  let c0_i32_158 : BitVec 32 := 0#32
  ![v0.toNat, 0, 0]
def k0_off48 (v0 : BitVec 32) : Fin 2 → Nat :=
  let c7_i32 : BitVec 32 := 7#32
  let v66 : BitVec 32 := Scalar.subi v0 c7_i32
  let c16_i32_52 : BitVec 32 := 16#32
  let v67 : BitVec 32 := Scalar.addi v66 c16_i32_52
  let c16_i32_53 : BitVec 32 := 16#32
  let v68 : BitVec 32 := Scalar.remsi v67 c16_i32_53
  let c256_i32_54 : BitVec 32 := 256#32
  let v69 : BitVec 32 := Scalar.muli v68 c256_i32_54
  let c0_i32_159 : BitVec 32 := 0#32
  ![v69.toNat, 0]
def k0_dev23 (v0 : BitVec 32) : Nat :=
  let c7_i32 : BitVec 32 := 7#32
  let v66 : BitVec 32 := Scalar.subi v0 c7_i32
  let c16_i32_52 : BitVec 32 := 16#32
  let v67 : BitVec 32 := Scalar.addi v66 c16_i32_52
  let c16_i32_53 : BitVec 32 := 16#32
  let v68 : BitVec 32 := Scalar.remsi v67 c16_i32_53
  v68.toNat
def k0_cond15 (i : grid0.Coords) : BitVec 1 :=
  let arg0 : BitVec 32 := BitVec.ofNat 32 (i 0).val
  let c15_i32_58 : BitVec 32 := 15#32
  let v73 : BitVec 1 := Scalar.cmpi .eq arg0 c15_i32_58
  let v74 : BitVec 32 := Scalar.extui v73
  let c0_i32_60 : BitVec 32 := 0#32
  let v75 : BitVec 1 := Scalar.cmpi .ne v74 c0_i32_60
  v75

def k0_off49 (v0 : BitVec 32) : Fin 2 → Nat :=
  let c7_i32 : BitVec 32 := 7#32
  let v66 : BitVec 32 := Scalar.subi v0 c7_i32
  let c16_i32_52 : BitVec 32 := 16#32
  let v67 : BitVec 32 := Scalar.addi v66 c16_i32_52
  let c16_i32_53 : BitVec 32 := 16#32
  let v68 : BitVec 32 := Scalar.remsi v67 c16_i32_53
  let c256_i32_54 : BitVec 32 := 256#32
  let v69 : BitVec 32 := Scalar.muli v68 c256_i32_54
  let c0_i32_158 : BitVec 32 := 0#32
  ![v69.toNat, 0]
def k0_off50 (v0 : BitVec 32) : Fin 3 → Nat :=
  let c0_i32_159 : BitVec 32 := 0#32
  let c0_i32_160 : BitVec 32 := 0#32
  ![v0.toNat, 0, 0]
def k0_cond16 (i : grid0.Coords) : BitVec 1 :=
  let arg0 : BitVec 32 := BitVec.ofNat 32 (i 0).val
  let c0_i32_64 : BitVec 32 := 0#32
  let v80 : BitVec 1 := Scalar.cmpi .eq arg0 c0_i32_64
  let v81 : BitVec 32 := Scalar.extui v80
  let c0_i32_66 : BitVec 32 := 0#32
  let v82 : BitVec 1 := Scalar.cmpi .ne v81 c0_i32_66
  v82

def k0_off51 (v0 : BitVec 32) : Fin 1 → Nat :=
  ![v0.toNat]
def k0_off52 (v0 : BitVec 32) : Fin 3 → Nat :=
  let c0_i32_157 : BitVec 32 := 0#32
  let c0_i32_158 : BitVec 32 := 0#32
  ![v0.toNat, 0, 0]
def k0_off53 (v0 : BitVec 32) : Fin 2 → Nat :=
  let c8_i32 : BitVec 32 := 8#32
  let v76 : BitVec 32 := Scalar.subi v0 c8_i32
  let c16_i32_61 : BitVec 32 := 16#32
  let v77 : BitVec 32 := Scalar.addi v76 c16_i32_61
  let c16_i32_62 : BitVec 32 := 16#32
  let v78 : BitVec 32 := Scalar.remsi v77 c16_i32_62
  let c256_i32_63 : BitVec 32 := 256#32
  let v79 : BitVec 32 := Scalar.muli v78 c256_i32_63
  let c0_i32_159 : BitVec 32 := 0#32
  ![v79.toNat, 0]
def k0_dev24 (v0 : BitVec 32) : Nat :=
  let c8_i32 : BitVec 32 := 8#32
  let v76 : BitVec 32 := Scalar.subi v0 c8_i32
  let c16_i32_61 : BitVec 32 := 16#32
  let v77 : BitVec 32 := Scalar.addi v76 c16_i32_61
  let c16_i32_62 : BitVec 32 := 16#32
  let v78 : BitVec 32 := Scalar.remsi v77 c16_i32_62
  v78.toNat
def k0_cond17 (i : grid0.Coords) : BitVec 1 :=
  let arg0 : BitVec 32 := BitVec.ofNat 32 (i 0).val
  let c15_i32_67 : BitVec 32 := 15#32
  let v83 : BitVec 1 := Scalar.cmpi .eq arg0 c15_i32_67
  let v84 : BitVec 32 := Scalar.extui v83
  let c0_i32_69 : BitVec 32 := 0#32
  let v85 : BitVec 1 := Scalar.cmpi .ne v84 c0_i32_69
  v85

def k0_off54 (v0 : BitVec 32) : Fin 2 → Nat :=
  let c8_i32 : BitVec 32 := 8#32
  let v76 : BitVec 32 := Scalar.subi v0 c8_i32
  let c16_i32_61 : BitVec 32 := 16#32
  let v77 : BitVec 32 := Scalar.addi v76 c16_i32_61
  let c16_i32_62 : BitVec 32 := 16#32
  let v78 : BitVec 32 := Scalar.remsi v77 c16_i32_62
  let c256_i32_63 : BitVec 32 := 256#32
  let v79 : BitVec 32 := Scalar.muli v78 c256_i32_63
  let c0_i32_158 : BitVec 32 := 0#32
  ![v79.toNat, 0]
def k0_off55 (v0 : BitVec 32) : Fin 3 → Nat :=
  let c0_i32_159 : BitVec 32 := 0#32
  let c0_i32_160 : BitVec 32 := 0#32
  ![v0.toNat, 0, 0]
def k0_cond18 (i : grid0.Coords) : BitVec 1 :=
  let arg0 : BitVec 32 := BitVec.ofNat 32 (i 0).val
  let c0_i32_73 : BitVec 32 := 0#32
  let v90 : BitVec 1 := Scalar.cmpi .eq arg0 c0_i32_73
  let v91 : BitVec 32 := Scalar.extui v90
  let c0_i32_75 : BitVec 32 := 0#32
  let v92 : BitVec 1 := Scalar.cmpi .ne v91 c0_i32_75
  v92

def k0_off56 (v0 : BitVec 32) : Fin 1 → Nat :=
  ![v0.toNat]
def k0_off57 (v0 : BitVec 32) : Fin 3 → Nat :=
  let c0_i32_157 : BitVec 32 := 0#32
  let c0_i32_158 : BitVec 32 := 0#32
  ![v0.toNat, 0, 0]
def k0_off58 (v0 : BitVec 32) : Fin 2 → Nat :=
  let c9_i32 : BitVec 32 := 9#32
  let v86 : BitVec 32 := Scalar.subi v0 c9_i32
  let c16_i32_70 : BitVec 32 := 16#32
  let v87 : BitVec 32 := Scalar.addi v86 c16_i32_70
  let c16_i32_71 : BitVec 32 := 16#32
  let v88 : BitVec 32 := Scalar.remsi v87 c16_i32_71
  let c256_i32_72 : BitVec 32 := 256#32
  let v89 : BitVec 32 := Scalar.muli v88 c256_i32_72
  let c0_i32_159 : BitVec 32 := 0#32
  ![v89.toNat, 0]
def k0_dev25 (v0 : BitVec 32) : Nat :=
  let c9_i32 : BitVec 32 := 9#32
  let v86 : BitVec 32 := Scalar.subi v0 c9_i32
  let c16_i32_70 : BitVec 32 := 16#32
  let v87 : BitVec 32 := Scalar.addi v86 c16_i32_70
  let c16_i32_71 : BitVec 32 := 16#32
  let v88 : BitVec 32 := Scalar.remsi v87 c16_i32_71
  v88.toNat
def k0_cond19 (i : grid0.Coords) : BitVec 1 :=
  let arg0 : BitVec 32 := BitVec.ofNat 32 (i 0).val
  let c15_i32_76 : BitVec 32 := 15#32
  let v93 : BitVec 1 := Scalar.cmpi .eq arg0 c15_i32_76
  let v94 : BitVec 32 := Scalar.extui v93
  let c0_i32_78 : BitVec 32 := 0#32
  let v95 : BitVec 1 := Scalar.cmpi .ne v94 c0_i32_78
  v95

def k0_off59 (v0 : BitVec 32) : Fin 2 → Nat :=
  let c9_i32 : BitVec 32 := 9#32
  let v86 : BitVec 32 := Scalar.subi v0 c9_i32
  let c16_i32_70 : BitVec 32 := 16#32
  let v87 : BitVec 32 := Scalar.addi v86 c16_i32_70
  let c16_i32_71 : BitVec 32 := 16#32
  let v88 : BitVec 32 := Scalar.remsi v87 c16_i32_71
  let c256_i32_72 : BitVec 32 := 256#32
  let v89 : BitVec 32 := Scalar.muli v88 c256_i32_72
  let c0_i32_158 : BitVec 32 := 0#32
  ![v89.toNat, 0]
def k0_off60 (v0 : BitVec 32) : Fin 3 → Nat :=
  let c0_i32_159 : BitVec 32 := 0#32
  let c0_i32_160 : BitVec 32 := 0#32
  ![v0.toNat, 0, 0]
def k0_cond20 (i : grid0.Coords) : BitVec 1 :=
  let arg0 : BitVec 32 := BitVec.ofNat 32 (i 0).val
  let c0_i32_82 : BitVec 32 := 0#32
  let v100 : BitVec 1 := Scalar.cmpi .eq arg0 c0_i32_82
  let v101 : BitVec 32 := Scalar.extui v100
  let c0_i32_84 : BitVec 32 := 0#32
  let v102 : BitVec 1 := Scalar.cmpi .ne v101 c0_i32_84
  v102

def k0_off61 (v0 : BitVec 32) : Fin 1 → Nat :=
  ![v0.toNat]
def k0_off62 (v0 : BitVec 32) : Fin 3 → Nat :=
  let c0_i32_157 : BitVec 32 := 0#32
  let c0_i32_158 : BitVec 32 := 0#32
  ![v0.toNat, 0, 0]
def k0_off63 (v0 : BitVec 32) : Fin 2 → Nat :=
  let c10_i32 : BitVec 32 := 10#32
  let v96 : BitVec 32 := Scalar.subi v0 c10_i32
  let c16_i32_79 : BitVec 32 := 16#32
  let v97 : BitVec 32 := Scalar.addi v96 c16_i32_79
  let c16_i32_80 : BitVec 32 := 16#32
  let v98 : BitVec 32 := Scalar.remsi v97 c16_i32_80
  let c256_i32_81 : BitVec 32 := 256#32
  let v99 : BitVec 32 := Scalar.muli v98 c256_i32_81
  let c0_i32_159 : BitVec 32 := 0#32
  ![v99.toNat, 0]
def k0_dev26 (v0 : BitVec 32) : Nat :=
  let c10_i32 : BitVec 32 := 10#32
  let v96 : BitVec 32 := Scalar.subi v0 c10_i32
  let c16_i32_79 : BitVec 32 := 16#32
  let v97 : BitVec 32 := Scalar.addi v96 c16_i32_79
  let c16_i32_80 : BitVec 32 := 16#32
  let v98 : BitVec 32 := Scalar.remsi v97 c16_i32_80
  v98.toNat
def k0_cond21 (i : grid0.Coords) : BitVec 1 :=
  let arg0 : BitVec 32 := BitVec.ofNat 32 (i 0).val
  let c15_i32_85 : BitVec 32 := 15#32
  let v103 : BitVec 1 := Scalar.cmpi .eq arg0 c15_i32_85
  let v104 : BitVec 32 := Scalar.extui v103
  let c0_i32_87 : BitVec 32 := 0#32
  let v105 : BitVec 1 := Scalar.cmpi .ne v104 c0_i32_87
  v105

def k0_off64 (v0 : BitVec 32) : Fin 2 → Nat :=
  let c10_i32 : BitVec 32 := 10#32
  let v96 : BitVec 32 := Scalar.subi v0 c10_i32
  let c16_i32_79 : BitVec 32 := 16#32
  let v97 : BitVec 32 := Scalar.addi v96 c16_i32_79
  let c16_i32_80 : BitVec 32 := 16#32
  let v98 : BitVec 32 := Scalar.remsi v97 c16_i32_80
  let c256_i32_81 : BitVec 32 := 256#32
  let v99 : BitVec 32 := Scalar.muli v98 c256_i32_81
  let c0_i32_158 : BitVec 32 := 0#32
  ![v99.toNat, 0]
def k0_off65 (v0 : BitVec 32) : Fin 3 → Nat :=
  let c0_i32_159 : BitVec 32 := 0#32
  let c0_i32_160 : BitVec 32 := 0#32
  ![v0.toNat, 0, 0]
def k0_cond22 (i : grid0.Coords) : BitVec 1 :=
  let arg0 : BitVec 32 := BitVec.ofNat 32 (i 0).val
  let c0_i32_91 : BitVec 32 := 0#32
  let v110 : BitVec 1 := Scalar.cmpi .eq arg0 c0_i32_91
  let v111 : BitVec 32 := Scalar.extui v110
  let c0_i32_93 : BitVec 32 := 0#32
  let v112 : BitVec 1 := Scalar.cmpi .ne v111 c0_i32_93
  v112

def k0_off66 (v0 : BitVec 32) : Fin 1 → Nat :=
  ![v0.toNat]
def k0_off67 (v0 : BitVec 32) : Fin 3 → Nat :=
  let c0_i32_157 : BitVec 32 := 0#32
  let c0_i32_158 : BitVec 32 := 0#32
  ![v0.toNat, 0, 0]
def k0_off68 (v0 : BitVec 32) : Fin 2 → Nat :=
  let c11_i32 : BitVec 32 := 11#32
  let v106 : BitVec 32 := Scalar.subi v0 c11_i32
  let c16_i32_88 : BitVec 32 := 16#32
  let v107 : BitVec 32 := Scalar.addi v106 c16_i32_88
  let c16_i32_89 : BitVec 32 := 16#32
  let v108 : BitVec 32 := Scalar.remsi v107 c16_i32_89
  let c256_i32_90 : BitVec 32 := 256#32
  let v109 : BitVec 32 := Scalar.muli v108 c256_i32_90
  let c0_i32_159 : BitVec 32 := 0#32
  ![v109.toNat, 0]
def k0_dev27 (v0 : BitVec 32) : Nat :=
  let c11_i32 : BitVec 32 := 11#32
  let v106 : BitVec 32 := Scalar.subi v0 c11_i32
  let c16_i32_88 : BitVec 32 := 16#32
  let v107 : BitVec 32 := Scalar.addi v106 c16_i32_88
  let c16_i32_89 : BitVec 32 := 16#32
  let v108 : BitVec 32 := Scalar.remsi v107 c16_i32_89
  v108.toNat
def k0_cond23 (i : grid0.Coords) : BitVec 1 :=
  let arg0 : BitVec 32 := BitVec.ofNat 32 (i 0).val
  let c15_i32_94 : BitVec 32 := 15#32
  let v113 : BitVec 1 := Scalar.cmpi .eq arg0 c15_i32_94
  let v114 : BitVec 32 := Scalar.extui v113
  let c0_i32_96 : BitVec 32 := 0#32
  let v115 : BitVec 1 := Scalar.cmpi .ne v114 c0_i32_96
  v115

def k0_off69 (v0 : BitVec 32) : Fin 2 → Nat :=
  let c11_i32 : BitVec 32 := 11#32
  let v106 : BitVec 32 := Scalar.subi v0 c11_i32
  let c16_i32_88 : BitVec 32 := 16#32
  let v107 : BitVec 32 := Scalar.addi v106 c16_i32_88
  let c16_i32_89 : BitVec 32 := 16#32
  let v108 : BitVec 32 := Scalar.remsi v107 c16_i32_89
  let c256_i32_90 : BitVec 32 := 256#32
  let v109 : BitVec 32 := Scalar.muli v108 c256_i32_90
  let c0_i32_158 : BitVec 32 := 0#32
  ![v109.toNat, 0]
def k0_off70 (v0 : BitVec 32) : Fin 3 → Nat :=
  let c0_i32_159 : BitVec 32 := 0#32
  let c0_i32_160 : BitVec 32 := 0#32
  ![v0.toNat, 0, 0]
def k0_cond24 (i : grid0.Coords) : BitVec 1 :=
  let arg0 : BitVec 32 := BitVec.ofNat 32 (i 0).val
  let c0_i32_100 : BitVec 32 := 0#32
  let v120 : BitVec 1 := Scalar.cmpi .eq arg0 c0_i32_100
  let v121 : BitVec 32 := Scalar.extui v120
  let c0_i32_102 : BitVec 32 := 0#32
  let v122 : BitVec 1 := Scalar.cmpi .ne v121 c0_i32_102
  v122

def k0_off71 (v0 : BitVec 32) : Fin 1 → Nat :=
  ![v0.toNat]
def k0_off72 (v0 : BitVec 32) : Fin 3 → Nat :=
  let c0_i32_157 : BitVec 32 := 0#32
  let c0_i32_158 : BitVec 32 := 0#32
  ![v0.toNat, 0, 0]
def k0_off73 (v0 : BitVec 32) : Fin 2 → Nat :=
  let c12_i32 : BitVec 32 := 12#32
  let v116 : BitVec 32 := Scalar.subi v0 c12_i32
  let c16_i32_97 : BitVec 32 := 16#32
  let v117 : BitVec 32 := Scalar.addi v116 c16_i32_97
  let c16_i32_98 : BitVec 32 := 16#32
  let v118 : BitVec 32 := Scalar.remsi v117 c16_i32_98
  let c256_i32_99 : BitVec 32 := 256#32
  let v119 : BitVec 32 := Scalar.muli v118 c256_i32_99
  let c0_i32_159 : BitVec 32 := 0#32
  ![v119.toNat, 0]
def k0_dev28 (v0 : BitVec 32) : Nat :=
  let c12_i32 : BitVec 32 := 12#32
  let v116 : BitVec 32 := Scalar.subi v0 c12_i32
  let c16_i32_97 : BitVec 32 := 16#32
  let v117 : BitVec 32 := Scalar.addi v116 c16_i32_97
  let c16_i32_98 : BitVec 32 := 16#32
  let v118 : BitVec 32 := Scalar.remsi v117 c16_i32_98
  v118.toNat
def k0_cond25 (i : grid0.Coords) : BitVec 1 :=
  let arg0 : BitVec 32 := BitVec.ofNat 32 (i 0).val
  let c15_i32_103 : BitVec 32 := 15#32
  let v123 : BitVec 1 := Scalar.cmpi .eq arg0 c15_i32_103
  let v124 : BitVec 32 := Scalar.extui v123
  let c0_i32_105 : BitVec 32 := 0#32
  let v125 : BitVec 1 := Scalar.cmpi .ne v124 c0_i32_105
  v125

def k0_off74 (v0 : BitVec 32) : Fin 2 → Nat :=
  let c12_i32 : BitVec 32 := 12#32
  let v116 : BitVec 32 := Scalar.subi v0 c12_i32
  let c16_i32_97 : BitVec 32 := 16#32
  let v117 : BitVec 32 := Scalar.addi v116 c16_i32_97
  let c16_i32_98 : BitVec 32 := 16#32
  let v118 : BitVec 32 := Scalar.remsi v117 c16_i32_98
  let c256_i32_99 : BitVec 32 := 256#32
  let v119 : BitVec 32 := Scalar.muli v118 c256_i32_99
  let c0_i32_158 : BitVec 32 := 0#32
  ![v119.toNat, 0]
def k0_off75 (v0 : BitVec 32) : Fin 3 → Nat :=
  let c0_i32_159 : BitVec 32 := 0#32
  let c0_i32_160 : BitVec 32 := 0#32
  ![v0.toNat, 0, 0]
def k0_cond26 (i : grid0.Coords) : BitVec 1 :=
  let arg0 : BitVec 32 := BitVec.ofNat 32 (i 0).val
  let c0_i32_109 : BitVec 32 := 0#32
  let v130 : BitVec 1 := Scalar.cmpi .eq arg0 c0_i32_109
  let v131 : BitVec 32 := Scalar.extui v130
  let c0_i32_111 : BitVec 32 := 0#32
  let v132 : BitVec 1 := Scalar.cmpi .ne v131 c0_i32_111
  v132

def k0_off76 (v0 : BitVec 32) : Fin 1 → Nat :=
  ![v0.toNat]
def k0_off77 (v0 : BitVec 32) : Fin 3 → Nat :=
  let c0_i32_157 : BitVec 32 := 0#32
  let c0_i32_158 : BitVec 32 := 0#32
  ![v0.toNat, 0, 0]
def k0_off78 (v0 : BitVec 32) : Fin 2 → Nat :=
  let c13_i32 : BitVec 32 := 13#32
  let v126 : BitVec 32 := Scalar.subi v0 c13_i32
  let c16_i32_106 : BitVec 32 := 16#32
  let v127 : BitVec 32 := Scalar.addi v126 c16_i32_106
  let c16_i32_107 : BitVec 32 := 16#32
  let v128 : BitVec 32 := Scalar.remsi v127 c16_i32_107
  let c256_i32_108 : BitVec 32 := 256#32
  let v129 : BitVec 32 := Scalar.muli v128 c256_i32_108
  let c0_i32_159 : BitVec 32 := 0#32
  ![v129.toNat, 0]
def k0_dev29 (v0 : BitVec 32) : Nat :=
  let c13_i32 : BitVec 32 := 13#32
  let v126 : BitVec 32 := Scalar.subi v0 c13_i32
  let c16_i32_106 : BitVec 32 := 16#32
  let v127 : BitVec 32 := Scalar.addi v126 c16_i32_106
  let c16_i32_107 : BitVec 32 := 16#32
  let v128 : BitVec 32 := Scalar.remsi v127 c16_i32_107
  v128.toNat
def k0_cond27 (i : grid0.Coords) : BitVec 1 :=
  let arg0 : BitVec 32 := BitVec.ofNat 32 (i 0).val
  let c15_i32_112 : BitVec 32 := 15#32
  let v133 : BitVec 1 := Scalar.cmpi .eq arg0 c15_i32_112
  let v134 : BitVec 32 := Scalar.extui v133
  let c0_i32_114 : BitVec 32 := 0#32
  let v135 : BitVec 1 := Scalar.cmpi .ne v134 c0_i32_114
  v135

def k0_off79 (v0 : BitVec 32) : Fin 2 → Nat :=
  let c13_i32 : BitVec 32 := 13#32
  let v126 : BitVec 32 := Scalar.subi v0 c13_i32
  let c16_i32_106 : BitVec 32 := 16#32
  let v127 : BitVec 32 := Scalar.addi v126 c16_i32_106
  let c16_i32_107 : BitVec 32 := 16#32
  let v128 : BitVec 32 := Scalar.remsi v127 c16_i32_107
  let c256_i32_108 : BitVec 32 := 256#32
  let v129 : BitVec 32 := Scalar.muli v128 c256_i32_108
  let c0_i32_158 : BitVec 32 := 0#32
  ![v129.toNat, 0]
def k0_off80 (v0 : BitVec 32) : Fin 3 → Nat :=
  let c0_i32_159 : BitVec 32 := 0#32
  let c0_i32_160 : BitVec 32 := 0#32
  ![v0.toNat, 0, 0]
def k0_cond28 (i : grid0.Coords) : BitVec 1 :=
  let arg0 : BitVec 32 := BitVec.ofNat 32 (i 0).val
  let c0_i32_118 : BitVec 32 := 0#32
  let v140 : BitVec 1 := Scalar.cmpi .eq arg0 c0_i32_118
  let v141 : BitVec 32 := Scalar.extui v140
  let c0_i32_120 : BitVec 32 := 0#32
  let v142 : BitVec 1 := Scalar.cmpi .ne v141 c0_i32_120
  v142

def k0_off81 (v0 : BitVec 32) : Fin 1 → Nat :=
  ![v0.toNat]
def k0_off82 (v0 : BitVec 32) : Fin 3 → Nat :=
  let c0_i32_157 : BitVec 32 := 0#32
  let c0_i32_158 : BitVec 32 := 0#32
  ![v0.toNat, 0, 0]
def k0_off83 (v0 : BitVec 32) : Fin 2 → Nat :=
  let c14_i32 : BitVec 32 := 14#32
  let v136 : BitVec 32 := Scalar.subi v0 c14_i32
  let c16_i32_115 : BitVec 32 := 16#32
  let v137 : BitVec 32 := Scalar.addi v136 c16_i32_115
  let c16_i32_116 : BitVec 32 := 16#32
  let v138 : BitVec 32 := Scalar.remsi v137 c16_i32_116
  let c256_i32_117 : BitVec 32 := 256#32
  let v139 : BitVec 32 := Scalar.muli v138 c256_i32_117
  let c0_i32_159 : BitVec 32 := 0#32
  ![v139.toNat, 0]
def k0_dev30 (v0 : BitVec 32) : Nat :=
  let c14_i32 : BitVec 32 := 14#32
  let v136 : BitVec 32 := Scalar.subi v0 c14_i32
  let c16_i32_115 : BitVec 32 := 16#32
  let v137 : BitVec 32 := Scalar.addi v136 c16_i32_115
  let c16_i32_116 : BitVec 32 := 16#32
  let v138 : BitVec 32 := Scalar.remsi v137 c16_i32_116
  v138.toNat
def k0_cond29 (i : grid0.Coords) : BitVec 1 :=
  let arg0 : BitVec 32 := BitVec.ofNat 32 (i 0).val
  let c15_i32_121 : BitVec 32 := 15#32
  let v143 : BitVec 1 := Scalar.cmpi .eq arg0 c15_i32_121
  let v144 : BitVec 32 := Scalar.extui v143
  let c0_i32_123 : BitVec 32 := 0#32
  let v145 : BitVec 1 := Scalar.cmpi .ne v144 c0_i32_123
  v145

def k0_off84 (v0 : BitVec 32) : Fin 2 → Nat :=
  let c14_i32 : BitVec 32 := 14#32
  let v136 : BitVec 32 := Scalar.subi v0 c14_i32
  let c16_i32_115 : BitVec 32 := 16#32
  let v137 : BitVec 32 := Scalar.addi v136 c16_i32_115
  let c16_i32_116 : BitVec 32 := 16#32
  let v138 : BitVec 32 := Scalar.remsi v137 c16_i32_116
  let c256_i32_117 : BitVec 32 := 256#32
  let v139 : BitVec 32 := Scalar.muli v138 c256_i32_117
  let c0_i32_158 : BitVec 32 := 0#32
  ![v139.toNat, 0]
def k0_off85 (v0 : BitVec 32) : Fin 3 → Nat :=
  let c0_i32_159 : BitVec 32 := 0#32
  let c0_i32_160 : BitVec 32 := 0#32
  ![v0.toNat, 0, 0]
def k0_cond30 (i : grid0.Coords) : BitVec 1 :=
  let arg0 : BitVec 32 := BitVec.ofNat 32 (i 0).val
  let c0_i32_128 : BitVec 32 := 0#32
  let v150 : BitVec 1 := Scalar.cmpi .eq arg0 c0_i32_128
  let v151 : BitVec 32 := Scalar.extui v150
  let c0_i32_130 : BitVec 32 := 0#32
  let v152 : BitVec 1 := Scalar.cmpi .ne v151 c0_i32_130
  v152

def k0_off86 (v0 : BitVec 32) : Fin 1 → Nat :=
  ![v0.toNat]
def k0_off87 (v0 : BitVec 32) : Fin 3 → Nat :=
  let c0_i32_157 : BitVec 32 := 0#32
  let c0_i32_158 : BitVec 32 := 0#32
  ![v0.toNat, 0, 0]
def k0_off88 (v0 : BitVec 32) : Fin 2 → Nat :=
  let c15_i32_124 : BitVec 32 := 15#32
  let v146 : BitVec 32 := Scalar.subi v0 c15_i32_124
  let c16_i32_125 : BitVec 32 := 16#32
  let v147 : BitVec 32 := Scalar.addi v146 c16_i32_125
  let c16_i32_126 : BitVec 32 := 16#32
  let v148 : BitVec 32 := Scalar.remsi v147 c16_i32_126
  let c256_i32_127 : BitVec 32 := 256#32
  let v149 : BitVec 32 := Scalar.muli v148 c256_i32_127
  let c0_i32_159 : BitVec 32 := 0#32
  ![v149.toNat, 0]
def k0_dev31 (v0 : BitVec 32) : Nat :=
  let c15_i32_124 : BitVec 32 := 15#32
  let v146 : BitVec 32 := Scalar.subi v0 c15_i32_124
  let c16_i32_125 : BitVec 32 := 16#32
  let v147 : BitVec 32 := Scalar.addi v146 c16_i32_125
  let c16_i32_126 : BitVec 32 := 16#32
  let v148 : BitVec 32 := Scalar.remsi v147 c16_i32_126
  v148.toNat
def k0_cond31 (i : grid0.Coords) : BitVec 1 :=
  let arg0 : BitVec 32 := BitVec.ofNat 32 (i 0).val
  let c15_i32_131 : BitVec 32 := 15#32
  let v153 : BitVec 1 := Scalar.cmpi .eq arg0 c15_i32_131
  let v154 : BitVec 32 := Scalar.extui v153
  let c0_i32_133 : BitVec 32 := 0#32
  let v155 : BitVec 1 := Scalar.cmpi .ne v154 c0_i32_133
  v155

def k0_off89 (v0 : BitVec 32) : Fin 2 → Nat :=
  let c15_i32_124 : BitVec 32 := 15#32
  let v146 : BitVec 32 := Scalar.subi v0 c15_i32_124
  let c16_i32_125 : BitVec 32 := 16#32
  let v147 : BitVec 32 := Scalar.addi v146 c16_i32_125
  let c16_i32_126 : BitVec 32 := 16#32
  let v148 : BitVec 32 := Scalar.remsi v147 c16_i32_126
  let c256_i32_127 : BitVec 32 := 256#32
  let v149 : BitVec 32 := Scalar.muli v148 c256_i32_127
  let c0_i32_158 : BitVec 32 := 0#32
  ![v149.toNat, 0]
def k0_off90 (v0 : BitVec 32) : Fin 3 → Nat :=
  let c0_i32_159 : BitVec 32 := 0#32
  let c0_i32_160 : BitVec 32 := 0#32
  ![v0.toNat, 0, 0]

def k0_chk5_0 (i : grid0.Coords) (v0 : BitVec 32) : Prop :=
  (∀ (k0_h1 : k0_cond1 i = 1#1), ∀ a, (k0_off14 v0) a + S256x256.size a ≤ S4096x256.size a) ∧
  (∀ (k0_h1 : k0_cond1 i = 1#1), ∀ a, (k0_off15 v0) a + S1x256x256.size a ≤ S16x256x256.size a) ∧
  (∀ (k0_h1 : k0_cond1 i = 1#1), ∀ (hinb : ∀ a, (k0_off15 v0) a + S1x256x256.size a ≤ S16x256x256.size a), (Rect.unit (s := S16x256x256) (k0_off15 v0) S1x256x256.size hinb).PackedRows (EltTy.packing .bf16)) ∧
  (∀ (k0_h2 : k0_cond2 i = 1#1), ∀ a, (k0_off16 v0) a + S1.size a ≤ S16.size a) ∧
  (∀ (k0_h2 : k0_cond2 i = 1#1), ∀ a, (k0_off17 v0) a + S1x256x256.size a ≤ S16x256x256.size a) ∧
  (∀ (k0_h2 : k0_cond2 i = 1#1), ∀ a, (k0_off18 v0) a + S256x256.size a ≤ S4096x256.size a) ∧
  (∀ (k0_h2 : k0_cond2 i = 1#1), ∀ (hinb : ∀ a, (k0_off18 v0) a + S256x256.size a ≤ S4096x256.size a), (Rect.unit (s := S4096x256) (k0_off18 v0) S256x256.size hinb).WholeWords (EltTy.packing .bf16)) ∧
  (∀ (k0_h2 : k0_cond2 i = 1#1), ∀ (hinb : ∀ a, (k0_off17 v0) a + S1x256x256.size a ≤ S16x256x256.size a), (Rect.unit (s := S16x256x256) (k0_off17 v0) S1x256x256.size hinb).WholeWords (EltTy.packing .bf16)) ∧
  (∀ (k0_h2 : k0_cond2 i = 1#1), (k0_dev17 v0) < nD) ∧
  (∀ (k0_h3 : k0_cond3 i = 1#1), ∀ a, (k0_off19 v0) a + S256x256.size a ≤ S4096x256.size a) ∧
  (∀ (k0_h3 : k0_cond3 i = 1#1), ∀ a, (k0_off20 v0) a + S1x256x256.size a ≤ S16x256x256.size a) ∧
  (∀ (k0_h3 : k0_cond3 i = 1#1), ∀ (hinb : ∀ a, (k0_off20 v0) a + S1x256x256.size a ≤ S16x256x256.size a), (Rect.unit (s := S16x256x256) (k0_off20 v0) S1x256x256.size hinb).WholeWords (EltTy.packing .bf16)) ∧
  (∀ (k0_h3 : k0_cond3 i = 1#1), ∀ (hinb : ∀ a, (k0_off19 v0) a + S256x256.size a ≤ S4096x256.size a), (Rect.unit (s := S4096x256) (k0_off19 v0) S256x256.size hinb).WholeWords (EltTy.packing .bf16)) ∧
  (∀ (k0_h4 : k0_cond4 i = 1#1), ∀ a, (k0_off21 v0) a + S1.size a ≤ S16.size a) ∧
  (∀ (k0_h4 : k0_cond4 i = 1#1), ∀ a, (k0_off22 v0) a + S1x256x256.size a ≤ S16x256x256.size a) ∧
  (∀ (k0_h4 : k0_cond4 i = 1#1), ∀ a, (k0_off23 v0) a + S256x256.size a ≤ S4096x256.size a) ∧
  (∀ (k0_h4 : k0_cond4 i = 1#1), ∀ (hinb : ∀ a, (k0_off23 v0) a + S256x256.size a ≤ S4096x256.size a), (Rect.unit (s := S4096x256) (k0_off23 v0) S256x256.size hinb).WholeWords (EltTy.packing .bf16)) ∧
  (∀ (k0_h4 : k0_cond4 i = 1#1), ∀ (hinb : ∀ a, (k0_off22 v0) a + S1x256x256.size a ≤ S16x256x256.size a), (Rect.unit (s := S16x256x256) (k0_off22 v0) S1x256x256.size hinb).WholeWords (EltTy.packing .bf16)) ∧
  (∀ (k0_h4 : k0_cond4 i = 1#1), (k0_dev18 v0) < nD) ∧
  (∀ (k0_h5 : k0_cond5 i = 1#1), ∀ a, (k0_off24 v0) a + S256x256.size a ≤ S4096x256.size a) ∧
  (∀ (k0_h5 : k0_cond5 i = 1#1), ∀ a, (k0_off25 v0) a + S1x256x256.size a ≤ S16x256x256.size a) ∧
  (∀ (k0_h5 : k0_cond5 i = 1#1), ∀ (hinb : ∀ a, (k0_off25 v0) a + S1x256x256.size a ≤ S16x256x256.size a), (Rect.unit (s := S16x256x256) (k0_off25 v0) S1x256x256.size hinb).WholeWords (EltTy.packing .bf16)) ∧
  (∀ (k0_h5 : k0_cond5 i = 1#1), ∀ (hinb : ∀ a, (k0_off24 v0) a + S256x256.size a ≤ S4096x256.size a), (Rect.unit (s := S4096x256) (k0_off24 v0) S256x256.size hinb).WholeWords (EltTy.packing .bf16)) ∧
  (∀ (k0_h6 : k0_cond6 i = 1#1), ∀ a, (k0_off26 v0) a + S1.size a ≤ S16.size a) ∧
  (∀ (k0_h6 : k0_cond6 i = 1#1), ∀ a, (k0_off27 v0) a + S1x256x256.size a ≤ S16x256x256.size a) ∧
  (∀ (k0_h6 : k0_cond6 i = 1#1), ∀ a, (k0_off28 v0) a + S256x256.size a ≤ S4096x256.size a) ∧
  (∀ (k0_h6 : k0_cond6 i = 1#1), ∀ (hinb : ∀ a, (k0_off28 v0) a + S256x256.size a ≤ S4096x256.size a), (Rect.unit (s := S4096x256) (k0_off28 v0) S256x256.size hinb).WholeWords (EltTy.packing .bf16)) ∧
  (∀ (k0_h6 : k0_cond6 i = 1#1), ∀ (hinb : ∀ a, (k0_off27 v0) a + S1x256x256.size a ≤ S16x256x256.size a), (Rect.unit (s := S16x256x256) (k0_off27 v0) S1x256x256.size hinb).WholeWords (EltTy.packing .bf16)) ∧
  (∀ (k0_h6 : k0_cond6 i = 1#1), (k0_dev19 v0) < nD) ∧
  (∀ (k0_h7 : k0_cond7 i = 1#1), ∀ a, (k0_off29 v0) a + S256x256.size a ≤ S4096x256.size a) ∧
  (∀ (k0_h7 : k0_cond7 i = 1#1), ∀ a, (k0_off30 v0) a + S1x256x256.size a ≤ S16x256x256.size a) ∧
  (∀ (k0_h7 : k0_cond7 i = 1#1), ∀ (hinb : ∀ a, (k0_off30 v0) a + S1x256x256.size a ≤ S16x256x256.size a), (Rect.unit (s := S16x256x256) (k0_off30 v0) S1x256x256.size hinb).WholeWords (EltTy.packing .bf16))
def k0_chk5_1 (i : grid0.Coords) (v0 : BitVec 32) : Prop :=
  (∀ (k0_h7 : k0_cond7 i = 1#1), ∀ (hinb : ∀ a, (k0_off29 v0) a + S256x256.size a ≤ S4096x256.size a), (Rect.unit (s := S4096x256) (k0_off29 v0) S256x256.size hinb).WholeWords (EltTy.packing .bf16)) ∧
  (∀ (k0_h8 : k0_cond8 i = 1#1), ∀ a, (k0_off31 v0) a + S1.size a ≤ S16.size a) ∧
  (∀ (k0_h8 : k0_cond8 i = 1#1), ∀ a, (k0_off32 v0) a + S1x256x256.size a ≤ S16x256x256.size a) ∧
  (∀ (k0_h8 : k0_cond8 i = 1#1), ∀ a, (k0_off33 v0) a + S256x256.size a ≤ S4096x256.size a) ∧
  (∀ (k0_h8 : k0_cond8 i = 1#1), ∀ (hinb : ∀ a, (k0_off33 v0) a + S256x256.size a ≤ S4096x256.size a), (Rect.unit (s := S4096x256) (k0_off33 v0) S256x256.size hinb).WholeWords (EltTy.packing .bf16)) ∧
  (∀ (k0_h8 : k0_cond8 i = 1#1), ∀ (hinb : ∀ a, (k0_off32 v0) a + S1x256x256.size a ≤ S16x256x256.size a), (Rect.unit (s := S16x256x256) (k0_off32 v0) S1x256x256.size hinb).WholeWords (EltTy.packing .bf16)) ∧
  (∀ (k0_h8 : k0_cond8 i = 1#1), (k0_dev20 v0) < nD) ∧
  (∀ (k0_h9 : k0_cond9 i = 1#1), ∀ a, (k0_off34 v0) a + S256x256.size a ≤ S4096x256.size a) ∧
  (∀ (k0_h9 : k0_cond9 i = 1#1), ∀ a, (k0_off35 v0) a + S1x256x256.size a ≤ S16x256x256.size a) ∧
  (∀ (k0_h9 : k0_cond9 i = 1#1), ∀ (hinb : ∀ a, (k0_off35 v0) a + S1x256x256.size a ≤ S16x256x256.size a), (Rect.unit (s := S16x256x256) (k0_off35 v0) S1x256x256.size hinb).WholeWords (EltTy.packing .bf16)) ∧
  (∀ (k0_h9 : k0_cond9 i = 1#1), ∀ (hinb : ∀ a, (k0_off34 v0) a + S256x256.size a ≤ S4096x256.size a), (Rect.unit (s := S4096x256) (k0_off34 v0) S256x256.size hinb).WholeWords (EltTy.packing .bf16)) ∧
  (∀ (k0_h10 : k0_cond10 i = 1#1), ∀ a, (k0_off36 v0) a + S1.size a ≤ S16.size a) ∧
  (∀ (k0_h10 : k0_cond10 i = 1#1), ∀ a, (k0_off37 v0) a + S1x256x256.size a ≤ S16x256x256.size a) ∧
  (∀ (k0_h10 : k0_cond10 i = 1#1), ∀ a, (k0_off38 v0) a + S256x256.size a ≤ S4096x256.size a) ∧
  (∀ (k0_h10 : k0_cond10 i = 1#1), ∀ (hinb : ∀ a, (k0_off38 v0) a + S256x256.size a ≤ S4096x256.size a), (Rect.unit (s := S4096x256) (k0_off38 v0) S256x256.size hinb).WholeWords (EltTy.packing .bf16)) ∧
  (∀ (k0_h10 : k0_cond10 i = 1#1), ∀ (hinb : ∀ a, (k0_off37 v0) a + S1x256x256.size a ≤ S16x256x256.size a), (Rect.unit (s := S16x256x256) (k0_off37 v0) S1x256x256.size hinb).WholeWords (EltTy.packing .bf16)) ∧
  (∀ (k0_h10 : k0_cond10 i = 1#1), (k0_dev21 v0) < nD) ∧
  (∀ (k0_h11 : k0_cond11 i = 1#1), ∀ a, (k0_off39 v0) a + S256x256.size a ≤ S4096x256.size a) ∧
  (∀ (k0_h11 : k0_cond11 i = 1#1), ∀ a, (k0_off40 v0) a + S1x256x256.size a ≤ S16x256x256.size a) ∧
  (∀ (k0_h11 : k0_cond11 i = 1#1), ∀ (hinb : ∀ a, (k0_off40 v0) a + S1x256x256.size a ≤ S16x256x256.size a), (Rect.unit (s := S16x256x256) (k0_off40 v0) S1x256x256.size hinb).WholeWords (EltTy.packing .bf16)) ∧
  (∀ (k0_h11 : k0_cond11 i = 1#1), ∀ (hinb : ∀ a, (k0_off39 v0) a + S256x256.size a ≤ S4096x256.size a), (Rect.unit (s := S4096x256) (k0_off39 v0) S256x256.size hinb).WholeWords (EltTy.packing .bf16)) ∧
  (∀ (k0_h12 : k0_cond12 i = 1#1), ∀ a, (k0_off41 v0) a + S1.size a ≤ S16.size a) ∧
  (∀ (k0_h12 : k0_cond12 i = 1#1), ∀ a, (k0_off42 v0) a + S1x256x256.size a ≤ S16x256x256.size a) ∧
  (∀ (k0_h12 : k0_cond12 i = 1#1), ∀ a, (k0_off43 v0) a + S256x256.size a ≤ S4096x256.size a) ∧
  (∀ (k0_h12 : k0_cond12 i = 1#1), ∀ (hinb : ∀ a, (k0_off43 v0) a + S256x256.size a ≤ S4096x256.size a), (Rect.unit (s := S4096x256) (k0_off43 v0) S256x256.size hinb).WholeWords (EltTy.packing .bf16)) ∧
  (∀ (k0_h12 : k0_cond12 i = 1#1), ∀ (hinb : ∀ a, (k0_off42 v0) a + S1x256x256.size a ≤ S16x256x256.size a), (Rect.unit (s := S16x256x256) (k0_off42 v0) S1x256x256.size hinb).WholeWords (EltTy.packing .bf16)) ∧
  (∀ (k0_h12 : k0_cond12 i = 1#1), (k0_dev22 v0) < nD) ∧
  (∀ (k0_h13 : k0_cond13 i = 1#1), ∀ a, (k0_off44 v0) a + S256x256.size a ≤ S4096x256.size a) ∧
  (∀ (k0_h13 : k0_cond13 i = 1#1), ∀ a, (k0_off45 v0) a + S1x256x256.size a ≤ S16x256x256.size a) ∧
  (∀ (k0_h13 : k0_cond13 i = 1#1), ∀ (hinb : ∀ a, (k0_off45 v0) a + S1x256x256.size a ≤ S16x256x256.size a), (Rect.unit (s := S16x256x256) (k0_off45 v0) S1x256x256.size hinb).WholeWords (EltTy.packing .bf16)) ∧
  (∀ (k0_h13 : k0_cond13 i = 1#1), ∀ (hinb : ∀ a, (k0_off44 v0) a + S256x256.size a ≤ S4096x256.size a), (Rect.unit (s := S4096x256) (k0_off44 v0) S256x256.size hinb).WholeWords (EltTy.packing .bf16)) ∧
  (∀ (k0_h14 : k0_cond14 i = 1#1), ∀ a, (k0_off46 v0) a + S1.size a ≤ S16.size a)
def k0_chk5_2 (i : grid0.Coords) (v0 : BitVec 32) : Prop :=
  (∀ (k0_h14 : k0_cond14 i = 1#1), ∀ a, (k0_off47 v0) a + S1x256x256.size a ≤ S16x256x256.size a) ∧
  (∀ (k0_h14 : k0_cond14 i = 1#1), ∀ a, (k0_off48 v0) a + S256x256.size a ≤ S4096x256.size a) ∧
  (∀ (k0_h14 : k0_cond14 i = 1#1), ∀ (hinb : ∀ a, (k0_off48 v0) a + S256x256.size a ≤ S4096x256.size a), (Rect.unit (s := S4096x256) (k0_off48 v0) S256x256.size hinb).WholeWords (EltTy.packing .bf16)) ∧
  (∀ (k0_h14 : k0_cond14 i = 1#1), ∀ (hinb : ∀ a, (k0_off47 v0) a + S1x256x256.size a ≤ S16x256x256.size a), (Rect.unit (s := S16x256x256) (k0_off47 v0) S1x256x256.size hinb).WholeWords (EltTy.packing .bf16)) ∧
  (∀ (k0_h14 : k0_cond14 i = 1#1), (k0_dev23 v0) < nD) ∧
  (∀ (k0_h15 : k0_cond15 i = 1#1), ∀ a, (k0_off49 v0) a + S256x256.size a ≤ S4096x256.size a) ∧
  (∀ (k0_h15 : k0_cond15 i = 1#1), ∀ a, (k0_off50 v0) a + S1x256x256.size a ≤ S16x256x256.size a) ∧
  (∀ (k0_h15 : k0_cond15 i = 1#1), ∀ (hinb : ∀ a, (k0_off50 v0) a + S1x256x256.size a ≤ S16x256x256.size a), (Rect.unit (s := S16x256x256) (k0_off50 v0) S1x256x256.size hinb).WholeWords (EltTy.packing .bf16)) ∧
  (∀ (k0_h15 : k0_cond15 i = 1#1), ∀ (hinb : ∀ a, (k0_off49 v0) a + S256x256.size a ≤ S4096x256.size a), (Rect.unit (s := S4096x256) (k0_off49 v0) S256x256.size hinb).WholeWords (EltTy.packing .bf16)) ∧
  (∀ (k0_h16 : k0_cond16 i = 1#1), ∀ a, (k0_off51 v0) a + S1.size a ≤ S16.size a) ∧
  (∀ (k0_h16 : k0_cond16 i = 1#1), ∀ a, (k0_off52 v0) a + S1x256x256.size a ≤ S16x256x256.size a) ∧
  (∀ (k0_h16 : k0_cond16 i = 1#1), ∀ a, (k0_off53 v0) a + S256x256.size a ≤ S4096x256.size a) ∧
  (∀ (k0_h16 : k0_cond16 i = 1#1), ∀ (hinb : ∀ a, (k0_off53 v0) a + S256x256.size a ≤ S4096x256.size a), (Rect.unit (s := S4096x256) (k0_off53 v0) S256x256.size hinb).WholeWords (EltTy.packing .bf16)) ∧
  (∀ (k0_h16 : k0_cond16 i = 1#1), ∀ (hinb : ∀ a, (k0_off52 v0) a + S1x256x256.size a ≤ S16x256x256.size a), (Rect.unit (s := S16x256x256) (k0_off52 v0) S1x256x256.size hinb).WholeWords (EltTy.packing .bf16)) ∧
  (∀ (k0_h16 : k0_cond16 i = 1#1), (k0_dev24 v0) < nD) ∧
  (∀ (k0_h17 : k0_cond17 i = 1#1), ∀ a, (k0_off54 v0) a + S256x256.size a ≤ S4096x256.size a) ∧
  (∀ (k0_h17 : k0_cond17 i = 1#1), ∀ a, (k0_off55 v0) a + S1x256x256.size a ≤ S16x256x256.size a) ∧
  (∀ (k0_h17 : k0_cond17 i = 1#1), ∀ (hinb : ∀ a, (k0_off55 v0) a + S1x256x256.size a ≤ S16x256x256.size a), (Rect.unit (s := S16x256x256) (k0_off55 v0) S1x256x256.size hinb).WholeWords (EltTy.packing .bf16)) ∧
  (∀ (k0_h17 : k0_cond17 i = 1#1), ∀ (hinb : ∀ a, (k0_off54 v0) a + S256x256.size a ≤ S4096x256.size a), (Rect.unit (s := S4096x256) (k0_off54 v0) S256x256.size hinb).WholeWords (EltTy.packing .bf16)) ∧
  (∀ (k0_h18 : k0_cond18 i = 1#1), ∀ a, (k0_off56 v0) a + S1.size a ≤ S16.size a) ∧
  (∀ (k0_h18 : k0_cond18 i = 1#1), ∀ a, (k0_off57 v0) a + S1x256x256.size a ≤ S16x256x256.size a) ∧
  (∀ (k0_h18 : k0_cond18 i = 1#1), ∀ a, (k0_off58 v0) a + S256x256.size a ≤ S4096x256.size a) ∧
  (∀ (k0_h18 : k0_cond18 i = 1#1), ∀ (hinb : ∀ a, (k0_off58 v0) a + S256x256.size a ≤ S4096x256.size a), (Rect.unit (s := S4096x256) (k0_off58 v0) S256x256.size hinb).WholeWords (EltTy.packing .bf16)) ∧
  (∀ (k0_h18 : k0_cond18 i = 1#1), ∀ (hinb : ∀ a, (k0_off57 v0) a + S1x256x256.size a ≤ S16x256x256.size a), (Rect.unit (s := S16x256x256) (k0_off57 v0) S1x256x256.size hinb).WholeWords (EltTy.packing .bf16)) ∧
  (∀ (k0_h18 : k0_cond18 i = 1#1), (k0_dev25 v0) < nD) ∧
  (∀ (k0_h19 : k0_cond19 i = 1#1), ∀ a, (k0_off59 v0) a + S256x256.size a ≤ S4096x256.size a) ∧
  (∀ (k0_h19 : k0_cond19 i = 1#1), ∀ a, (k0_off60 v0) a + S1x256x256.size a ≤ S16x256x256.size a) ∧
  (∀ (k0_h19 : k0_cond19 i = 1#1), ∀ (hinb : ∀ a, (k0_off60 v0) a + S1x256x256.size a ≤ S16x256x256.size a), (Rect.unit (s := S16x256x256) (k0_off60 v0) S1x256x256.size hinb).WholeWords (EltTy.packing .bf16)) ∧
  (∀ (k0_h19 : k0_cond19 i = 1#1), ∀ (hinb : ∀ a, (k0_off59 v0) a + S256x256.size a ≤ S4096x256.size a), (Rect.unit (s := S4096x256) (k0_off59 v0) S256x256.size hinb).WholeWords (EltTy.packing .bf16)) ∧
  (∀ (k0_h20 : k0_cond20 i = 1#1), ∀ a, (k0_off61 v0) a + S1.size a ≤ S16.size a) ∧
  (∀ (k0_h20 : k0_cond20 i = 1#1), ∀ a, (k0_off62 v0) a + S1x256x256.size a ≤ S16x256x256.size a) ∧
  (∀ (k0_h20 : k0_cond20 i = 1#1), ∀ a, (k0_off63 v0) a + S256x256.size a ≤ S4096x256.size a)
def k0_chk5_3 (i : grid0.Coords) (v0 : BitVec 32) : Prop :=
  (∀ (k0_h20 : k0_cond20 i = 1#1), ∀ (hinb : ∀ a, (k0_off63 v0) a + S256x256.size a ≤ S4096x256.size a), (Rect.unit (s := S4096x256) (k0_off63 v0) S256x256.size hinb).WholeWords (EltTy.packing .bf16)) ∧
  (∀ (k0_h20 : k0_cond20 i = 1#1), ∀ (hinb : ∀ a, (k0_off62 v0) a + S1x256x256.size a ≤ S16x256x256.size a), (Rect.unit (s := S16x256x256) (k0_off62 v0) S1x256x256.size hinb).WholeWords (EltTy.packing .bf16)) ∧
  (∀ (k0_h20 : k0_cond20 i = 1#1), (k0_dev26 v0) < nD) ∧
  (∀ (k0_h21 : k0_cond21 i = 1#1), ∀ a, (k0_off64 v0) a + S256x256.size a ≤ S4096x256.size a) ∧
  (∀ (k0_h21 : k0_cond21 i = 1#1), ∀ a, (k0_off65 v0) a + S1x256x256.size a ≤ S16x256x256.size a) ∧
  (∀ (k0_h21 : k0_cond21 i = 1#1), ∀ (hinb : ∀ a, (k0_off65 v0) a + S1x256x256.size a ≤ S16x256x256.size a), (Rect.unit (s := S16x256x256) (k0_off65 v0) S1x256x256.size hinb).WholeWords (EltTy.packing .bf16)) ∧
  (∀ (k0_h21 : k0_cond21 i = 1#1), ∀ (hinb : ∀ a, (k0_off64 v0) a + S256x256.size a ≤ S4096x256.size a), (Rect.unit (s := S4096x256) (k0_off64 v0) S256x256.size hinb).WholeWords (EltTy.packing .bf16)) ∧
  (∀ (k0_h22 : k0_cond22 i = 1#1), ∀ a, (k0_off66 v0) a + S1.size a ≤ S16.size a) ∧
  (∀ (k0_h22 : k0_cond22 i = 1#1), ∀ a, (k0_off67 v0) a + S1x256x256.size a ≤ S16x256x256.size a) ∧
  (∀ (k0_h22 : k0_cond22 i = 1#1), ∀ a, (k0_off68 v0) a + S256x256.size a ≤ S4096x256.size a) ∧
  (∀ (k0_h22 : k0_cond22 i = 1#1), ∀ (hinb : ∀ a, (k0_off68 v0) a + S256x256.size a ≤ S4096x256.size a), (Rect.unit (s := S4096x256) (k0_off68 v0) S256x256.size hinb).WholeWords (EltTy.packing .bf16)) ∧
  (∀ (k0_h22 : k0_cond22 i = 1#1), ∀ (hinb : ∀ a, (k0_off67 v0) a + S1x256x256.size a ≤ S16x256x256.size a), (Rect.unit (s := S16x256x256) (k0_off67 v0) S1x256x256.size hinb).WholeWords (EltTy.packing .bf16)) ∧
  (∀ (k0_h22 : k0_cond22 i = 1#1), (k0_dev27 v0) < nD) ∧
  (∀ (k0_h23 : k0_cond23 i = 1#1), ∀ a, (k0_off69 v0) a + S256x256.size a ≤ S4096x256.size a) ∧
  (∀ (k0_h23 : k0_cond23 i = 1#1), ∀ a, (k0_off70 v0) a + S1x256x256.size a ≤ S16x256x256.size a) ∧
  (∀ (k0_h23 : k0_cond23 i = 1#1), ∀ (hinb : ∀ a, (k0_off70 v0) a + S1x256x256.size a ≤ S16x256x256.size a), (Rect.unit (s := S16x256x256) (k0_off70 v0) S1x256x256.size hinb).WholeWords (EltTy.packing .bf16)) ∧
  (∀ (k0_h23 : k0_cond23 i = 1#1), ∀ (hinb : ∀ a, (k0_off69 v0) a + S256x256.size a ≤ S4096x256.size a), (Rect.unit (s := S4096x256) (k0_off69 v0) S256x256.size hinb).WholeWords (EltTy.packing .bf16)) ∧
  (∀ (k0_h24 : k0_cond24 i = 1#1), ∀ a, (k0_off71 v0) a + S1.size a ≤ S16.size a) ∧
  (∀ (k0_h24 : k0_cond24 i = 1#1), ∀ a, (k0_off72 v0) a + S1x256x256.size a ≤ S16x256x256.size a) ∧
  (∀ (k0_h24 : k0_cond24 i = 1#1), ∀ a, (k0_off73 v0) a + S256x256.size a ≤ S4096x256.size a) ∧
  (∀ (k0_h24 : k0_cond24 i = 1#1), ∀ (hinb : ∀ a, (k0_off73 v0) a + S256x256.size a ≤ S4096x256.size a), (Rect.unit (s := S4096x256) (k0_off73 v0) S256x256.size hinb).WholeWords (EltTy.packing .bf16)) ∧
  (∀ (k0_h24 : k0_cond24 i = 1#1), ∀ (hinb : ∀ a, (k0_off72 v0) a + S1x256x256.size a ≤ S16x256x256.size a), (Rect.unit (s := S16x256x256) (k0_off72 v0) S1x256x256.size hinb).WholeWords (EltTy.packing .bf16)) ∧
  (∀ (k0_h24 : k0_cond24 i = 1#1), (k0_dev28 v0) < nD) ∧
  (∀ (k0_h25 : k0_cond25 i = 1#1), ∀ a, (k0_off74 v0) a + S256x256.size a ≤ S4096x256.size a) ∧
  (∀ (k0_h25 : k0_cond25 i = 1#1), ∀ a, (k0_off75 v0) a + S1x256x256.size a ≤ S16x256x256.size a) ∧
  (∀ (k0_h25 : k0_cond25 i = 1#1), ∀ (hinb : ∀ a, (k0_off75 v0) a + S1x256x256.size a ≤ S16x256x256.size a), (Rect.unit (s := S16x256x256) (k0_off75 v0) S1x256x256.size hinb).WholeWords (EltTy.packing .bf16)) ∧
  (∀ (k0_h25 : k0_cond25 i = 1#1), ∀ (hinb : ∀ a, (k0_off74 v0) a + S256x256.size a ≤ S4096x256.size a), (Rect.unit (s := S4096x256) (k0_off74 v0) S256x256.size hinb).WholeWords (EltTy.packing .bf16)) ∧
  (∀ (k0_h26 : k0_cond26 i = 1#1), ∀ a, (k0_off76 v0) a + S1.size a ≤ S16.size a) ∧
  (∀ (k0_h26 : k0_cond26 i = 1#1), ∀ a, (k0_off77 v0) a + S1x256x256.size a ≤ S16x256x256.size a) ∧
  (∀ (k0_h26 : k0_cond26 i = 1#1), ∀ a, (k0_off78 v0) a + S256x256.size a ≤ S4096x256.size a) ∧
  (∀ (k0_h26 : k0_cond26 i = 1#1), ∀ (hinb : ∀ a, (k0_off78 v0) a + S256x256.size a ≤ S4096x256.size a), (Rect.unit (s := S4096x256) (k0_off78 v0) S256x256.size hinb).WholeWords (EltTy.packing .bf16)) ∧
  (∀ (k0_h26 : k0_cond26 i = 1#1), ∀ (hinb : ∀ a, (k0_off77 v0) a + S1x256x256.size a ≤ S16x256x256.size a), (Rect.unit (s := S16x256x256) (k0_off77 v0) S1x256x256.size hinb).WholeWords (EltTy.packing .bf16))
def k0_chk5_4 (i : grid0.Coords) (v0 : BitVec 32) : Prop :=
  (∀ (k0_h26 : k0_cond26 i = 1#1), (k0_dev29 v0) < nD) ∧
  (∀ (k0_h27 : k0_cond27 i = 1#1), ∀ a, (k0_off79 v0) a + S256x256.size a ≤ S4096x256.size a) ∧
  (∀ (k0_h27 : k0_cond27 i = 1#1), ∀ a, (k0_off80 v0) a + S1x256x256.size a ≤ S16x256x256.size a) ∧
  (∀ (k0_h27 : k0_cond27 i = 1#1), ∀ (hinb : ∀ a, (k0_off80 v0) a + S1x256x256.size a ≤ S16x256x256.size a), (Rect.unit (s := S16x256x256) (k0_off80 v0) S1x256x256.size hinb).WholeWords (EltTy.packing .bf16)) ∧
  (∀ (k0_h27 : k0_cond27 i = 1#1), ∀ (hinb : ∀ a, (k0_off79 v0) a + S256x256.size a ≤ S4096x256.size a), (Rect.unit (s := S4096x256) (k0_off79 v0) S256x256.size hinb).WholeWords (EltTy.packing .bf16)) ∧
  (∀ (k0_h28 : k0_cond28 i = 1#1), ∀ a, (k0_off81 v0) a + S1.size a ≤ S16.size a) ∧
  (∀ (k0_h28 : k0_cond28 i = 1#1), ∀ a, (k0_off82 v0) a + S1x256x256.size a ≤ S16x256x256.size a) ∧
  (∀ (k0_h28 : k0_cond28 i = 1#1), ∀ a, (k0_off83 v0) a + S256x256.size a ≤ S4096x256.size a) ∧
  (∀ (k0_h28 : k0_cond28 i = 1#1), ∀ (hinb : ∀ a, (k0_off83 v0) a + S256x256.size a ≤ S4096x256.size a), (Rect.unit (s := S4096x256) (k0_off83 v0) S256x256.size hinb).WholeWords (EltTy.packing .bf16)) ∧
  (∀ (k0_h28 : k0_cond28 i = 1#1), ∀ (hinb : ∀ a, (k0_off82 v0) a + S1x256x256.size a ≤ S16x256x256.size a), (Rect.unit (s := S16x256x256) (k0_off82 v0) S1x256x256.size hinb).WholeWords (EltTy.packing .bf16)) ∧
  (∀ (k0_h28 : k0_cond28 i = 1#1), (k0_dev30 v0) < nD) ∧
  (∀ (k0_h29 : k0_cond29 i = 1#1), ∀ a, (k0_off84 v0) a + S256x256.size a ≤ S4096x256.size a) ∧
  (∀ (k0_h29 : k0_cond29 i = 1#1), ∀ a, (k0_off85 v0) a + S1x256x256.size a ≤ S16x256x256.size a) ∧
  (∀ (k0_h29 : k0_cond29 i = 1#1), ∀ (hinb : ∀ a, (k0_off85 v0) a + S1x256x256.size a ≤ S16x256x256.size a), (Rect.unit (s := S16x256x256) (k0_off85 v0) S1x256x256.size hinb).WholeWords (EltTy.packing .bf16)) ∧
  (∀ (k0_h29 : k0_cond29 i = 1#1), ∀ (hinb : ∀ a, (k0_off84 v0) a + S256x256.size a ≤ S4096x256.size a), (Rect.unit (s := S4096x256) (k0_off84 v0) S256x256.size hinb).WholeWords (EltTy.packing .bf16)) ∧
  (∀ (k0_h30 : k0_cond30 i = 1#1), ∀ a, (k0_off86 v0) a + S1.size a ≤ S16.size a) ∧
  (∀ (k0_h30 : k0_cond30 i = 1#1), ∀ a, (k0_off87 v0) a + S1x256x256.size a ≤ S16x256x256.size a) ∧
  (∀ (k0_h30 : k0_cond30 i = 1#1), ∀ a, (k0_off88 v0) a + S256x256.size a ≤ S4096x256.size a) ∧
  (∀ (k0_h30 : k0_cond30 i = 1#1), ∀ (hinb : ∀ a, (k0_off88 v0) a + S256x256.size a ≤ S4096x256.size a), (Rect.unit (s := S4096x256) (k0_off88 v0) S256x256.size hinb).WholeWords (EltTy.packing .bf16)) ∧
  (∀ (k0_h30 : k0_cond30 i = 1#1), ∀ (hinb : ∀ a, (k0_off87 v0) a + S1x256x256.size a ≤ S16x256x256.size a), (Rect.unit (s := S16x256x256) (k0_off87 v0) S1x256x256.size hinb).WholeWords (EltTy.packing .bf16)) ∧
  (∀ (k0_h30 : k0_cond30 i = 1#1), (k0_dev31 v0) < nD) ∧
  (∀ (k0_h31 : k0_cond31 i = 1#1), ∀ a, (k0_off89 v0) a + S256x256.size a ≤ S4096x256.size a) ∧
  (∀ (k0_h31 : k0_cond31 i = 1#1), ∀ a, (k0_off90 v0) a + S1x256x256.size a ≤ S16x256x256.size a) ∧
  (∀ (k0_h31 : k0_cond31 i = 1#1), ∀ (hinb : ∀ a, (k0_off90 v0) a + S1x256x256.size a ≤ S16x256x256.size a), (Rect.unit (s := S16x256x256) (k0_off90 v0) S1x256x256.size hinb).WholeWords (EltTy.packing .bf16)) ∧
  (∀ (k0_h31 : k0_cond31 i = 1#1), ∀ (hinb : ∀ a, (k0_off89 v0) a + S256x256.size a ≤ S4096x256.size a), (Rect.unit (s := S4096x256) (k0_off89 v0) S256x256.size hinb).WholeWords (EltTy.packing .bf16))
def k0_chk5 (i : grid0.Coords) (v0 : BitVec 32) : Prop :=
  k0_chk5_0 i v0 ∧
  k0_chk5_1 i v0 ∧
  k0_chk5_2 i v0 ∧
  k0_chk5_3 i v0 ∧
  k0_chk5_4 i v0
theorem k0_off14_inb : ∀ (i : grid0.Coords) (v0 : BitVec 32) (k0_hw5 : k0_chk5 i v0), ∀ (k0_h1 : k0_cond1 i = 1#1), ∀ a, (k0_off14 v0) a + S256x256.size a ≤ S4096x256.size a := fun i v0 k0_hw5 k0_h1 => k0_hw5.1.1 k0_h1
theorem k0_off15_inb : ∀ (i : grid0.Coords) (v0 : BitVec 32) (k0_hw5 : k0_chk5 i v0), ∀ (k0_h1 : k0_cond1 i = 1#1), ∀ a, (k0_off15 v0) a + S1x256x256.size a ≤ S16x256x256.size a := fun i v0 k0_hw5 k0_h1 => k0_hw5.1.2.1 k0_h1
theorem k0_off15_packedbf16 : ∀ (i : grid0.Coords) (v0 : BitVec 32) (k0_hw5 : k0_chk5 i v0), ∀ (k0_h1 : k0_cond1 i = 1#1), (Rect.unit (s := S16x256x256) (k0_off15 v0) S1x256x256.size (k0_off15_inb i v0 k0_hw5 k0_h1)).PackedRows (EltTy.packing .bf16) := fun i v0 k0_hw5 k0_h1 => k0_hw5.1.2.2.1 k0_h1 (k0_off15_inb i v0 k0_hw5 k0_h1)
theorem k0_off16_inb : ∀ (i : grid0.Coords) (v0 : BitVec 32) (k0_hw5 : k0_chk5 i v0), ∀ (k0_h2 : k0_cond2 i = 1#1), ∀ a, (k0_off16 v0) a + S1.size a ≤ S16.size a := fun i v0 k0_hw5 k0_h2 => k0_hw5.1.2.2.2.1 k0_h2
theorem k0_off17_inb : ∀ (i : grid0.Coords) (v0 : BitVec 32) (k0_hw5 : k0_chk5 i v0), ∀ (k0_h2 : k0_cond2 i = 1#1), ∀ a, (k0_off17 v0) a + S1x256x256.size a ≤ S16x256x256.size a := fun i v0 k0_hw5 k0_h2 => k0_hw5.1.2.2.2.2.1 k0_h2
theorem k0_off18_inb : ∀ (i : grid0.Coords) (v0 : BitVec 32) (k0_hw5 : k0_chk5 i v0), ∀ (k0_h2 : k0_cond2 i = 1#1), ∀ a, (k0_off18 v0) a + S256x256.size a ≤ S4096x256.size a := fun i v0 k0_hw5 k0_h2 => k0_hw5.1.2.2.2.2.2.1 k0_h2
theorem k0_off18_wordsbf16 : ∀ (i : grid0.Coords) (v0 : BitVec 32) (k0_hw5 : k0_chk5 i v0), ∀ (k0_h2 : k0_cond2 i = 1#1), (Rect.unit (s := S4096x256) (k0_off18 v0) S256x256.size (k0_off18_inb i v0 k0_hw5 k0_h2)).WholeWords (EltTy.packing .bf16) := fun i v0 k0_hw5 k0_h2 => k0_hw5.1.2.2.2.2.2.2.1 k0_h2 (k0_off18_inb i v0 k0_hw5 k0_h2)
theorem k0_off17_wordsbf16 : ∀ (i : grid0.Coords) (v0 : BitVec 32) (k0_hw5 : k0_chk5 i v0), ∀ (k0_h2 : k0_cond2 i = 1#1), (Rect.unit (s := S16x256x256) (k0_off17 v0) S1x256x256.size (k0_off17_inb i v0 k0_hw5 k0_h2)).WholeWords (EltTy.packing .bf16) := fun i v0 k0_hw5 k0_h2 => k0_hw5.1.2.2.2.2.2.2.2.1 k0_h2 (k0_off17_inb i v0 k0_hw5 k0_h2)
theorem k0_dev17_lt : ∀ (i : grid0.Coords) (v0 : BitVec 32) (k0_hw5 : k0_chk5 i v0), ∀ (k0_h2 : k0_cond2 i = 1#1), (k0_dev17 v0) < nD := fun i v0 k0_hw5 k0_h2 => k0_hw5.1.2.2.2.2.2.2.2.2.1 k0_h2
theorem k0_off19_inb : ∀ (i : grid0.Coords) (v0 : BitVec 32) (k0_hw5 : k0_chk5 i v0), ∀ (k0_h3 : k0_cond3 i = 1#1), ∀ a, (k0_off19 v0) a + S256x256.size a ≤ S4096x256.size a := fun i v0 k0_hw5 k0_h3 => k0_hw5.1.2.2.2.2.2.2.2.2.2.1 k0_h3
theorem k0_off20_inb : ∀ (i : grid0.Coords) (v0 : BitVec 32) (k0_hw5 : k0_chk5 i v0), ∀ (k0_h3 : k0_cond3 i = 1#1), ∀ a, (k0_off20 v0) a + S1x256x256.size a ≤ S16x256x256.size a := fun i v0 k0_hw5 k0_h3 => k0_hw5.1.2.2.2.2.2.2.2.2.2.2.1 k0_h3
theorem k0_off20_wordsbf16 : ∀ (i : grid0.Coords) (v0 : BitVec 32) (k0_hw5 : k0_chk5 i v0), ∀ (k0_h3 : k0_cond3 i = 1#1), (Rect.unit (s := S16x256x256) (k0_off20 v0) S1x256x256.size (k0_off20_inb i v0 k0_hw5 k0_h3)).WholeWords (EltTy.packing .bf16) := fun i v0 k0_hw5 k0_h3 => k0_hw5.1.2.2.2.2.2.2.2.2.2.2.2.1 k0_h3 (k0_off20_inb i v0 k0_hw5 k0_h3)
theorem k0_off19_wordsbf16 : ∀ (i : grid0.Coords) (v0 : BitVec 32) (k0_hw5 : k0_chk5 i v0), ∀ (k0_h3 : k0_cond3 i = 1#1), (Rect.unit (s := S4096x256) (k0_off19 v0) S256x256.size (k0_off19_inb i v0 k0_hw5 k0_h3)).WholeWords (EltTy.packing .bf16) := fun i v0 k0_hw5 k0_h3 => k0_hw5.1.2.2.2.2.2.2.2.2.2.2.2.2.1 k0_h3 (k0_off19_inb i v0 k0_hw5 k0_h3)
theorem k0_off21_inb : ∀ (i : grid0.Coords) (v0 : BitVec 32) (k0_hw5 : k0_chk5 i v0), ∀ (k0_h4 : k0_cond4 i = 1#1), ∀ a, (k0_off21 v0) a + S1.size a ≤ S16.size a := fun i v0 k0_hw5 k0_h4 => k0_hw5.1.2.2.2.2.2.2.2.2.2.2.2.2.2.1 k0_h4
theorem k0_off22_inb : ∀ (i : grid0.Coords) (v0 : BitVec 32) (k0_hw5 : k0_chk5 i v0), ∀ (k0_h4 : k0_cond4 i = 1#1), ∀ a, (k0_off22 v0) a + S1x256x256.size a ≤ S16x256x256.size a := fun i v0 k0_hw5 k0_h4 => k0_hw5.1.2.2.2.2.2.2.2.2.2.2.2.2.2.2.1 k0_h4
theorem k0_off23_inb : ∀ (i : grid0.Coords) (v0 : BitVec 32) (k0_hw5 : k0_chk5 i v0), ∀ (k0_h4 : k0_cond4 i = 1#1), ∀ a, (k0_off23 v0) a + S256x256.size a ≤ S4096x256.size a := fun i v0 k0_hw5 k0_h4 => k0_hw5.1.2.2.2.2.2.2.2.2.2.2.2.2.2.2.2.1 k0_h4
theorem k0_off23_wordsbf16 : ∀ (i : grid0.Coords) (v0 : BitVec 32) (k0_hw5 : k0_chk5 i v0), ∀ (k0_h4 : k0_cond4 i = 1#1), (Rect.unit (s := S4096x256) (k0_off23 v0) S256x256.size (k0_off23_inb i v0 k0_hw5 k0_h4)).WholeWords (EltTy.packing .bf16) := fun i v0 k0_hw5 k0_h4 => k0_hw5.1.2.2.2.2.2.2.2.2.2.2.2.2.2.2.2.2.1 k0_h4 (k0_off23_inb i v0 k0_hw5 k0_h4)
theorem k0_off22_wordsbf16 : ∀ (i : grid0.Coords) (v0 : BitVec 32) (k0_hw5 : k0_chk5 i v0), ∀ (k0_h4 : k0_cond4 i = 1#1), (Rect.unit (s := S16x256x256) (k0_off22 v0) S1x256x256.size (k0_off22_inb i v0 k0_hw5 k0_h4)).WholeWords (EltTy.packing .bf16) := fun i v0 k0_hw5 k0_h4 => k0_hw5.1.2.2.2.2.2.2.2.2.2.2.2.2.2.2.2.2.2.1 k0_h4 (k0_off22_inb i v0 k0_hw5 k0_h4)
theorem k0_dev18_lt : ∀ (i : grid0.Coords) (v0 : BitVec 32) (k0_hw5 : k0_chk5 i v0), ∀ (k0_h4 : k0_cond4 i = 1#1), (k0_dev18 v0) < nD := fun i v0 k0_hw5 k0_h4 => k0_hw5.1.2.2.2.2.2.2.2.2.2.2.2.2.2.2.2.2.2.2.1 k0_h4
theorem k0_off24_inb : ∀ (i : grid0.Coords) (v0 : BitVec 32) (k0_hw5 : k0_chk5 i v0), ∀ (k0_h5 : k0_cond5 i = 1#1), ∀ a, (k0_off24 v0) a + S256x256.size a ≤ S4096x256.size a := fun i v0 k0_hw5 k0_h5 => k0_hw5.1.2.2.2.2.2.2.2.2.2.2.2.2.2.2.2.2.2.2.2.1 k0_h5
theorem k0_off25_inb : ∀ (i : grid0.Coords) (v0 : BitVec 32) (k0_hw5 : k0_chk5 i v0), ∀ (k0_h5 : k0_cond5 i = 1#1), ∀ a, (k0_off25 v0) a + S1x256x256.size a ≤ S16x256x256.size a := fun i v0 k0_hw5 k0_h5 => k0_hw5.1.2.2.2.2.2.2.2.2.2.2.2.2.2.2.2.2.2.2.2.2.1 k0_h5
theorem k0_off25_wordsbf16 : ∀ (i : grid0.Coords) (v0 : BitVec 32) (k0_hw5 : k0_chk5 i v0), ∀ (k0_h5 : k0_cond5 i = 1#1), (Rect.unit (s := S16x256x256) (k0_off25 v0) S1x256x256.size (k0_off25_inb i v0 k0_hw5 k0_h5)).WholeWords (EltTy.packing .bf16) := fun i v0 k0_hw5 k0_h5 => k0_hw5.1.2.2.2.2.2.2.2.2.2.2.2.2.2.2.2.2.2.2.2.2.2.1 k0_h5 (k0_off25_inb i v0 k0_hw5 k0_h5)
theorem k0_off24_wordsbf16 : ∀ (i : grid0.Coords) (v0 : BitVec 32) (k0_hw5 : k0_chk5 i v0), ∀ (k0_h5 : k0_cond5 i = 1#1), (Rect.unit (s := S4096x256) (k0_off24 v0) S256x256.size (k0_off24_inb i v0 k0_hw5 k0_h5)).WholeWords (EltTy.packing .bf16) := fun i v0 k0_hw5 k0_h5 => k0_hw5.1.2.2.2.2.2.2.2.2.2.2.2.2.2.2.2.2.2.2.2.2.2.2.1 k0_h5 (k0_off24_inb i v0 k0_hw5 k0_h5)
theorem k0_off26_inb : ∀ (i : grid0.Coords) (v0 : BitVec 32) (k0_hw5 : k0_chk5 i v0), ∀ (k0_h6 : k0_cond6 i = 1#1), ∀ a, (k0_off26 v0) a + S1.size a ≤ S16.size a := fun i v0 k0_hw5 k0_h6 => k0_hw5.1.2.2.2.2.2.2.2.2.2.2.2.2.2.2.2.2.2.2.2.2.2.2.2.1 k0_h6
theorem k0_off27_inb : ∀ (i : grid0.Coords) (v0 : BitVec 32) (k0_hw5 : k0_chk5 i v0), ∀ (k0_h6 : k0_cond6 i = 1#1), ∀ a, (k0_off27 v0) a + S1x256x256.size a ≤ S16x256x256.size a := fun i v0 k0_hw5 k0_h6 => k0_hw5.1.2.2.2.2.2.2.2.2.2.2.2.2.2.2.2.2.2.2.2.2.2.2.2.2.1 k0_h6
theorem k0_off28_inb : ∀ (i : grid0.Coords) (v0 : BitVec 32) (k0_hw5 : k0_chk5 i v0), ∀ (k0_h6 : k0_cond6 i = 1#1), ∀ a, (k0_off28 v0) a + S256x256.size a ≤ S4096x256.size a := fun i v0 k0_hw5 k0_h6 => k0_hw5.1.2.2.2.2.2.2.2.2.2.2.2.2.2.2.2.2.2.2.2.2.2.2.2.2.2.1 k0_h6
theorem k0_off28_wordsbf16 : ∀ (i : grid0.Coords) (v0 : BitVec 32) (k0_hw5 : k0_chk5 i v0), ∀ (k0_h6 : k0_cond6 i = 1#1), (Rect.unit (s := S4096x256) (k0_off28 v0) S256x256.size (k0_off28_inb i v0 k0_hw5 k0_h6)).WholeWords (EltTy.packing .bf16) := fun i v0 k0_hw5 k0_h6 => k0_hw5.1.2.2.2.2.2.2.2.2.2.2.2.2.2.2.2.2.2.2.2.2.2.2.2.2.2.2.1 k0_h6 (k0_off28_inb i v0 k0_hw5 k0_h6)
theorem k0_off27_wordsbf16 : ∀ (i : grid0.Coords) (v0 : BitVec 32) (k0_hw5 : k0_chk5 i v0), ∀ (k0_h6 : k0_cond6 i = 1#1), (Rect.unit (s := S16x256x256) (k0_off27 v0) S1x256x256.size (k0_off27_inb i v0 k0_hw5 k0_h6)).WholeWords (EltTy.packing .bf16) := fun i v0 k0_hw5 k0_h6 => k0_hw5.1.2.2.2.2.2.2.2.2.2.2.2.2.2.2.2.2.2.2.2.2.2.2.2.2.2.2.2.1 k0_h6 (k0_off27_inb i v0 k0_hw5 k0_h6)
theorem k0_dev19_lt : ∀ (i : grid0.Coords) (v0 : BitVec 32) (k0_hw5 : k0_chk5 i v0), ∀ (k0_h6 : k0_cond6 i = 1#1), (k0_dev19 v0) < nD := fun i v0 k0_hw5 k0_h6 => k0_hw5.1.2.2.2.2.2.2.2.2.2.2.2.2.2.2.2.2.2.2.2.2.2.2.2.2.2.2.2.2.1 k0_h6
theorem k0_off29_inb : ∀ (i : grid0.Coords) (v0 : BitVec 32) (k0_hw5 : k0_chk5 i v0), ∀ (k0_h7 : k0_cond7 i = 1#1), ∀ a, (k0_off29 v0) a + S256x256.size a ≤ S4096x256.size a := fun i v0 k0_hw5 k0_h7 => k0_hw5.1.2.2.2.2.2.2.2.2.2.2.2.2.2.2.2.2.2.2.2.2.2.2.2.2.2.2.2.2.2.1 k0_h7
theorem k0_off30_inb : ∀ (i : grid0.Coords) (v0 : BitVec 32) (k0_hw5 : k0_chk5 i v0), ∀ (k0_h7 : k0_cond7 i = 1#1), ∀ a, (k0_off30 v0) a + S1x256x256.size a ≤ S16x256x256.size a := fun i v0 k0_hw5 k0_h7 => k0_hw5.1.2.2.2.2.2.2.2.2.2.2.2.2.2.2.2.2.2.2.2.2.2.2.2.2.2.2.2.2.2.2.1 k0_h7
theorem k0_off30_wordsbf16 : ∀ (i : grid0.Coords) (v0 : BitVec 32) (k0_hw5 : k0_chk5 i v0), ∀ (k0_h7 : k0_cond7 i = 1#1), (Rect.unit (s := S16x256x256) (k0_off30 v0) S1x256x256.size (k0_off30_inb i v0 k0_hw5 k0_h7)).WholeWords (EltTy.packing .bf16) := fun i v0 k0_hw5 k0_h7 => k0_hw5.1.2.2.2.2.2.2.2.2.2.2.2.2.2.2.2.2.2.2.2.2.2.2.2.2.2.2.2.2.2.2.2 k0_h7 (k0_off30_inb i v0 k0_hw5 k0_h7)
theorem k0_off29_wordsbf16 : ∀ (i : grid0.Coords) (v0 : BitVec 32) (k0_hw5 : k0_chk5 i v0), ∀ (k0_h7 : k0_cond7 i = 1#1), (Rect.unit (s := S4096x256) (k0_off29 v0) S256x256.size (k0_off29_inb i v0 k0_hw5 k0_h7)).WholeWords (EltTy.packing .bf16) := fun i v0 k0_hw5 k0_h7 => k0_hw5.2.1.1 k0_h7 (k0_off29_inb i v0 k0_hw5 k0_h7)
theorem k0_off31_inb : ∀ (i : grid0.Coords) (v0 : BitVec 32) (k0_hw5 : k0_chk5 i v0), ∀ (k0_h8 : k0_cond8 i = 1#1), ∀ a, (k0_off31 v0) a + S1.size a ≤ S16.size a := fun i v0 k0_hw5 k0_h8 => k0_hw5.2.1.2.1 k0_h8
theorem k0_off32_inb : ∀ (i : grid0.Coords) (v0 : BitVec 32) (k0_hw5 : k0_chk5 i v0), ∀ (k0_h8 : k0_cond8 i = 1#1), ∀ a, (k0_off32 v0) a + S1x256x256.size a ≤ S16x256x256.size a := fun i v0 k0_hw5 k0_h8 => k0_hw5.2.1.2.2.1 k0_h8
theorem k0_off33_inb : ∀ (i : grid0.Coords) (v0 : BitVec 32) (k0_hw5 : k0_chk5 i v0), ∀ (k0_h8 : k0_cond8 i = 1#1), ∀ a, (k0_off33 v0) a + S256x256.size a ≤ S4096x256.size a := fun i v0 k0_hw5 k0_h8 => k0_hw5.2.1.2.2.2.1 k0_h8
theorem k0_off33_wordsbf16 : ∀ (i : grid0.Coords) (v0 : BitVec 32) (k0_hw5 : k0_chk5 i v0), ∀ (k0_h8 : k0_cond8 i = 1#1), (Rect.unit (s := S4096x256) (k0_off33 v0) S256x256.size (k0_off33_inb i v0 k0_hw5 k0_h8)).WholeWords (EltTy.packing .bf16) := fun i v0 k0_hw5 k0_h8 => k0_hw5.2.1.2.2.2.2.1 k0_h8 (k0_off33_inb i v0 k0_hw5 k0_h8)
theorem k0_off32_wordsbf16 : ∀ (i : grid0.Coords) (v0 : BitVec 32) (k0_hw5 : k0_chk5 i v0), ∀ (k0_h8 : k0_cond8 i = 1#1), (Rect.unit (s := S16x256x256) (k0_off32 v0) S1x256x256.size (k0_off32_inb i v0 k0_hw5 k0_h8)).WholeWords (EltTy.packing .bf16) := fun i v0 k0_hw5 k0_h8 => k0_hw5.2.1.2.2.2.2.2.1 k0_h8 (k0_off32_inb i v0 k0_hw5 k0_h8)
theorem k0_dev20_lt : ∀ (i : grid0.Coords) (v0 : BitVec 32) (k0_hw5 : k0_chk5 i v0), ∀ (k0_h8 : k0_cond8 i = 1#1), (k0_dev20 v0) < nD := fun i v0 k0_hw5 k0_h8 => k0_hw5.2.1.2.2.2.2.2.2.1 k0_h8
theorem k0_off34_inb : ∀ (i : grid0.Coords) (v0 : BitVec 32) (k0_hw5 : k0_chk5 i v0), ∀ (k0_h9 : k0_cond9 i = 1#1), ∀ a, (k0_off34 v0) a + S256x256.size a ≤ S4096x256.size a := fun i v0 k0_hw5 k0_h9 => k0_hw5.2.1.2.2.2.2.2.2.2.1 k0_h9
theorem k0_off35_inb : ∀ (i : grid0.Coords) (v0 : BitVec 32) (k0_hw5 : k0_chk5 i v0), ∀ (k0_h9 : k0_cond9 i = 1#1), ∀ a, (k0_off35 v0) a + S1x256x256.size a ≤ S16x256x256.size a := fun i v0 k0_hw5 k0_h9 => k0_hw5.2.1.2.2.2.2.2.2.2.2.1 k0_h9
theorem k0_off35_wordsbf16 : ∀ (i : grid0.Coords) (v0 : BitVec 32) (k0_hw5 : k0_chk5 i v0), ∀ (k0_h9 : k0_cond9 i = 1#1), (Rect.unit (s := S16x256x256) (k0_off35 v0) S1x256x256.size (k0_off35_inb i v0 k0_hw5 k0_h9)).WholeWords (EltTy.packing .bf16) := fun i v0 k0_hw5 k0_h9 => k0_hw5.2.1.2.2.2.2.2.2.2.2.2.1 k0_h9 (k0_off35_inb i v0 k0_hw5 k0_h9)
theorem k0_off34_wordsbf16 : ∀ (i : grid0.Coords) (v0 : BitVec 32) (k0_hw5 : k0_chk5 i v0), ∀ (k0_h9 : k0_cond9 i = 1#1), (Rect.unit (s := S4096x256) (k0_off34 v0) S256x256.size (k0_off34_inb i v0 k0_hw5 k0_h9)).WholeWords (EltTy.packing .bf16) := fun i v0 k0_hw5 k0_h9 => k0_hw5.2.1.2.2.2.2.2.2.2.2.2.2.1 k0_h9 (k0_off34_inb i v0 k0_hw5 k0_h9)
theorem k0_off36_inb : ∀ (i : grid0.Coords) (v0 : BitVec 32) (k0_hw5 : k0_chk5 i v0), ∀ (k0_h10 : k0_cond10 i = 1#1), ∀ a, (k0_off36 v0) a + S1.size a ≤ S16.size a := fun i v0 k0_hw5 k0_h10 => k0_hw5.2.1.2.2.2.2.2.2.2.2.2.2.2.1 k0_h10
theorem k0_off37_inb : ∀ (i : grid0.Coords) (v0 : BitVec 32) (k0_hw5 : k0_chk5 i v0), ∀ (k0_h10 : k0_cond10 i = 1#1), ∀ a, (k0_off37 v0) a + S1x256x256.size a ≤ S16x256x256.size a := fun i v0 k0_hw5 k0_h10 => k0_hw5.2.1.2.2.2.2.2.2.2.2.2.2.2.2.1 k0_h10
theorem k0_off38_inb : ∀ (i : grid0.Coords) (v0 : BitVec 32) (k0_hw5 : k0_chk5 i v0), ∀ (k0_h10 : k0_cond10 i = 1#1), ∀ a, (k0_off38 v0) a + S256x256.size a ≤ S4096x256.size a := fun i v0 k0_hw5 k0_h10 => k0_hw5.2.1.2.2.2.2.2.2.2.2.2.2.2.2.2.1 k0_h10
theorem k0_off38_wordsbf16 : ∀ (i : grid0.Coords) (v0 : BitVec 32) (k0_hw5 : k0_chk5 i v0), ∀ (k0_h10 : k0_cond10 i = 1#1), (Rect.unit (s := S4096x256) (k0_off38 v0) S256x256.size (k0_off38_inb i v0 k0_hw5 k0_h10)).WholeWords (EltTy.packing .bf16) := fun i v0 k0_hw5 k0_h10 => k0_hw5.2.1.2.2.2.2.2.2.2.2.2.2.2.2.2.2.1 k0_h10 (k0_off38_inb i v0 k0_hw5 k0_h10)
theorem k0_off37_wordsbf16 : ∀ (i : grid0.Coords) (v0 : BitVec 32) (k0_hw5 : k0_chk5 i v0), ∀ (k0_h10 : k0_cond10 i = 1#1), (Rect.unit (s := S16x256x256) (k0_off37 v0) S1x256x256.size (k0_off37_inb i v0 k0_hw5 k0_h10)).WholeWords (EltTy.packing .bf16) := fun i v0 k0_hw5 k0_h10 => k0_hw5.2.1.2.2.2.2.2.2.2.2.2.2.2.2.2.2.2.1 k0_h10 (k0_off37_inb i v0 k0_hw5 k0_h10)
theorem k0_dev21_lt : ∀ (i : grid0.Coords) (v0 : BitVec 32) (k0_hw5 : k0_chk5 i v0), ∀ (k0_h10 : k0_cond10 i = 1#1), (k0_dev21 v0) < nD := fun i v0 k0_hw5 k0_h10 => k0_hw5.2.1.2.2.2.2.2.2.2.2.2.2.2.2.2.2.2.2.1 k0_h10
theorem k0_off39_inb : ∀ (i : grid0.Coords) (v0 : BitVec 32) (k0_hw5 : k0_chk5 i v0), ∀ (k0_h11 : k0_cond11 i = 1#1), ∀ a, (k0_off39 v0) a + S256x256.size a ≤ S4096x256.size a := fun i v0 k0_hw5 k0_h11 => k0_hw5.2.1.2.2.2.2.2.2.2.2.2.2.2.2.2.2.2.2.2.1 k0_h11
theorem k0_off40_inb : ∀ (i : grid0.Coords) (v0 : BitVec 32) (k0_hw5 : k0_chk5 i v0), ∀ (k0_h11 : k0_cond11 i = 1#1), ∀ a, (k0_off40 v0) a + S1x256x256.size a ≤ S16x256x256.size a := fun i v0 k0_hw5 k0_h11 => k0_hw5.2.1.2.2.2.2.2.2.2.2.2.2.2.2.2.2.2.2.2.2.1 k0_h11
theorem k0_off40_wordsbf16 : ∀ (i : grid0.Coords) (v0 : BitVec 32) (k0_hw5 : k0_chk5 i v0), ∀ (k0_h11 : k0_cond11 i = 1#1), (Rect.unit (s := S16x256x256) (k0_off40 v0) S1x256x256.size (k0_off40_inb i v0 k0_hw5 k0_h11)).WholeWords (EltTy.packing .bf16) := fun i v0 k0_hw5 k0_h11 => k0_hw5.2.1.2.2.2.2.2.2.2.2.2.2.2.2.2.2.2.2.2.2.2.1 k0_h11 (k0_off40_inb i v0 k0_hw5 k0_h11)
theorem k0_off39_wordsbf16 : ∀ (i : grid0.Coords) (v0 : BitVec 32) (k0_hw5 : k0_chk5 i v0), ∀ (k0_h11 : k0_cond11 i = 1#1), (Rect.unit (s := S4096x256) (k0_off39 v0) S256x256.size (k0_off39_inb i v0 k0_hw5 k0_h11)).WholeWords (EltTy.packing .bf16) := fun i v0 k0_hw5 k0_h11 => k0_hw5.2.1.2.2.2.2.2.2.2.2.2.2.2.2.2.2.2.2.2.2.2.2.1 k0_h11 (k0_off39_inb i v0 k0_hw5 k0_h11)
theorem k0_off41_inb : ∀ (i : grid0.Coords) (v0 : BitVec 32) (k0_hw5 : k0_chk5 i v0), ∀ (k0_h12 : k0_cond12 i = 1#1), ∀ a, (k0_off41 v0) a + S1.size a ≤ S16.size a := fun i v0 k0_hw5 k0_h12 => k0_hw5.2.1.2.2.2.2.2.2.2.2.2.2.2.2.2.2.2.2.2.2.2.2.2.1 k0_h12
theorem k0_off42_inb : ∀ (i : grid0.Coords) (v0 : BitVec 32) (k0_hw5 : k0_chk5 i v0), ∀ (k0_h12 : k0_cond12 i = 1#1), ∀ a, (k0_off42 v0) a + S1x256x256.size a ≤ S16x256x256.size a := fun i v0 k0_hw5 k0_h12 => k0_hw5.2.1.2.2.2.2.2.2.2.2.2.2.2.2.2.2.2.2.2.2.2.2.2.2.1 k0_h12
theorem k0_off43_inb : ∀ (i : grid0.Coords) (v0 : BitVec 32) (k0_hw5 : k0_chk5 i v0), ∀ (k0_h12 : k0_cond12 i = 1#1), ∀ a, (k0_off43 v0) a + S256x256.size a ≤ S4096x256.size a := fun i v0 k0_hw5 k0_h12 => k0_hw5.2.1.2.2.2.2.2.2.2.2.2.2.2.2.2.2.2.2.2.2.2.2.2.2.2.1 k0_h12
theorem k0_off43_wordsbf16 : ∀ (i : grid0.Coords) (v0 : BitVec 32) (k0_hw5 : k0_chk5 i v0), ∀ (k0_h12 : k0_cond12 i = 1#1), (Rect.unit (s := S4096x256) (k0_off43 v0) S256x256.size (k0_off43_inb i v0 k0_hw5 k0_h12)).WholeWords (EltTy.packing .bf16) := fun i v0 k0_hw5 k0_h12 => k0_hw5.2.1.2.2.2.2.2.2.2.2.2.2.2.2.2.2.2.2.2.2.2.2.2.2.2.2.1 k0_h12 (k0_off43_inb i v0 k0_hw5 k0_h12)
theorem k0_off42_wordsbf16 : ∀ (i : grid0.Coords) (v0 : BitVec 32) (k0_hw5 : k0_chk5 i v0), ∀ (k0_h12 : k0_cond12 i = 1#1), (Rect.unit (s := S16x256x256) (k0_off42 v0) S1x256x256.size (k0_off42_inb i v0 k0_hw5 k0_h12)).WholeWords (EltTy.packing .bf16) := fun i v0 k0_hw5 k0_h12 => k0_hw5.2.1.2.2.2.2.2.2.2.2.2.2.2.2.2.2.2.2.2.2.2.2.2.2.2.2.2.1 k0_h12 (k0_off42_inb i v0 k0_hw5 k0_h12)
theorem k0_dev22_lt : ∀ (i : grid0.Coords) (v0 : BitVec 32) (k0_hw5 : k0_chk5 i v0), ∀ (k0_h12 : k0_cond12 i = 1#1), (k0_dev22 v0) < nD := fun i v0 k0_hw5 k0_h12 => k0_hw5.2.1.2.2.2.2.2.2.2.2.2.2.2.2.2.2.2.2.2.2.2.2.2.2.2.2.2.2.1 k0_h12
theorem k0_off44_inb : ∀ (i : grid0.Coords) (v0 : BitVec 32) (k0_hw5 : k0_chk5 i v0), ∀ (k0_h13 : k0_cond13 i = 1#1), ∀ a, (k0_off44 v0) a + S256x256.size a ≤ S4096x256.size a := fun i v0 k0_hw5 k0_h13 => k0_hw5.2.1.2.2.2.2.2.2.2.2.2.2.2.2.2.2.2.2.2.2.2.2.2.2.2.2.2.2.2.1 k0_h13
theorem k0_off45_inb : ∀ (i : grid0.Coords) (v0 : BitVec 32) (k0_hw5 : k0_chk5 i v0), ∀ (k0_h13 : k0_cond13 i = 1#1), ∀ a, (k0_off45 v0) a + S1x256x256.size a ≤ S16x256x256.size a := fun i v0 k0_hw5 k0_h13 => k0_hw5.2.1.2.2.2.2.2.2.2.2.2.2.2.2.2.2.2.2.2.2.2.2.2.2.2.2.2.2.2.2.1 k0_h13
theorem k0_off45_wordsbf16 : ∀ (i : grid0.Coords) (v0 : BitVec 32) (k0_hw5 : k0_chk5 i v0), ∀ (k0_h13 : k0_cond13 i = 1#1), (Rect.unit (s := S16x256x256) (k0_off45 v0) S1x256x256.size (k0_off45_inb i v0 k0_hw5 k0_h13)).WholeWords (EltTy.packing .bf16) := fun i v0 k0_hw5 k0_h13 => k0_hw5.2.1.2.2.2.2.2.2.2.2.2.2.2.2.2.2.2.2.2.2.2.2.2.2.2.2.2.2.2.2.2.1 k0_h13 (k0_off45_inb i v0 k0_hw5 k0_h13)
theorem k0_off44_wordsbf16 : ∀ (i : grid0.Coords) (v0 : BitVec 32) (k0_hw5 : k0_chk5 i v0), ∀ (k0_h13 : k0_cond13 i = 1#1), (Rect.unit (s := S4096x256) (k0_off44 v0) S256x256.size (k0_off44_inb i v0 k0_hw5 k0_h13)).WholeWords (EltTy.packing .bf16) := fun i v0 k0_hw5 k0_h13 => k0_hw5.2.1.2.2.2.2.2.2.2.2.2.2.2.2.2.2.2.2.2.2.2.2.2.2.2.2.2.2.2.2.2.2.1 k0_h13 (k0_off44_inb i v0 k0_hw5 k0_h13)
theorem k0_off46_inb : ∀ (i : grid0.Coords) (v0 : BitVec 32) (k0_hw5 : k0_chk5 i v0), ∀ (k0_h14 : k0_cond14 i = 1#1), ∀ a, (k0_off46 v0) a + S1.size a ≤ S16.size a := fun i v0 k0_hw5 k0_h14 => k0_hw5.2.1.2.2.2.2.2.2.2.2.2.2.2.2.2.2.2.2.2.2.2.2.2.2.2.2.2.2.2.2.2.2.2 k0_h14
theorem k0_off47_inb : ∀ (i : grid0.Coords) (v0 : BitVec 32) (k0_hw5 : k0_chk5 i v0), ∀ (k0_h14 : k0_cond14 i = 1#1), ∀ a, (k0_off47 v0) a + S1x256x256.size a ≤ S16x256x256.size a := fun i v0 k0_hw5 k0_h14 => k0_hw5.2.2.1.1 k0_h14
theorem k0_off48_inb : ∀ (i : grid0.Coords) (v0 : BitVec 32) (k0_hw5 : k0_chk5 i v0), ∀ (k0_h14 : k0_cond14 i = 1#1), ∀ a, (k0_off48 v0) a + S256x256.size a ≤ S4096x256.size a := fun i v0 k0_hw5 k0_h14 => k0_hw5.2.2.1.2.1 k0_h14
theorem k0_off48_wordsbf16 : ∀ (i : grid0.Coords) (v0 : BitVec 32) (k0_hw5 : k0_chk5 i v0), ∀ (k0_h14 : k0_cond14 i = 1#1), (Rect.unit (s := S4096x256) (k0_off48 v0) S256x256.size (k0_off48_inb i v0 k0_hw5 k0_h14)).WholeWords (EltTy.packing .bf16) := fun i v0 k0_hw5 k0_h14 => k0_hw5.2.2.1.2.2.1 k0_h14 (k0_off48_inb i v0 k0_hw5 k0_h14)
theorem k0_off47_wordsbf16 : ∀ (i : grid0.Coords) (v0 : BitVec 32) (k0_hw5 : k0_chk5 i v0), ∀ (k0_h14 : k0_cond14 i = 1#1), (Rect.unit (s := S16x256x256) (k0_off47 v0) S1x256x256.size (k0_off47_inb i v0 k0_hw5 k0_h14)).WholeWords (EltTy.packing .bf16) := fun i v0 k0_hw5 k0_h14 => k0_hw5.2.2.1.2.2.2.1 k0_h14 (k0_off47_inb i v0 k0_hw5 k0_h14)
theorem k0_dev23_lt : ∀ (i : grid0.Coords) (v0 : BitVec 32) (k0_hw5 : k0_chk5 i v0), ∀ (k0_h14 : k0_cond14 i = 1#1), (k0_dev23 v0) < nD := fun i v0 k0_hw5 k0_h14 => k0_hw5.2.2.1.2.2.2.2.1 k0_h14
theorem k0_off49_inb : ∀ (i : grid0.Coords) (v0 : BitVec 32) (k0_hw5 : k0_chk5 i v0), ∀ (k0_h15 : k0_cond15 i = 1#1), ∀ a, (k0_off49 v0) a + S256x256.size a ≤ S4096x256.size a := fun i v0 k0_hw5 k0_h15 => k0_hw5.2.2.1.2.2.2.2.2.1 k0_h15
theorem k0_off50_inb : ∀ (i : grid0.Coords) (v0 : BitVec 32) (k0_hw5 : k0_chk5 i v0), ∀ (k0_h15 : k0_cond15 i = 1#1), ∀ a, (k0_off50 v0) a + S1x256x256.size a ≤ S16x256x256.size a := fun i v0 k0_hw5 k0_h15 => k0_hw5.2.2.1.2.2.2.2.2.2.1 k0_h15
theorem k0_off50_wordsbf16 : ∀ (i : grid0.Coords) (v0 : BitVec 32) (k0_hw5 : k0_chk5 i v0), ∀ (k0_h15 : k0_cond15 i = 1#1), (Rect.unit (s := S16x256x256) (k0_off50 v0) S1x256x256.size (k0_off50_inb i v0 k0_hw5 k0_h15)).WholeWords (EltTy.packing .bf16) := fun i v0 k0_hw5 k0_h15 => k0_hw5.2.2.1.2.2.2.2.2.2.2.1 k0_h15 (k0_off50_inb i v0 k0_hw5 k0_h15)
theorem k0_off49_wordsbf16 : ∀ (i : grid0.Coords) (v0 : BitVec 32) (k0_hw5 : k0_chk5 i v0), ∀ (k0_h15 : k0_cond15 i = 1#1), (Rect.unit (s := S4096x256) (k0_off49 v0) S256x256.size (k0_off49_inb i v0 k0_hw5 k0_h15)).WholeWords (EltTy.packing .bf16) := fun i v0 k0_hw5 k0_h15 => k0_hw5.2.2.1.2.2.2.2.2.2.2.2.1 k0_h15 (k0_off49_inb i v0 k0_hw5 k0_h15)
theorem k0_off51_inb : ∀ (i : grid0.Coords) (v0 : BitVec 32) (k0_hw5 : k0_chk5 i v0), ∀ (k0_h16 : k0_cond16 i = 1#1), ∀ a, (k0_off51 v0) a + S1.size a ≤ S16.size a := fun i v0 k0_hw5 k0_h16 => k0_hw5.2.2.1.2.2.2.2.2.2.2.2.2.1 k0_h16
theorem k0_off52_inb : ∀ (i : grid0.Coords) (v0 : BitVec 32) (k0_hw5 : k0_chk5 i v0), ∀ (k0_h16 : k0_cond16 i = 1#1), ∀ a, (k0_off52 v0) a + S1x256x256.size a ≤ S16x256x256.size a := fun i v0 k0_hw5 k0_h16 => k0_hw5.2.2.1.2.2.2.2.2.2.2.2.2.2.1 k0_h16
theorem k0_off53_inb : ∀ (i : grid0.Coords) (v0 : BitVec 32) (k0_hw5 : k0_chk5 i v0), ∀ (k0_h16 : k0_cond16 i = 1#1), ∀ a, (k0_off53 v0) a + S256x256.size a ≤ S4096x256.size a := fun i v0 k0_hw5 k0_h16 => k0_hw5.2.2.1.2.2.2.2.2.2.2.2.2.2.2.1 k0_h16
theorem k0_off53_wordsbf16 : ∀ (i : grid0.Coords) (v0 : BitVec 32) (k0_hw5 : k0_chk5 i v0), ∀ (k0_h16 : k0_cond16 i = 1#1), (Rect.unit (s := S4096x256) (k0_off53 v0) S256x256.size (k0_off53_inb i v0 k0_hw5 k0_h16)).WholeWords (EltTy.packing .bf16) := fun i v0 k0_hw5 k0_h16 => k0_hw5.2.2.1.2.2.2.2.2.2.2.2.2.2.2.2.1 k0_h16 (k0_off53_inb i v0 k0_hw5 k0_h16)
theorem k0_off52_wordsbf16 : ∀ (i : grid0.Coords) (v0 : BitVec 32) (k0_hw5 : k0_chk5 i v0), ∀ (k0_h16 : k0_cond16 i = 1#1), (Rect.unit (s := S16x256x256) (k0_off52 v0) S1x256x256.size (k0_off52_inb i v0 k0_hw5 k0_h16)).WholeWords (EltTy.packing .bf16) := fun i v0 k0_hw5 k0_h16 => k0_hw5.2.2.1.2.2.2.2.2.2.2.2.2.2.2.2.2.1 k0_h16 (k0_off52_inb i v0 k0_hw5 k0_h16)
theorem k0_dev24_lt : ∀ (i : grid0.Coords) (v0 : BitVec 32) (k0_hw5 : k0_chk5 i v0), ∀ (k0_h16 : k0_cond16 i = 1#1), (k0_dev24 v0) < nD := fun i v0 k0_hw5 k0_h16 => k0_hw5.2.2.1.2.2.2.2.2.2.2.2.2.2.2.2.2.2.1 k0_h16
theorem k0_off54_inb : ∀ (i : grid0.Coords) (v0 : BitVec 32) (k0_hw5 : k0_chk5 i v0), ∀ (k0_h17 : k0_cond17 i = 1#1), ∀ a, (k0_off54 v0) a + S256x256.size a ≤ S4096x256.size a := fun i v0 k0_hw5 k0_h17 => k0_hw5.2.2.1.2.2.2.2.2.2.2.2.2.2.2.2.2.2.2.1 k0_h17
theorem k0_off55_inb : ∀ (i : grid0.Coords) (v0 : BitVec 32) (k0_hw5 : k0_chk5 i v0), ∀ (k0_h17 : k0_cond17 i = 1#1), ∀ a, (k0_off55 v0) a + S1x256x256.size a ≤ S16x256x256.size a := fun i v0 k0_hw5 k0_h17 => k0_hw5.2.2.1.2.2.2.2.2.2.2.2.2.2.2.2.2.2.2.2.1 k0_h17
theorem k0_off55_wordsbf16 : ∀ (i : grid0.Coords) (v0 : BitVec 32) (k0_hw5 : k0_chk5 i v0), ∀ (k0_h17 : k0_cond17 i = 1#1), (Rect.unit (s := S16x256x256) (k0_off55 v0) S1x256x256.size (k0_off55_inb i v0 k0_hw5 k0_h17)).WholeWords (EltTy.packing .bf16) := fun i v0 k0_hw5 k0_h17 => k0_hw5.2.2.1.2.2.2.2.2.2.2.2.2.2.2.2.2.2.2.2.2.1 k0_h17 (k0_off55_inb i v0 k0_hw5 k0_h17)
theorem k0_off54_wordsbf16 : ∀ (i : grid0.Coords) (v0 : BitVec 32) (k0_hw5 : k0_chk5 i v0), ∀ (k0_h17 : k0_cond17 i = 1#1), (Rect.unit (s := S4096x256) (k0_off54 v0) S256x256.size (k0_off54_inb i v0 k0_hw5 k0_h17)).WholeWords (EltTy.packing .bf16) := fun i v0 k0_hw5 k0_h17 => k0_hw5.2.2.1.2.2.2.2.2.2.2.2.2.2.2.2.2.2.2.2.2.2.1 k0_h17 (k0_off54_inb i v0 k0_hw5 k0_h17)
theorem k0_off56_inb : ∀ (i : grid0.Coords) (v0 : BitVec 32) (k0_hw5 : k0_chk5 i v0), ∀ (k0_h18 : k0_cond18 i = 1#1), ∀ a, (k0_off56 v0) a + S1.size a ≤ S16.size a := fun i v0 k0_hw5 k0_h18 => k0_hw5.2.2.1.2.2.2.2.2.2.2.2.2.2.2.2.2.2.2.2.2.2.2.1 k0_h18
theorem k0_off57_inb : ∀ (i : grid0.Coords) (v0 : BitVec 32) (k0_hw5 : k0_chk5 i v0), ∀ (k0_h18 : k0_cond18 i = 1#1), ∀ a, (k0_off57 v0) a + S1x256x256.size a ≤ S16x256x256.size a := fun i v0 k0_hw5 k0_h18 => k0_hw5.2.2.1.2.2.2.2.2.2.2.2.2.2.2.2.2.2.2.2.2.2.2.2.1 k0_h18
theorem k0_off58_inb : ∀ (i : grid0.Coords) (v0 : BitVec 32) (k0_hw5 : k0_chk5 i v0), ∀ (k0_h18 : k0_cond18 i = 1#1), ∀ a, (k0_off58 v0) a + S256x256.size a ≤ S4096x256.size a := fun i v0 k0_hw5 k0_h18 => k0_hw5.2.2.1.2.2.2.2.2.2.2.2.2.2.2.2.2.2.2.2.2.2.2.2.2.1 k0_h18
theorem k0_off58_wordsbf16 : ∀ (i : grid0.Coords) (v0 : BitVec 32) (k0_hw5 : k0_chk5 i v0), ∀ (k0_h18 : k0_cond18 i = 1#1), (Rect.unit (s := S4096x256) (k0_off58 v0) S256x256.size (k0_off58_inb i v0 k0_hw5 k0_h18)).WholeWords (EltTy.packing .bf16) := fun i v0 k0_hw5 k0_h18 => k0_hw5.2.2.1.2.2.2.2.2.2.2.2.2.2.2.2.2.2.2.2.2.2.2.2.2.2.1 k0_h18 (k0_off58_inb i v0 k0_hw5 k0_h18)
theorem k0_off57_wordsbf16 : ∀ (i : grid0.Coords) (v0 : BitVec 32) (k0_hw5 : k0_chk5 i v0), ∀ (k0_h18 : k0_cond18 i = 1#1), (Rect.unit (s := S16x256x256) (k0_off57 v0) S1x256x256.size (k0_off57_inb i v0 k0_hw5 k0_h18)).WholeWords (EltTy.packing .bf16) := fun i v0 k0_hw5 k0_h18 => k0_hw5.2.2.1.2.2.2.2.2.2.2.2.2.2.2.2.2.2.2.2.2.2.2.2.2.2.2.1 k0_h18 (k0_off57_inb i v0 k0_hw5 k0_h18)
theorem k0_dev25_lt : ∀ (i : grid0.Coords) (v0 : BitVec 32) (k0_hw5 : k0_chk5 i v0), ∀ (k0_h18 : k0_cond18 i = 1#1), (k0_dev25 v0) < nD := fun i v0 k0_hw5 k0_h18 => k0_hw5.2.2.1.2.2.2.2.2.2.2.2.2.2.2.2.2.2.2.2.2.2.2.2.2.2.2.2.1 k0_h18
theorem k0_off59_inb : ∀ (i : grid0.Coords) (v0 : BitVec 32) (k0_hw5 : k0_chk5 i v0), ∀ (k0_h19 : k0_cond19 i = 1#1), ∀ a, (k0_off59 v0) a + S256x256.size a ≤ S4096x256.size a := fun i v0 k0_hw5 k0_h19 => k0_hw5.2.2.1.2.2.2.2.2.2.2.2.2.2.2.2.2.2.2.2.2.2.2.2.2.2.2.2.2.1 k0_h19
theorem k0_off60_inb : ∀ (i : grid0.Coords) (v0 : BitVec 32) (k0_hw5 : k0_chk5 i v0), ∀ (k0_h19 : k0_cond19 i = 1#1), ∀ a, (k0_off60 v0) a + S1x256x256.size a ≤ S16x256x256.size a := fun i v0 k0_hw5 k0_h19 => k0_hw5.2.2.1.2.2.2.2.2.2.2.2.2.2.2.2.2.2.2.2.2.2.2.2.2.2.2.2.2.2.1 k0_h19
theorem k0_off60_wordsbf16 : ∀ (i : grid0.Coords) (v0 : BitVec 32) (k0_hw5 : k0_chk5 i v0), ∀ (k0_h19 : k0_cond19 i = 1#1), (Rect.unit (s := S16x256x256) (k0_off60 v0) S1x256x256.size (k0_off60_inb i v0 k0_hw5 k0_h19)).WholeWords (EltTy.packing .bf16) := fun i v0 k0_hw5 k0_h19 => k0_hw5.2.2.1.2.2.2.2.2.2.2.2.2.2.2.2.2.2.2.2.2.2.2.2.2.2.2.2.2.2.2.1 k0_h19 (k0_off60_inb i v0 k0_hw5 k0_h19)
theorem k0_off59_wordsbf16 : ∀ (i : grid0.Coords) (v0 : BitVec 32) (k0_hw5 : k0_chk5 i v0), ∀ (k0_h19 : k0_cond19 i = 1#1), (Rect.unit (s := S4096x256) (k0_off59 v0) S256x256.size (k0_off59_inb i v0 k0_hw5 k0_h19)).WholeWords (EltTy.packing .bf16) := fun i v0 k0_hw5 k0_h19 => k0_hw5.2.2.1.2.2.2.2.2.2.2.2.2.2.2.2.2.2.2.2.2.2.2.2.2.2.2.2.2.2.2.2.1 k0_h19 (k0_off59_inb i v0 k0_hw5 k0_h19)
theorem k0_off61_inb : ∀ (i : grid0.Coords) (v0 : BitVec 32) (k0_hw5 : k0_chk5 i v0), ∀ (k0_h20 : k0_cond20 i = 1#1), ∀ a, (k0_off61 v0) a + S1.size a ≤ S16.size a := fun i v0 k0_hw5 k0_h20 => k0_hw5.2.2.1.2.2.2.2.2.2.2.2.2.2.2.2.2.2.2.2.2.2.2.2.2.2.2.2.2.2.2.2.2.1 k0_h20
theorem k0_off62_inb : ∀ (i : grid0.Coords) (v0 : BitVec 32) (k0_hw5 : k0_chk5 i v0), ∀ (k0_h20 : k0_cond20 i = 1#1), ∀ a, (k0_off62 v0) a + S1x256x256.size a ≤ S16x256x256.size a := fun i v0 k0_hw5 k0_h20 => k0_hw5.2.2.1.2.2.2.2.2.2.2.2.2.2.2.2.2.2.2.2.2.2.2.2.2.2.2.2.2.2.2.2.2.2.1 k0_h20
theorem k0_off63_inb : ∀ (i : grid0.Coords) (v0 : BitVec 32) (k0_hw5 : k0_chk5 i v0), ∀ (k0_h20 : k0_cond20 i = 1#1), ∀ a, (k0_off63 v0) a + S256x256.size a ≤ S4096x256.size a := fun i v0 k0_hw5 k0_h20 => k0_hw5.2.2.1.2.2.2.2.2.2.2.2.2.2.2.2.2.2.2.2.2.2.2.2.2.2.2.2.2.2.2.2.2.2.2 k0_h20
theorem k0_off63_wordsbf16 : ∀ (i : grid0.Coords) (v0 : BitVec 32) (k0_hw5 : k0_chk5 i v0), ∀ (k0_h20 : k0_cond20 i = 1#1), (Rect.unit (s := S4096x256) (k0_off63 v0) S256x256.size (k0_off63_inb i v0 k0_hw5 k0_h20)).WholeWords (EltTy.packing .bf16) := fun i v0 k0_hw5 k0_h20 => k0_hw5.2.2.2.1.1 k0_h20 (k0_off63_inb i v0 k0_hw5 k0_h20)
theorem k0_off62_wordsbf16 : ∀ (i : grid0.Coords) (v0 : BitVec 32) (k0_hw5 : k0_chk5 i v0), ∀ (k0_h20 : k0_cond20 i = 1#1), (Rect.unit (s := S16x256x256) (k0_off62 v0) S1x256x256.size (k0_off62_inb i v0 k0_hw5 k0_h20)).WholeWords (EltTy.packing .bf16) := fun i v0 k0_hw5 k0_h20 => k0_hw5.2.2.2.1.2.1 k0_h20 (k0_off62_inb i v0 k0_hw5 k0_h20)
theorem k0_dev26_lt : ∀ (i : grid0.Coords) (v0 : BitVec 32) (k0_hw5 : k0_chk5 i v0), ∀ (k0_h20 : k0_cond20 i = 1#1), (k0_dev26 v0) < nD := fun i v0 k0_hw5 k0_h20 => k0_hw5.2.2.2.1.2.2.1 k0_h20
theorem k0_off64_inb : ∀ (i : grid0.Coords) (v0 : BitVec 32) (k0_hw5 : k0_chk5 i v0), ∀ (k0_h21 : k0_cond21 i = 1#1), ∀ a, (k0_off64 v0) a + S256x256.size a ≤ S4096x256.size a := fun i v0 k0_hw5 k0_h21 => k0_hw5.2.2.2.1.2.2.2.1 k0_h21
theorem k0_off65_inb : ∀ (i : grid0.Coords) (v0 : BitVec 32) (k0_hw5 : k0_chk5 i v0), ∀ (k0_h21 : k0_cond21 i = 1#1), ∀ a, (k0_off65 v0) a + S1x256x256.size a ≤ S16x256x256.size a := fun i v0 k0_hw5 k0_h21 => k0_hw5.2.2.2.1.2.2.2.2.1 k0_h21
theorem k0_off65_wordsbf16 : ∀ (i : grid0.Coords) (v0 : BitVec 32) (k0_hw5 : k0_chk5 i v0), ∀ (k0_h21 : k0_cond21 i = 1#1), (Rect.unit (s := S16x256x256) (k0_off65 v0) S1x256x256.size (k0_off65_inb i v0 k0_hw5 k0_h21)).WholeWords (EltTy.packing .bf16) := fun i v0 k0_hw5 k0_h21 => k0_hw5.2.2.2.1.2.2.2.2.2.1 k0_h21 (k0_off65_inb i v0 k0_hw5 k0_h21)
theorem k0_off64_wordsbf16 : ∀ (i : grid0.Coords) (v0 : BitVec 32) (k0_hw5 : k0_chk5 i v0), ∀ (k0_h21 : k0_cond21 i = 1#1), (Rect.unit (s := S4096x256) (k0_off64 v0) S256x256.size (k0_off64_inb i v0 k0_hw5 k0_h21)).WholeWords (EltTy.packing .bf16) := fun i v0 k0_hw5 k0_h21 => k0_hw5.2.2.2.1.2.2.2.2.2.2.1 k0_h21 (k0_off64_inb i v0 k0_hw5 k0_h21)
theorem k0_off66_inb : ∀ (i : grid0.Coords) (v0 : BitVec 32) (k0_hw5 : k0_chk5 i v0), ∀ (k0_h22 : k0_cond22 i = 1#1), ∀ a, (k0_off66 v0) a + S1.size a ≤ S16.size a := fun i v0 k0_hw5 k0_h22 => k0_hw5.2.2.2.1.2.2.2.2.2.2.2.1 k0_h22
theorem k0_off67_inb : ∀ (i : grid0.Coords) (v0 : BitVec 32) (k0_hw5 : k0_chk5 i v0), ∀ (k0_h22 : k0_cond22 i = 1#1), ∀ a, (k0_off67 v0) a + S1x256x256.size a ≤ S16x256x256.size a := fun i v0 k0_hw5 k0_h22 => k0_hw5.2.2.2.1.2.2.2.2.2.2.2.2.1 k0_h22
theorem k0_off68_inb : ∀ (i : grid0.Coords) (v0 : BitVec 32) (k0_hw5 : k0_chk5 i v0), ∀ (k0_h22 : k0_cond22 i = 1#1), ∀ a, (k0_off68 v0) a + S256x256.size a ≤ S4096x256.size a := fun i v0 k0_hw5 k0_h22 => k0_hw5.2.2.2.1.2.2.2.2.2.2.2.2.2.1 k0_h22
theorem k0_off68_wordsbf16 : ∀ (i : grid0.Coords) (v0 : BitVec 32) (k0_hw5 : k0_chk5 i v0), ∀ (k0_h22 : k0_cond22 i = 1#1), (Rect.unit (s := S4096x256) (k0_off68 v0) S256x256.size (k0_off68_inb i v0 k0_hw5 k0_h22)).WholeWords (EltTy.packing .bf16) := fun i v0 k0_hw5 k0_h22 => k0_hw5.2.2.2.1.2.2.2.2.2.2.2.2.2.2.1 k0_h22 (k0_off68_inb i v0 k0_hw5 k0_h22)
theorem k0_off67_wordsbf16 : ∀ (i : grid0.Coords) (v0 : BitVec 32) (k0_hw5 : k0_chk5 i v0), ∀ (k0_h22 : k0_cond22 i = 1#1), (Rect.unit (s := S16x256x256) (k0_off67 v0) S1x256x256.size (k0_off67_inb i v0 k0_hw5 k0_h22)).WholeWords (EltTy.packing .bf16) := fun i v0 k0_hw5 k0_h22 => k0_hw5.2.2.2.1.2.2.2.2.2.2.2.2.2.2.2.1 k0_h22 (k0_off67_inb i v0 k0_hw5 k0_h22)
theorem k0_dev27_lt : ∀ (i : grid0.Coords) (v0 : BitVec 32) (k0_hw5 : k0_chk5 i v0), ∀ (k0_h22 : k0_cond22 i = 1#1), (k0_dev27 v0) < nD := fun i v0 k0_hw5 k0_h22 => k0_hw5.2.2.2.1.2.2.2.2.2.2.2.2.2.2.2.2.1 k0_h22
theorem k0_off69_inb : ∀ (i : grid0.Coords) (v0 : BitVec 32) (k0_hw5 : k0_chk5 i v0), ∀ (k0_h23 : k0_cond23 i = 1#1), ∀ a, (k0_off69 v0) a + S256x256.size a ≤ S4096x256.size a := fun i v0 k0_hw5 k0_h23 => k0_hw5.2.2.2.1.2.2.2.2.2.2.2.2.2.2.2.2.2.1 k0_h23
theorem k0_off70_inb : ∀ (i : grid0.Coords) (v0 : BitVec 32) (k0_hw5 : k0_chk5 i v0), ∀ (k0_h23 : k0_cond23 i = 1#1), ∀ a, (k0_off70 v0) a + S1x256x256.size a ≤ S16x256x256.size a := fun i v0 k0_hw5 k0_h23 => k0_hw5.2.2.2.1.2.2.2.2.2.2.2.2.2.2.2.2.2.2.1 k0_h23
theorem k0_off70_wordsbf16 : ∀ (i : grid0.Coords) (v0 : BitVec 32) (k0_hw5 : k0_chk5 i v0), ∀ (k0_h23 : k0_cond23 i = 1#1), (Rect.unit (s := S16x256x256) (k0_off70 v0) S1x256x256.size (k0_off70_inb i v0 k0_hw5 k0_h23)).WholeWords (EltTy.packing .bf16) := fun i v0 k0_hw5 k0_h23 => k0_hw5.2.2.2.1.2.2.2.2.2.2.2.2.2.2.2.2.2.2.2.1 k0_h23 (k0_off70_inb i v0 k0_hw5 k0_h23)
theorem k0_off69_wordsbf16 : ∀ (i : grid0.Coords) (v0 : BitVec 32) (k0_hw5 : k0_chk5 i v0), ∀ (k0_h23 : k0_cond23 i = 1#1), (Rect.unit (s := S4096x256) (k0_off69 v0) S256x256.size (k0_off69_inb i v0 k0_hw5 k0_h23)).WholeWords (EltTy.packing .bf16) := fun i v0 k0_hw5 k0_h23 => k0_hw5.2.2.2.1.2.2.2.2.2.2.2.2.2.2.2.2.2.2.2.2.1 k0_h23 (k0_off69_inb i v0 k0_hw5 k0_h23)
theorem k0_off71_inb : ∀ (i : grid0.Coords) (v0 : BitVec 32) (k0_hw5 : k0_chk5 i v0), ∀ (k0_h24 : k0_cond24 i = 1#1), ∀ a, (k0_off71 v0) a + S1.size a ≤ S16.size a := fun i v0 k0_hw5 k0_h24 => k0_hw5.2.2.2.1.2.2.2.2.2.2.2.2.2.2.2.2.2.2.2.2.2.1 k0_h24
theorem k0_off72_inb : ∀ (i : grid0.Coords) (v0 : BitVec 32) (k0_hw5 : k0_chk5 i v0), ∀ (k0_h24 : k0_cond24 i = 1#1), ∀ a, (k0_off72 v0) a + S1x256x256.size a ≤ S16x256x256.size a := fun i v0 k0_hw5 k0_h24 => k0_hw5.2.2.2.1.2.2.2.2.2.2.2.2.2.2.2.2.2.2.2.2.2.2.1 k0_h24
theorem k0_off73_inb : ∀ (i : grid0.Coords) (v0 : BitVec 32) (k0_hw5 : k0_chk5 i v0), ∀ (k0_h24 : k0_cond24 i = 1#1), ∀ a, (k0_off73 v0) a + S256x256.size a ≤ S4096x256.size a := fun i v0 k0_hw5 k0_h24 => k0_hw5.2.2.2.1.2.2.2.2.2.2.2.2.2.2.2.2.2.2.2.2.2.2.2.1 k0_h24
theorem k0_off73_wordsbf16 : ∀ (i : grid0.Coords) (v0 : BitVec 32) (k0_hw5 : k0_chk5 i v0), ∀ (k0_h24 : k0_cond24 i = 1#1), (Rect.unit (s := S4096x256) (k0_off73 v0) S256x256.size (k0_off73_inb i v0 k0_hw5 k0_h24)).WholeWords (EltTy.packing .bf16) := fun i v0 k0_hw5 k0_h24 => k0_hw5.2.2.2.1.2.2.2.2.2.2.2.2.2.2.2.2.2.2.2.2.2.2.2.2.1 k0_h24 (k0_off73_inb i v0 k0_hw5 k0_h24)
theorem k0_off72_wordsbf16 : ∀ (i : grid0.Coords) (v0 : BitVec 32) (k0_hw5 : k0_chk5 i v0), ∀ (k0_h24 : k0_cond24 i = 1#1), (Rect.unit (s := S16x256x256) (k0_off72 v0) S1x256x256.size (k0_off72_inb i v0 k0_hw5 k0_h24)).WholeWords (EltTy.packing .bf16) := fun i v0 k0_hw5 k0_h24 => k0_hw5.2.2.2.1.2.2.2.2.2.2.2.2.2.2.2.2.2.2.2.2.2.2.2.2.2.1 k0_h24 (k0_off72_inb i v0 k0_hw5 k0_h24)
theorem k0_dev28_lt : ∀ (i : grid0.Coords) (v0 : BitVec 32) (k0_hw5 : k0_chk5 i v0), ∀ (k0_h24 : k0_cond24 i = 1#1), (k0_dev28 v0) < nD := fun i v0 k0_hw5 k0_h24 => k0_hw5.2.2.2.1.2.2.2.2.2.2.2.2.2.2.2.2.2.2.2.2.2.2.2.2.2.2.1 k0_h24
theorem k0_off74_inb : ∀ (i : grid0.Coords) (v0 : BitVec 32) (k0_hw5 : k0_chk5 i v0), ∀ (k0_h25 : k0_cond25 i = 1#1), ∀ a, (k0_off74 v0) a + S256x256.size a ≤ S4096x256.size a := fun i v0 k0_hw5 k0_h25 => k0_hw5.2.2.2.1.2.2.2.2.2.2.2.2.2.2.2.2.2.2.2.2.2.2.2.2.2.2.2.1 k0_h25
theorem k0_off75_inb : ∀ (i : grid0.Coords) (v0 : BitVec 32) (k0_hw5 : k0_chk5 i v0), ∀ (k0_h25 : k0_cond25 i = 1#1), ∀ a, (k0_off75 v0) a + S1x256x256.size a ≤ S16x256x256.size a := fun i v0 k0_hw5 k0_h25 => k0_hw5.2.2.2.1.2.2.2.2.2.2.2.2.2.2.2.2.2.2.2.2.2.2.2.2.2.2.2.2.1 k0_h25
theorem k0_off75_wordsbf16 : ∀ (i : grid0.Coords) (v0 : BitVec 32) (k0_hw5 : k0_chk5 i v0), ∀ (k0_h25 : k0_cond25 i = 1#1), (Rect.unit (s := S16x256x256) (k0_off75 v0) S1x256x256.size (k0_off75_inb i v0 k0_hw5 k0_h25)).WholeWords (EltTy.packing .bf16) := fun i v0 k0_hw5 k0_h25 => k0_hw5.2.2.2.1.2.2.2.2.2.2.2.2.2.2.2.2.2.2.2.2.2.2.2.2.2.2.2.2.2.1 k0_h25 (k0_off75_inb i v0 k0_hw5 k0_h25)
theorem k0_off74_wordsbf16 : ∀ (i : grid0.Coords) (v0 : BitVec 32) (k0_hw5 : k0_chk5 i v0), ∀ (k0_h25 : k0_cond25 i = 1#1), (Rect.unit (s := S4096x256) (k0_off74 v0) S256x256.size (k0_off74_inb i v0 k0_hw5 k0_h25)).WholeWords (EltTy.packing .bf16) := fun i v0 k0_hw5 k0_h25 => k0_hw5.2.2.2.1.2.2.2.2.2.2.2.2.2.2.2.2.2.2.2.2.2.2.2.2.2.2.2.2.2.2.1 k0_h25 (k0_off74_inb i v0 k0_hw5 k0_h25)
theorem k0_off76_inb : ∀ (i : grid0.Coords) (v0 : BitVec 32) (k0_hw5 : k0_chk5 i v0), ∀ (k0_h26 : k0_cond26 i = 1#1), ∀ a, (k0_off76 v0) a + S1.size a ≤ S16.size a := fun i v0 k0_hw5 k0_h26 => k0_hw5.2.2.2.1.2.2.2.2.2.2.2.2.2.2.2.2.2.2.2.2.2.2.2.2.2.2.2.2.2.2.2.1 k0_h26
theorem k0_off77_inb : ∀ (i : grid0.Coords) (v0 : BitVec 32) (k0_hw5 : k0_chk5 i v0), ∀ (k0_h26 : k0_cond26 i = 1#1), ∀ a, (k0_off77 v0) a + S1x256x256.size a ≤ S16x256x256.size a := fun i v0 k0_hw5 k0_h26 => k0_hw5.2.2.2.1.2.2.2.2.2.2.2.2.2.2.2.2.2.2.2.2.2.2.2.2.2.2.2.2.2.2.2.2.1 k0_h26
theorem k0_off78_inb : ∀ (i : grid0.Coords) (v0 : BitVec 32) (k0_hw5 : k0_chk5 i v0), ∀ (k0_h26 : k0_cond26 i = 1#1), ∀ a, (k0_off78 v0) a + S256x256.size a ≤ S4096x256.size a := fun i v0 k0_hw5 k0_h26 => k0_hw5.2.2.2.1.2.2.2.2.2.2.2.2.2.2.2.2.2.2.2.2.2.2.2.2.2.2.2.2.2.2.2.2.2.1 k0_h26
theorem k0_off78_wordsbf16 : ∀ (i : grid0.Coords) (v0 : BitVec 32) (k0_hw5 : k0_chk5 i v0), ∀ (k0_h26 : k0_cond26 i = 1#1), (Rect.unit (s := S4096x256) (k0_off78 v0) S256x256.size (k0_off78_inb i v0 k0_hw5 k0_h26)).WholeWords (EltTy.packing .bf16) := fun i v0 k0_hw5 k0_h26 => k0_hw5.2.2.2.1.2.2.2.2.2.2.2.2.2.2.2.2.2.2.2.2.2.2.2.2.2.2.2.2.2.2.2.2.2.2.1 k0_h26 (k0_off78_inb i v0 k0_hw5 k0_h26)
theorem k0_off77_wordsbf16 : ∀ (i : grid0.Coords) (v0 : BitVec 32) (k0_hw5 : k0_chk5 i v0), ∀ (k0_h26 : k0_cond26 i = 1#1), (Rect.unit (s := S16x256x256) (k0_off77 v0) S1x256x256.size (k0_off77_inb i v0 k0_hw5 k0_h26)).WholeWords (EltTy.packing .bf16) := fun i v0 k0_hw5 k0_h26 => k0_hw5.2.2.2.1.2.2.2.2.2.2.2.2.2.2.2.2.2.2.2.2.2.2.2.2.2.2.2.2.2.2.2.2.2.2.2 k0_h26 (k0_off77_inb i v0 k0_hw5 k0_h26)
theorem k0_dev29_lt : ∀ (i : grid0.Coords) (v0 : BitVec 32) (k0_hw5 : k0_chk5 i v0), ∀ (k0_h26 : k0_cond26 i = 1#1), (k0_dev29 v0) < nD := fun i v0 k0_hw5 k0_h26 => k0_hw5.2.2.2.2.1 k0_h26
theorem k0_off79_inb : ∀ (i : grid0.Coords) (v0 : BitVec 32) (k0_hw5 : k0_chk5 i v0), ∀ (k0_h27 : k0_cond27 i = 1#1), ∀ a, (k0_off79 v0) a + S256x256.size a ≤ S4096x256.size a := fun i v0 k0_hw5 k0_h27 => k0_hw5.2.2.2.2.2.1 k0_h27
theorem k0_off80_inb : ∀ (i : grid0.Coords) (v0 : BitVec 32) (k0_hw5 : k0_chk5 i v0), ∀ (k0_h27 : k0_cond27 i = 1#1), ∀ a, (k0_off80 v0) a + S1x256x256.size a ≤ S16x256x256.size a := fun i v0 k0_hw5 k0_h27 => k0_hw5.2.2.2.2.2.2.1 k0_h27
theorem k0_off80_wordsbf16 : ∀ (i : grid0.Coords) (v0 : BitVec 32) (k0_hw5 : k0_chk5 i v0), ∀ (k0_h27 : k0_cond27 i = 1#1), (Rect.unit (s := S16x256x256) (k0_off80 v0) S1x256x256.size (k0_off80_inb i v0 k0_hw5 k0_h27)).WholeWords (EltTy.packing .bf16) := fun i v0 k0_hw5 k0_h27 => k0_hw5.2.2.2.2.2.2.2.1 k0_h27 (k0_off80_inb i v0 k0_hw5 k0_h27)
theorem k0_off79_wordsbf16 : ∀ (i : grid0.Coords) (v0 : BitVec 32) (k0_hw5 : k0_chk5 i v0), ∀ (k0_h27 : k0_cond27 i = 1#1), (Rect.unit (s := S4096x256) (k0_off79 v0) S256x256.size (k0_off79_inb i v0 k0_hw5 k0_h27)).WholeWords (EltTy.packing .bf16) := fun i v0 k0_hw5 k0_h27 => k0_hw5.2.2.2.2.2.2.2.2.1 k0_h27 (k0_off79_inb i v0 k0_hw5 k0_h27)
theorem k0_off81_inb : ∀ (i : grid0.Coords) (v0 : BitVec 32) (k0_hw5 : k0_chk5 i v0), ∀ (k0_h28 : k0_cond28 i = 1#1), ∀ a, (k0_off81 v0) a + S1.size a ≤ S16.size a := fun i v0 k0_hw5 k0_h28 => k0_hw5.2.2.2.2.2.2.2.2.2.1 k0_h28
theorem k0_off82_inb : ∀ (i : grid0.Coords) (v0 : BitVec 32) (k0_hw5 : k0_chk5 i v0), ∀ (k0_h28 : k0_cond28 i = 1#1), ∀ a, (k0_off82 v0) a + S1x256x256.size a ≤ S16x256x256.size a := fun i v0 k0_hw5 k0_h28 => k0_hw5.2.2.2.2.2.2.2.2.2.2.1 k0_h28
theorem k0_off83_inb : ∀ (i : grid0.Coords) (v0 : BitVec 32) (k0_hw5 : k0_chk5 i v0), ∀ (k0_h28 : k0_cond28 i = 1#1), ∀ a, (k0_off83 v0) a + S256x256.size a ≤ S4096x256.size a := fun i v0 k0_hw5 k0_h28 => k0_hw5.2.2.2.2.2.2.2.2.2.2.2.1 k0_h28
theorem k0_off83_wordsbf16 : ∀ (i : grid0.Coords) (v0 : BitVec 32) (k0_hw5 : k0_chk5 i v0), ∀ (k0_h28 : k0_cond28 i = 1#1), (Rect.unit (s := S4096x256) (k0_off83 v0) S256x256.size (k0_off83_inb i v0 k0_hw5 k0_h28)).WholeWords (EltTy.packing .bf16) := fun i v0 k0_hw5 k0_h28 => k0_hw5.2.2.2.2.2.2.2.2.2.2.2.2.1 k0_h28 (k0_off83_inb i v0 k0_hw5 k0_h28)
theorem k0_off82_wordsbf16 : ∀ (i : grid0.Coords) (v0 : BitVec 32) (k0_hw5 : k0_chk5 i v0), ∀ (k0_h28 : k0_cond28 i = 1#1), (Rect.unit (s := S16x256x256) (k0_off82 v0) S1x256x256.size (k0_off82_inb i v0 k0_hw5 k0_h28)).WholeWords (EltTy.packing .bf16) := fun i v0 k0_hw5 k0_h28 => k0_hw5.2.2.2.2.2.2.2.2.2.2.2.2.2.1 k0_h28 (k0_off82_inb i v0 k0_hw5 k0_h28)
theorem k0_dev30_lt : ∀ (i : grid0.Coords) (v0 : BitVec 32) (k0_hw5 : k0_chk5 i v0), ∀ (k0_h28 : k0_cond28 i = 1#1), (k0_dev30 v0) < nD := fun i v0 k0_hw5 k0_h28 => k0_hw5.2.2.2.2.2.2.2.2.2.2.2.2.2.2.1 k0_h28
theorem k0_off84_inb : ∀ (i : grid0.Coords) (v0 : BitVec 32) (k0_hw5 : k0_chk5 i v0), ∀ (k0_h29 : k0_cond29 i = 1#1), ∀ a, (k0_off84 v0) a + S256x256.size a ≤ S4096x256.size a := fun i v0 k0_hw5 k0_h29 => k0_hw5.2.2.2.2.2.2.2.2.2.2.2.2.2.2.2.1 k0_h29
theorem k0_off85_inb : ∀ (i : grid0.Coords) (v0 : BitVec 32) (k0_hw5 : k0_chk5 i v0), ∀ (k0_h29 : k0_cond29 i = 1#1), ∀ a, (k0_off85 v0) a + S1x256x256.size a ≤ S16x256x256.size a := fun i v0 k0_hw5 k0_h29 => k0_hw5.2.2.2.2.2.2.2.2.2.2.2.2.2.2.2.2.1 k0_h29
theorem k0_off85_wordsbf16 : ∀ (i : grid0.Coords) (v0 : BitVec 32) (k0_hw5 : k0_chk5 i v0), ∀ (k0_h29 : k0_cond29 i = 1#1), (Rect.unit (s := S16x256x256) (k0_off85 v0) S1x256x256.size (k0_off85_inb i v0 k0_hw5 k0_h29)).WholeWords (EltTy.packing .bf16) := fun i v0 k0_hw5 k0_h29 => k0_hw5.2.2.2.2.2.2.2.2.2.2.2.2.2.2.2.2.2.1 k0_h29 (k0_off85_inb i v0 k0_hw5 k0_h29)
theorem k0_off84_wordsbf16 : ∀ (i : grid0.Coords) (v0 : BitVec 32) (k0_hw5 : k0_chk5 i v0), ∀ (k0_h29 : k0_cond29 i = 1#1), (Rect.unit (s := S4096x256) (k0_off84 v0) S256x256.size (k0_off84_inb i v0 k0_hw5 k0_h29)).WholeWords (EltTy.packing .bf16) := fun i v0 k0_hw5 k0_h29 => k0_hw5.2.2.2.2.2.2.2.2.2.2.2.2.2.2.2.2.2.2.1 k0_h29 (k0_off84_inb i v0 k0_hw5 k0_h29)
theorem k0_off86_inb : ∀ (i : grid0.Coords) (v0 : BitVec 32) (k0_hw5 : k0_chk5 i v0), ∀ (k0_h30 : k0_cond30 i = 1#1), ∀ a, (k0_off86 v0) a + S1.size a ≤ S16.size a := fun i v0 k0_hw5 k0_h30 => k0_hw5.2.2.2.2.2.2.2.2.2.2.2.2.2.2.2.2.2.2.2.1 k0_h30
theorem k0_off87_inb : ∀ (i : grid0.Coords) (v0 : BitVec 32) (k0_hw5 : k0_chk5 i v0), ∀ (k0_h30 : k0_cond30 i = 1#1), ∀ a, (k0_off87 v0) a + S1x256x256.size a ≤ S16x256x256.size a := fun i v0 k0_hw5 k0_h30 => k0_hw5.2.2.2.2.2.2.2.2.2.2.2.2.2.2.2.2.2.2.2.2.1 k0_h30
theorem k0_off88_inb : ∀ (i : grid0.Coords) (v0 : BitVec 32) (k0_hw5 : k0_chk5 i v0), ∀ (k0_h30 : k0_cond30 i = 1#1), ∀ a, (k0_off88 v0) a + S256x256.size a ≤ S4096x256.size a := fun i v0 k0_hw5 k0_h30 => k0_hw5.2.2.2.2.2.2.2.2.2.2.2.2.2.2.2.2.2.2.2.2.2.1 k0_h30
theorem k0_off88_wordsbf16 : ∀ (i : grid0.Coords) (v0 : BitVec 32) (k0_hw5 : k0_chk5 i v0), ∀ (k0_h30 : k0_cond30 i = 1#1), (Rect.unit (s := S4096x256) (k0_off88 v0) S256x256.size (k0_off88_inb i v0 k0_hw5 k0_h30)).WholeWords (EltTy.packing .bf16) := fun i v0 k0_hw5 k0_h30 => k0_hw5.2.2.2.2.2.2.2.2.2.2.2.2.2.2.2.2.2.2.2.2.2.2.1 k0_h30 (k0_off88_inb i v0 k0_hw5 k0_h30)
theorem k0_off87_wordsbf16 : ∀ (i : grid0.Coords) (v0 : BitVec 32) (k0_hw5 : k0_chk5 i v0), ∀ (k0_h30 : k0_cond30 i = 1#1), (Rect.unit (s := S16x256x256) (k0_off87 v0) S1x256x256.size (k0_off87_inb i v0 k0_hw5 k0_h30)).WholeWords (EltTy.packing .bf16) := fun i v0 k0_hw5 k0_h30 => k0_hw5.2.2.2.2.2.2.2.2.2.2.2.2.2.2.2.2.2.2.2.2.2.2.2.1 k0_h30 (k0_off87_inb i v0 k0_hw5 k0_h30)
theorem k0_dev31_lt : ∀ (i : grid0.Coords) (v0 : BitVec 32) (k0_hw5 : k0_chk5 i v0), ∀ (k0_h30 : k0_cond30 i = 1#1), (k0_dev31 v0) < nD := fun i v0 k0_hw5 k0_h30 => k0_hw5.2.2.2.2.2.2.2.2.2.2.2.2.2.2.2.2.2.2.2.2.2.2.2.2.1 k0_h30
theorem k0_off89_inb : ∀ (i : grid0.Coords) (v0 : BitVec 32) (k0_hw5 : k0_chk5 i v0), ∀ (k0_h31 : k0_cond31 i = 1#1), ∀ a, (k0_off89 v0) a + S256x256.size a ≤ S4096x256.size a := fun i v0 k0_hw5 k0_h31 => k0_hw5.2.2.2.2.2.2.2.2.2.2.2.2.2.2.2.2.2.2.2.2.2.2.2.2.2.1 k0_h31
theorem k0_off90_inb : ∀ (i : grid0.Coords) (v0 : BitVec 32) (k0_hw5 : k0_chk5 i v0), ∀ (k0_h31 : k0_cond31 i = 1#1), ∀ a, (k0_off90 v0) a + S1x256x256.size a ≤ S16x256x256.size a := fun i v0 k0_hw5 k0_h31 => k0_hw5.2.2.2.2.2.2.2.2.2.2.2.2.2.2.2.2.2.2.2.2.2.2.2.2.2.2.1 k0_h31
theorem k0_off90_wordsbf16 : ∀ (i : grid0.Coords) (v0 : BitVec 32) (k0_hw5 : k0_chk5 i v0), ∀ (k0_h31 : k0_cond31 i = 1#1), (Rect.unit (s := S16x256x256) (k0_off90 v0) S1x256x256.size (k0_off90_inb i v0 k0_hw5 k0_h31)).WholeWords (EltTy.packing .bf16) := fun i v0 k0_hw5 k0_h31 => k0_hw5.2.2.2.2.2.2.2.2.2.2.2.2.2.2.2.2.2.2.2.2.2.2.2.2.2.2.2.1 k0_h31 (k0_off90_inb i v0 k0_hw5 k0_h31)
theorem k0_off89_wordsbf16 : ∀ (i : grid0.Coords) (v0 : BitVec 32) (k0_hw5 : k0_chk5 i v0), ∀ (k0_h31 : k0_cond31 i = 1#1), (Rect.unit (s := S4096x256) (k0_off89 v0) S256x256.size (k0_off89_inb i v0 k0_hw5 k0_h31)).WholeWords (EltTy.packing .bf16) := fun i v0 k0_hw5 k0_h31 => k0_hw5.2.2.2.2.2.2.2.2.2.2.2.2.2.2.2.2.2.2.2.2.2.2.2.2.2.2.2.2 k0_h31 (k0_off89_inb i v0 k0_hw5 k0_h31)

def k0_cond32 (i : grid0.Coords) : BitVec 1 :=
  let arg0 : BitVec 32 := BitVec.ofNat 32 (i 0).val
  let c0_i32_134 : BitVec 32 := 0#32
  let v156 : BitVec 1 := Scalar.cmpi .ne arg0 c0_i32_134
  let v157 : BitVec 32 := Scalar.extui v156
  let c0_i32_136 : BitVec 32 := 0#32
  let v158 : BitVec 1 := Scalar.cmpi .ne v157 c0_i32_136
  v158

def k0_off91 (v2 : BitVec 32) : Fin 1 → Nat :=
  ![v2.toNat]

def k0_off92 (v2 : BitVec 32) : Fin 3 → Nat :=
  let c0_i32_157 : BitVec 32 := 0#32
  let c0_i32_158 : BitVec 32 := 0#32
  ![v2.toNat, 0, 0]
def k0_off93 (i : grid0.Coords) : Fin 1 → Nat :=
  let arg0 : BitVec 32 := BitVec.ofNat 32 (i 0).val
  let v160 : Index := Scalar.indexCast arg0
  ![v160.toNat]
def k0_off94 (i : grid0.Coords) : Fin 1 → Nat :=
  let arg0 : BitVec 32 := BitVec.ofNat 32 (i 0).val
  let c4_i32_137 : BitVec 32 := 4#32
  let v159 : BitVec 32 := Scalar.remsi arg0 c4_i32_137
  ![v159.toNat]
def k0_off95 (i : grid0.Coords) : Fin 3 → Nat :=
  let arg0 : BitVec 32 := BitVec.ofNat 32 (i 0).val
  let c4_i32_137 : BitVec 32 := 4#32
  let v159 : BitVec 32 := Scalar.remsi arg0 c4_i32_137
  let c0_i32_139 : BitVec 32 := 0#32
  let c0_i32_140 : BitVec 32 := 0#32
  ![v159.toNat, 0, 0]
def k0_off96 (v161 : BitVec 32) : Fin 2 → Nat :=
  let c256_i32_138 : BitVec 32 := 256#32
  let v162 : BitVec 32 := Scalar.muli v161 c256_i32_138
  let c0_i32_141 : BitVec 32 := 0#32
  ![v162.toNat, 0]

def k0_chk7 (v161 : BitVec 32) : Prop :=
  (∀ a, (k0_off96 v161) a + S256x8192.size a ≤ S4096x8192.size a)
theorem k0_off96_inb : ∀ (v161 : BitVec 32) (k0_hw7 : k0_chk7 v161), ∀ a, (k0_off96 v161) a + S256x8192.size a ≤ S4096x8192.size a := fun v161 k0_hw7 => k0_hw7

def k0_off97 (v2 : BitVec 32) : Fin 3 → Nat :=
  let v168 : Index := Scalar.indexCast v2
  let c0_142 : Index := 0#32
  let c0_143 : Index := 0#32
  ![v168.toNat, 0, 0]

def k0_chk6 (i : grid0.Coords) (v2 : BitVec 32) : Prop :=
  (∀ (k0_h32 : k0_cond32 i = 1#1), ∀ a, (k0_off91 v2) a + S1.size a ≤ S16.size a) ∧
  (∀ (k0_h32 : k0_cond32 i = 1#1), ∀ a, (k0_off92 v2) a + S1x256x256.size a ≤ S16x256x256.size a) ∧
  (∀ (k0_h32 : k0_cond32 i = 1#1), ∀ (hinb : ∀ a, (k0_off92 v2) a + S1x256x256.size a ≤ S16x256x256.size a), (Rect.unit (s := S16x256x256) (k0_off92 v2) S1x256x256.size hinb).WholeWords (EltTy.packing .bf16)) ∧
  (∀ a, (k0_off97 v2) a + S1x256x256.size a ≤ S16x256x256.size a)
theorem k0_off91_inb : ∀ (i : grid0.Coords) (v2 : BitVec 32) (k0_hw6 : k0_chk6 i v2), ∀ (k0_h32 : k0_cond32 i = 1#1), ∀ a, (k0_off91 v2) a + S1.size a ≤ S16.size a := fun i v2 k0_hw6 k0_h32 => k0_hw6.1 k0_h32
theorem k0_off92_inb : ∀ (i : grid0.Coords) (v2 : BitVec 32) (k0_hw6 : k0_chk6 i v2), ∀ (k0_h32 : k0_cond32 i = 1#1), ∀ a, (k0_off92 v2) a + S1x256x256.size a ≤ S16x256x256.size a := fun i v2 k0_hw6 k0_h32 => k0_hw6.2.1 k0_h32
theorem k0_off92_wordsbf16 : ∀ (i : grid0.Coords) (v2 : BitVec 32) (k0_hw6 : k0_chk6 i v2), ∀ (k0_h32 : k0_cond32 i = 1#1), (Rect.unit (s := S16x256x256) (k0_off92 v2) S1x256x256.size (k0_off92_inb i v2 k0_hw6 k0_h32)).WholeWords (EltTy.packing .bf16) := fun i v2 k0_hw6 k0_h32 => k0_hw6.2.2.1 k0_h32 (k0_off92_inb i v2 k0_hw6 k0_h32)
theorem k0_off97_inb : ∀ (i : grid0.Coords) (v2 : BitVec 32) (k0_hw6 : k0_chk6 i v2), ∀ a, (k0_off97 v2) a + S1x256x256.size a ≤ S16x256x256.size a := fun i v2 k0_hw6 => k0_hw6.2.2.2

def k0_off98 (i : grid0.Coords) : Fin 3 → Nat :=
  let arg0 : BitVec 32 := BitVec.ofNat 32 (i 0).val
  let c4_i32_144 : BitVec 32 := 4#32
  let v171 : BitVec 32 := Scalar.remsi arg0 c4_i32_144
  let v172 : Index := Scalar.indexCast v171
  let c0_145 : Index := 0#32
  let c0_146 : Index := 0#32
  ![v172.toNat, 0, 0]
def k0_cond36 (i : grid0.Coords) : BitVec 1 :=
  let arg0 : BitVec 32 := BitVec.ofNat 32 (i 0).val
  let c4_i32_154 : BitVec 32 := 4#32
  let v188 : BitVec 32 := Scalar.addi arg0 c4_i32_154
  let c16_i32_155 : BitVec 32 := 16#32
  let v189 : BitVec 1 := Scalar.cmpi .slt v188 c16_i32_155
  let v190 : BitVec 32 := Scalar.extui v189
  let c0_i32_156 : BitVec 32 := 0#32
  let v191 : BitVec 1 := Scalar.cmpi .ne v190 c0_i32_156
  v191

def k0_off99 (i : grid0.Coords) : Fin 1 → Nat :=
  let arg0 : BitVec 32 := BitVec.ofNat 32 (i 0).val
  let c4_i32_157 : BitVec 32 := 4#32
  let v192 : BitVec 32 := Scalar.addi arg0 c4_i32_157
  let v194 : Index := Scalar.indexCast v192
  ![v194.toNat]
def k0_off100 (i : grid0.Coords) : Fin 1 → Nat :=
  let arg0 : BitVec 32 := BitVec.ofNat 32 (i 0).val
  let c4_i32_157 : BitVec 32 := 4#32
  let v192 : BitVec 32 := Scalar.addi arg0 c4_i32_157
  let c4_i32_158 : BitVec 32 := 4#32
  let v193 : BitVec 32 := Scalar.remsi v192 c4_i32_158
  ![v193.toNat]
def k0_off101 (i : grid0.Coords) : Fin 3 → Nat :=
  let arg0 : BitVec 32 := BitVec.ofNat 32 (i 0).val
  let c4_i32_157 : BitVec 32 := 4#32
  let v192 : BitVec 32 := Scalar.addi arg0 c4_i32_157
  let c4_i32_158 : BitVec 32 := 4#32
  let v193 : BitVec 32 := Scalar.remsi v192 c4_i32_158
  let c0_i32_160 : BitVec 32 := 0#32
  let c0_i32_161 : BitVec 32 := 0#32
  ![v193.toNat, 0, 0]
def k0_off102 (v195 : BitVec 32) : Fin 2 → Nat :=
  let c256_i32_159 : BitVec 32 := 256#32
  let v196 : BitVec 32 := Scalar.muli v195 c256_i32_159
  let c0_i32_162 : BitVec 32 := 0#32
  ![v196.toNat, 0]

def k0_chk8 (i : grid0.Coords) (v195 : BitVec 32) : Prop :=
  (∀ (k0_h36 : k0_cond36 i = 1#1), ∀ a, (k0_off102 v195) a + S256x8192.size a ≤ S4096x8192.size a)
theorem k0_off102_inb : ∀ (i : grid0.Coords) (v195 : BitVec 32) (k0_hw8 : k0_chk8 i v195), ∀ (k0_h36 : k0_cond36 i = 1#1), ∀ a, (k0_off102 v195) a + S256x8192.size a ≤ S4096x8192.size a := fun i v195 k0_hw8 k0_h36 => k0_hw8 k0_h36

def k0_cond33 (i : grid0.Coords) : BitVec 1 :=
  let arg0 : BitVec 32 := BitVec.ofNat 32 (i 0).val
  let c0_i32_147 : BitVec 32 := 0#32
  let v177 : BitVec 1 := Scalar.cmpi .eq arg0 c0_i32_147
  let v178 : BitVec 32 := Scalar.extui v177
  let c0_i32_148 : BitVec 32 := 0#32
  let v179 : BitVec 1 := Scalar.cmpi .ne v178 c0_i32_148
  v179

def k0_cond34 (i : grid0.Coords) : BitVec 1 :=
  let arg0 : BitVec 32 := BitVec.ofNat 32 (i 0).val
  let c0_i32_149 : BitVec 32 := 0#32
  let v180 : BitVec 1 := Scalar.cmpi .ne arg0 c0_i32_149
  let c15_i32_150 : BitVec 32 := 15#32
  let v181 : BitVec 1 := Scalar.cmpi .ne arg0 c15_i32_150
  let v182 : BitVec 1 := Scalar.andi v180 v181
  let v183 : BitVec 32 := Scalar.extui v182
  let c0_i32_151 : BitVec 32 := 0#32
  let v184 : BitVec 1 := Scalar.cmpi .ne v183 c0_i32_151
  v184

def k0_cond35 (i : grid0.Coords) : BitVec 1 :=
  let arg0 : BitVec 32 := BitVec.ofNat 32 (i 0).val
  let c15_i32_152 : BitVec 32 := 15#32
  let v185 : BitVec 1 := Scalar.cmpi .eq arg0 c15_i32_152
  let v186 : BitVec 32 := Scalar.extui v185
  let c0_i32_153 : BitVec 32 := 0#32
  let v187 : BitVec 1 := Scalar.cmpi .ne v186 c0_i32_153
  v187

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Own.lean ====
/- Memory held by what it reads as: the rules for a load, a local transfer and an addressed transfer, stated over
   `owns` (the elements of a memref, with the values it reads there) in place of points-to assertions over whole
   buffers' contents. Nothing here is about one kernel. -/
module

public import Idealize.ShloMosaic.Lib.Memref
public import Idealize.ShloMosaic.Lib.VecWindow
public import Idealize.ShloMosaic.Lib.MemrefSat
public import Idealize.ShloMosaic.Lib.Transfers
public import Idealize.ShloMosaic.Lib.Rounds
public import Idealize.ShloMosaic.Lib.Tactic

@[expose] public section

noncomputable section

namespace Cert.Own

open Idealize.ShloMosaic
open Idealize.ShloMosaic.Transfers Idealize.ShloMosaic.Rounds
open Idealize.SL Idealize.SL.RA
open Idealize.SL.BI (sProp Storable)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type}
variable {Name : Type} [DecidableEq Name] {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V)
variable {sp sp' : Space} {s s' : Shape} {e : EltTy} {α : Type} {Q : α → sProp (MT nD τ sig Ix Val Name U Lvl)}

/-- What a write of `w` through a memref leaves of the memref's elements is the memref owned at `w`. -/
theorem owns_of_write (m : Memref sig c.2.kind sp s e) (f : m.view.ty.Contents Val) (w : s.Idx → Val e) :
    (m.view.loc c ↦[m.view.set]{fullShare} m.view.write Val f w Finset.univ : sProp 𝕄) ⊢ owns c m fullShare w := by
  refine (owns_intro c m fullShare _).trans ?_
  rw [View.read_write_univ]

/-- A memref owned at `X`, its contents named. -/
theorem owns_elim (m : Memref sig c.2.kind sp s e) (q : PosShare TreeShare) (X : s.Idx → Val e) :
    (owns c m q X : sProp 𝕄) ⊢ iprop(∃ f, ⌜m.view.read Val f = X⌝ ∗ (m.view.loc c ↦[m.view.set]{q} f)) := .rfl

/-- A memref owned at `X` is owned at the same values read at a squeezed shape. -/
theorem owns_squeeze (m : Memref sig c.2.kind sp s e) (q : PosShare TreeShare) (h : s.Squeezes s') (X : s.Idx → Val e) :
    (owns c m q X : sProp 𝕄) ⊢ owns c (m.squeeze s' h) q (fun j => X (Shape.reshapeEquiv h.numel_eq j)) := by
  unfold owns
  iintro ⟨%f, %hf, H⟩
  iexists f
  isplitr
  · ipureintro; subst hf; rfl
  · rw [show (m.squeeze s' h).view.set = m.view.set from View.set_reshape _ _]; iexact H

/-- And back. -/
theorem owns_unsqueeze (m : Memref sig c.2.kind sp s e) (q : PosShare TreeShare) (h : s.Squeezes s') (X : s'.Idx → Val e) :
    (owns c (m.squeeze s' h) q X : sProp 𝕄) ⊢ owns c m q (fun i => X ((Shape.reshapeEquiv h.numel_eq).symm i)) := by
  unfold owns
  iintro ⟨%f, %hf, H⟩
  iexists f
  isplitr
  · ipureintro
    subst hf
    funext i
    show m.view.read Val f i = m.view.read Val f ((Shape.reshapeEquiv h.numel_eq) ((Shape.reshapeEquiv h.numel_eq).symm i))
    rw [Equiv.apply_symm_apply]
  · rw [show (m.squeeze s' h).view.set = m.view.set from View.set_reshape _ _]; iexact H

/-- A load through a rectangle of a memref owned at `X`: what is loaded is `X` at the rectangle's elements. -/
theorem wp_load_owns {cs : CoreSpace} (E : Set Name) {m : Memref sig c.2.kind cs s e} {r : Rect s} {hl : m.view.LoadsAt r.toLoadRect}
    {q : PosShare TreeShare} {X : s.Idx → Val e} {k : (r.shape.Idx → Val e) → Prog (TpuEff nD τ sig Val Λ c.2) α} :
    (owns c m q X : sProp 𝕄)
      ⊢ iprop((owns c m q X -∗ wp frame (wpE defs 𝒱 c bd) E (k fun j => X (r.emb j)) Q)
          -∗ wp frame (wpE defs 𝒱 c bd) E (.op (.load m r.toLoadRect hl) k) Q) := by
  iintro H Hk
  ihave H' := (owns_elim c _ q X) $$ H
  icases H' with ⟨%f, %hf, H⟩
  iapply (wp_load_rect 𝒱 c bd E (m := m) (r := r) (f := f) (q := q) (S := m.view.set) (View.set_slice_subset _ _)) $$ H
  iintro H
  have e : (m.access r).read Val f = fun j => X (r.emb j) := by subst hf; rfl
  rw [e]
  iapply Hk
  unfold owns
  iexists f
  isplitr
  · ipureintro; exact hf
  · iexact H

/-- A load of all of a memref. -/
theorem wp_load_all {cs : CoreSpace} (E : Set Name) {m : Memref sig c.2.kind cs s e} {off : Fin s.rank → ℕ} {inb : ∀ a, off a + s.size a ≤ s.size a}
    {hl : m.view.LoadsAt (Rect.unit off s.size inb).toLoadRect}
    {q : PosShare TreeShare} {X : s.Idx → Val e} {k : (s.Idx → Val e) → Prog (TpuEff nD τ sig Val Λ c.2) α} :
    (owns c m q X : sProp 𝕄)
      ⊢ iprop((owns c m q X -∗ wp frame (wpE defs 𝒱 c bd) E (k X) Q)
          -∗ wp frame (wpE defs 𝒱 c bd) E (.op (.load m (Rect.unit off s.size inb).toLoadRect hl) k) Q) := by
  have h := wp_load_owns (defs := defs) (Q := Q) 𝒱 c bd E (m := m) (r := Rect.unit off s.size inb) (hl := hl) (q := q) (X := X) (k := k)
  have e : (fun j => X ((Rect.unit off s.size inb).emb j)) = X := funext fun j => congrArg X (Rect.emb_unit_full inb j)
  rw [e] at h
  exact h

/-- A store over all of a memref: it is owned at what was stored. -/
theorem wp_store_all {cs : CoreSpace} (E : Set Name) {m : Memref sig c.2.kind cs s e} {off : Fin s.rank → ℕ} {inb : ∀ a, off a + s.size a ≤ s.size a}
    {X w : s.Idx → Val e} {hx : (m.access (Rect.unit off s.size inb)).Stores Finset.univ}
    {hm : Finset.univ = Finset.univ ∨ ∀ a, (Rect.unit off s.size inb).stride a = 1} {k : PUnit → Prog (TpuEff nD τ sig Val Λ c.2) α} :
    (owns c m fullShare X : sProp 𝕄)
      ⊢ iprop((owns c m fullShare w -∗ wp frame (wpE defs 𝒱 c bd) E (k ⟨⟩) Q)
          -∗ wp frame (wpE defs 𝒱 c bd) E (.op (.store m (Rect.unit off s.size inb) w Finset.univ hx hm) k) Q) := by
  iintro H Hk
  ihave H' := (owns_elim c _ fullShare X) $$ H
  icases H' with ⟨%f, %hf, H⟩
  iapply (wp_store 𝒱 c bd E (m := m) (r := Rect.unit off s.size inb) (f := f) (S := m.view.set) (w := w) (Mk := Finset.univ) (hx := hx) (hm := hm)
    (by rw [View.setOn_univ]; exact View.set_slice_subset _ _)) $$ H
  iintro H
  iapply Hk
  unfold owns
  iexists _
  isplitr
  · ipureintro
    have e := (m.access (Rect.unit off s.size inb)).read_write_univ (Val := Val) f w
    funext j
    have ej := congrFun e j
    rw [← ej]
    exact congrArg (m.view.read Val _) (Rect.emb_unit_full inb j).symm
  · iexact H

/-- A load through a rectangle `r` of a memref `m` whose slice at `r`, squeezed, is owned at `X`: what is loaded, cast to
    the squeezed shape, is `X`. -/
theorem wp_load_squeezed {cs : CoreSpace} (E : Set Name) {m : Memref sig c.2.kind cs s e} {r : Rect s} {hr : ∀ a, r.stride a = 1}
    {h : r.shape.Squeezes s'} {hl : m.view.LoadsAt r.toLoadRect} {q : PosShare TreeShare} {X : s'.Idx → Val e}
    (hc : r.shape.ShapeCasts s')
    {k : (r.shape.Idx → Val e) → Prog (TpuEff nD τ sig Val Λ c.2) α} :
    (owns c ((m.slice r hr).squeeze s' h) q X : sProp 𝕄)
      ⊢ iprop((∀ v : r.shape.Idx → Val e, ⌜shapeCast s' v hc = X⌝ -∗ owns c ((m.slice r hr).squeeze s' h) q X
            -∗ wp frame (wpE defs 𝒱 c bd) E (k v) Q)
          -∗ wp frame (wpE defs 𝒱 c bd) E (.op (.load m r.toLoadRect hl) k) Q) := by
  iintro H Hk
  ihave H' := (owns_elim c _ q X) $$ H
  icases H' with ⟨%f, %hf, H⟩
  have hset : ((m.slice r hr).squeeze s' h).view.set = (m.access r).set := View.set_reshape _ _
  iapply (wp_load_rect 𝒱 c bd E (m := m) (r := r) (f := f) (q := q) (S := ((m.slice r hr).squeeze s' h).view.set) (by rw [hset])) $$ H
  iintro H
  iapply Hk $$ %((m.access r).read Val f) [] [H]
  · ipureintro
    subst hf
    rfl
  · unfold owns
    iexists f
    isplitr
    · ipureintro; exact hf
    · iexact H

/-- A store through a rectangle `r` of a memref `m` whose slice at `r`, squeezed, is owned: it is owned at what was stored,
    cast to the squeezed shape. -/
theorem wp_store_squeezed {cs : CoreSpace} (E : Set Name) {m : Memref sig c.2.kind cs s e} {r : Rect s} {hr : ∀ a, r.stride a = 1}
    {h : r.shape.Squeezes s'} {X : s'.Idx → Val e} (hc : r.shape.ShapeCasts s') {w : r.shape.Idx → Val e}
    {hx : (m.access r).Stores Finset.univ} {hm : Finset.univ = Finset.univ ∨ ∀ a, r.stride a = 1}
    {k : PUnit → Prog (TpuEff nD τ sig Val Λ c.2) α} :
    (owns c ((m.slice r hr).squeeze s' h) fullShare X : sProp 𝕄)
      ⊢ iprop((owns c ((m.slice r hr).squeeze s' h) fullShare (shapeCast s' w hc)
            -∗ wp frame (wpE defs 𝒱 c bd) E (k ⟨⟩) Q)
          -∗ wp frame (wpE defs 𝒱 c bd) E (.op (.store m r w Finset.univ hx hm) k) Q) := by
  iintro H Hk
  ihave H' := (owns_elim c _ fullShare X) $$ H
  icases H' with ⟨%f, %hf, H⟩
  have hset : ((m.slice r hr).squeeze s' h).view.set = (m.access r).set := View.set_reshape _ _
  iapply (wp_store 𝒱 c bd E (m := m) (r := r) (f := f) (S := ((m.slice r hr).squeeze s' h).view.set) (w := w) (Mk := Finset.univ) (hx := hx) (hm := hm)
    (by rw [hset, View.setOn_univ])) $$ H
  iintro H
  iapply Hk
  unfold owns
  iexists _
  isplitr
  · ipureintro
    show (fun j => (m.access r).read Val ((m.access r).write Val f w Finset.univ) (Shape.reshapeEquiv h.numel_eq j)) = _
    rw [View.read_write_univ]
    rfl
  · iexact H

/-- The slices of a disjoint covering family, each owned at some values, are the memref owned at some values. -/
theorem owns_of_rects_any [∀ e, Nonempty (Val e)] {T : Type} [Fintype T] [DecidableEq T] (m : Memref sig c.2.kind sp s e) (q : PosShare TreeShare)
    (r : T → Rect s) (hr : ∀ t a, (r t).stride a = 1) (hd : ∀ t t', t ≠ t' → Disjoint (r t).set (r t').set)
    (hcov : (Finset.univ : Finset T).biUnion (fun t => (r t).set) = Finset.univ) :
    BI.bigSep Finset.univ (fun t => iprop(∃ X, owns c (m.slice (r t) (hr t)) q X))
      ⊢ (iprop(∃ X, owns c m q X) : sProp 𝕄) := by
  refine (BI.bigSep_exists_pi Finset.univ (fun t X => owns c (m.slice (r t) (hr t)) q X)).trans ?_
  iintro ⟨%Xs, H⟩
  have hg (t : T) : (fun j => Rect.glue r hcov Xs ((r t).emb j)) = Xs t := funext fun y => Rect.glue_emb r hcov hd Xs t y
  iexists Rect.glue r hcov Xs
  iapply (owns_of_rects c m q r hr hd hcov (Rect.glue r hcov Xs))
  simp only [hg]
  iexact H

variable (EC : UEmb Counters (MT nD τ sig Ix Val Name U Lvl))

/-- A local transfer between memrefs owned at their values: the flight delivers the destination owned at what the source
    was owned at, and the source. -/
theorem wp_dma_owns [Infinite Name] [EC.LandsIn (upEmb : UEmb _ 𝕄)] {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (ι : Ix) (N : ℕ) (hN : dst.view.amount sm = N) (hN0 : 0 < N) :
    iprop(owns c src q X ∗ (∃ Y, owns c dst fullShare Y) ∗ semVal (c, sm) 0)
      ⊢ iprop((Flight EC c sm ι N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, ⟨%Y, Hd⟩, Hv⟩ Hk
  ihave Hs' := (owns_elim c _ q X) $$ Hs
  icases Hs' with ⟨%fs, %hfs, Hs⟩
  ihave Hd' := (owns_elim c _ fullShare Y) $$ Hd
  icases Hd' with ⟨%fd, %hfd, Hd⟩
  iapply (wp_dmaLocal EC 𝒱 c bd ι N hN hN0 (Finset.Subset.refl _)) $$ [Hs Hd Hv]
  · isplitl [Hs]; · iexact Hs
    isplitl [Hd]; · iexact Hd
    iexact Hv
  iintro HF
  iapply Hk
  iapply (Flight_mono (EC := EC) c (D := iprop((dst.view.loc c ↦[dst.view.set]{fullShare} (dst.view.write Val fd (src.view.read Val fs) Finset.univ))
      ∗ (src.view.loc c ↦[src.view.set]{q} fs)))
    (D' := iprop(owns c dst fullShare X ∗ owns c src q X)) ?_) $$ HF
  subst hfs
  exact sep_mono (owns_of_write c dst fd _) (owns_intro c src q fs)

/-- An addressed transfer between memrefs owned at their values, each of its two duties' payloads made from the memref it
    concerns owned at what the source reads. -/
theorem wp_send_owns {D : Type} [DecidableEq D] (E : Emb (URounds (GSem nD τ sig) D) 𝕄) (Rd : Rounds.Schedule (GSem nD τ sig) D 𝕄)
    {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    [∀ g r d, Storable (upEmb : UEmb _ 𝕄) (Rd.payload g r d)] [E.LandsIn (upEmb : UEmb _ 𝕄)]
    {k : PUnit → Prog (TpuEff nD τ sig Val Λ c.2) α} {q : PosShare TreeShare} {X : s.Idx → Val e}
    {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) r₁ d₁)
    (hpay₂ : (owns c' dst fullShare X : sProp 𝕄) ⊢ Rd.payload (c', sem) r₂ d₂) {Es : Set Name} (hr : τ.routes c c' = true := by routes) :
    iprop(cellInv E Rd κ₁ (c, sS) ∗ cellInv E Rd κ₂ (c', sem)
        ∗ owns c src q X ∗ (∃ Y, owns c' dst fullShare Y)
        ∗ owes c O₀ W
        ∗ dutyTok E (c, sS) r₁ d₁ ∗ reached E (c, sS) r₁
        ∗ dutyTok E (c', sem) r₂ d₂ ∗ reached E (c', sem) r₂)
      ⊢ iprop(((cred (tallyAt (c, sS) ι' N) ∗ owes c O W) -∗ wp frame (wpE defs 𝒱 c bd) Es (k ⟨⟩) Q)
          -∗ wp frame (wpE defs 𝒱 c bd) Es (.op (.enqueueDma src (.remote c' dst sS hsc) sem hsrc hdst hsem) k) Q) := by
  iintro ⟨HI1, HI2, Hs, ⟨%Y, Hd⟩, HO, Ht1, Hr1, Ht2, Hr2⟩ Hk
  ihave Hs' := (owns_elim c _ q X) $$ Hs
  icases Hs' with ⟨%fs, %hfs, Hs⟩
  ihave Hd' := (owns_elim c' _ fullShare Y) $$ Hd
  icases Hd' with ⟨%fd, %hfd, Hd⟩
  iapply (Rounds.wp_send_pointsTo (Γ := ∅) 𝒱 E Rd c bd hd₁ hd₂ ι ι' N hN hk₁ hk₂ O hO (fs := fs) (fd := fd) (q := q)
    (by subst hfs; exact (owns_intro c src q fs).trans hpay₁)
    (by subst hfs; exact (owns_of_write c' dst fd _).trans hpay₂) (hr := hr)) $$ [HI1 HI2 Hs Hd HO Ht1 Hr1 Ht2 Hr2]
  · iframe
  iexact Hk

/-! ## A conditional statement followed by a continuation -/

/-- A statement guarded by a condition, then the rest `K`: where the condition holds, the statement and then `K`; where it
    fails, `K`. -/
theorem wp_guard {E : Set Name} {C : Prop} [Decidable C] {op : C → TpuEff nD τ sig Val Λ c.2 PUnit} {K : Prog (TpuEff nD τ sig Val Λ c.2) α}
    {P : sProp 𝕄}
    (hT : ∀ h : C, P ⊢ wp frame (wpE defs 𝒱 c bd) E (.op (op h) fun _ => K) Q)
    (hF : ¬ C → P ⊢ wp frame (wpE defs 𝒱 c bd) E K Q) :
    P ⊢ wp frame (wpE defs 𝒱 c bd) E (if h : C then (do Prog.lift (op h); K) else K) Q := by
  by_cases h : C
  · rw [dif_pos h]; exact hT h
  · rw [dif_neg h]; exact hF h

end Cert.Own
-- ==== Proof.KernelIdeal.Parts.lean ====
/- The kernel's memory cut into the parts its transfers move: the row blocks of the bf16 copy of `x` and of `w`, the slots of
   the gathered blocks and of the staged `w` blocks, and the semaphores of the three arrays. -/
module

public import proofs.«01_k».proof.Proof.Gen.KernelIdeal.Skeleton
public import proofs.«01_k».proof.Proof.Gen.KernelIdeal.Launch
public import proofs.«01_k».proof.Proof.Own
public import Idealize.ShloMosaic.Lib.Ring

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The table's word for device number `c`. -/
abbrev wd (c : Fin 16) : BitVec 32 := BitVec.ofNat 32 c.val

/-! ## Rectangles -/

theorem row_inb (b : Fin 16) : ∀ a, (![256 * b.val, 0] : Fin 2 → Nat) a + S256x256.size a ≤ S4096x256.size a := by
  revert b; decide
theorem slot_inb (b : Fin 16) : ∀ a, (![b.val, 0, 0] : Fin 3 → Nat) a + S1x256x256.size a ≤ S16x256x256.size a := by
  revert b; decide
theorem wrow_inb (b : Fin 16) : ∀ a, (![256 * b.val, 0] : Fin 2 → Nat) a + S256x8192.size a ≤ S4096x8192.size a := by
  revert b; decide
theorem wslot_inb (j : Fin 4) : ∀ a, (![j.val, 0, 0] : Fin 3 → Nat) a + S1x256x8192.size a ≤ S4x256x8192.size a := by
  revert j; decide
theorem sem16_inb (b : Fin 16) : ∀ a, (![b.val] : Fin 1 → Nat) a + S1.size a ≤ S16.size a := by revert b; decide
theorem sem4_inb (j : Fin 4) : ∀ a, (![j.val] : Fin 1 → Nat) a + S1.size a ≤ S4.size a := by revert j; decide

/-- Rows `256 b` to `256 b + 255` of the local `x`. -/
abbrev rowR (b : Fin 16) : Rect S4096x256 := Rect.unit ![256 * b.val, 0] S256x256.size (row_inb b)
/-- Slot `b` of the gathered blocks. -/
abbrev slotR (b : Fin 16) : Rect S16x256x256 := Rect.unit ![b.val, 0, 0] S1x256x256.size (slot_inb b)
/-- Rows `256 b` to `256 b + 255` of `w`. -/
abbrev wrowR (b : Fin 16) : Rect S4096x8192 := Rect.unit ![256 * b.val, 0] S256x8192.size (wrow_inb b)
/-- Slot `j` of the staged `w` blocks. -/
abbrev wslotR (j : Fin 4) : Rect S4x256x8192 := Rect.unit ![j.val, 0, 0] S1x256x8192.size (wslot_inb j)

/-! ## Memrefs -/

/-- The bf16 copy of the local `x`. -/
abbrev xbM : Memref sig .tc .vmem S4096x256 .bf16 := Memref.whole cc0_scratch0
/-- The gathered blocks, one slot per device. -/
abbrev xgM : Memref sig .tc .vmem S16x256x256 .bf16 := Memref.whole cc0_scratch1
/-- The staged `w` blocks, four slots. -/
abbrev wvM : Memref sig .tc .vmem S4x256x8192 .f32 := Memref.whole cc0_scratch2
/-- `w`. -/
abbrev wM : Memref sig .tc .hbm S4096x8192 .f32 := Memref.whole main_arg1
/-- The table of device numbers. -/
abbrev tbM : Memref sig .tc .smem S16 .i32 := Memref.whole main_v8

abbrev xbRow (b : Fin 16) : Memref sig .tc .vmem S256x256 .bf16 := xbM.slice (rowR b) (fun _ => rfl)
abbrev xgSlot (b : Fin 16) : Memref sig .tc .vmem S256x256 .bf16 :=
  (xgM.slice (slotR b) (fun _ => rfl)).squeeze S256x256 squeezes_S1x256x256_S256x256
abbrev wRow (b : Fin 16) : Memref sig .tc .hbm S256x8192 .f32 := wM.slice (wrowR b) (fun _ => rfl)
abbrev wvSlot (j : Fin 4) : Memref sig .tc .vmem S256x8192 .f32 :=
  (wvM.slice (wslotR j) (fun _ => rfl)).squeeze S256x8192 squeezes_S1x256x8192_S256x8192

/-! ## Semaphores -/

abbrev sendS (s : Fin 16) : DmaSem sig := ((cc0_scratch3.slice (Rect.unit ![s.val] S1.size (sem16_inb s))).squeeze S_ squeezes_S1_S_).sem
abbrev recvS (o : Fin 16) : DmaSem sig := ((cc0_scratch4.slice (Rect.unit ![o.val] S1.size (sem16_inb o))).squeeze S_ squeezes_S1_S_).sem
abbrev wS (j : Fin 4) : DmaSem sig := ((cc0_scratch5.slice (Rect.unit ![j.val] S1.size (sem4_inb j))).squeeze S_ squeezes_S1_S_).sem

theorem sendS_val : ∀ s : Fin 16, (sendS s).val = 2 + s.val := by decide +kernel
theorem recvS_val : ∀ s : Fin 16, (recvS s).val = 18 + s.val := by decide +kernel
theorem wS_val : ∀ j : Fin 4, (wS j).val = 34 + j.val := by decide +kernel

/-! ## The cuts are disjoint and cover -/

theorem rowR_disjoint (b b' : Fin 16) (h : b ≠ b') : Disjoint (rowR b).set (rowR b').set :=
  Ring.lead_disjoint (s := S4096x256) 0 256 (fun b : Fin 16 => ![256 * b.val, 0]) S256x256.size row_inb (fun _ => rfl) rfl b b' h
theorem rowR_cover : (Finset.univ : Finset (Fin 16)).biUnion (fun b => (rowR b).set) = Finset.univ :=
  Ring.lead_cover (s := S4096x256) 0 256 (fun b : Fin 16 => ![256 * b.val, 0]) S256x256.size row_inb (fun _ => rfl) (by decide) rfl (by decide) rfl
theorem slotR_disjoint (b b' : Fin 16) (h : b ≠ b') : Disjoint (slotR b).set (slotR b').set :=
  Ring.lead_disjoint (s := S16x256x256) 0 1 (fun b : Fin 16 => ![b.val, 0, 0]) S1x256x256.size slot_inb (by decide) rfl b b' h
theorem slotR_cover : (Finset.univ : Finset (Fin 16)).biUnion (fun b => (slotR b).set) = Finset.univ :=
  Ring.lead_cover (s := S16x256x256) 0 1 (fun b : Fin 16 => ![b.val, 0, 0]) S1x256x256.size slot_inb (by decide) (by decide) rfl (by decide) rfl
theorem wrowR_disjoint (b b' : Fin 16) (h : b ≠ b') : Disjoint (wrowR b).set (wrowR b').set :=
  Ring.lead_disjoint (s := S4096x8192) 0 256 (fun b : Fin 16 => ![256 * b.val, 0]) S256x8192.size wrow_inb (fun _ => rfl) rfl b b' h
theorem wrowR_cover : (Finset.univ : Finset (Fin 16)).biUnion (fun b => (wrowR b).set) = Finset.univ :=
  Ring.lead_cover (s := S4096x8192) 0 256 (fun b : Fin 16 => ![256 * b.val, 0]) S256x8192.size wrow_inb (fun _ => rfl) (by decide) rfl (by decide) rfl
theorem wslotR_disjoint (b b' : Fin 4) (h : b ≠ b') : Disjoint (wslotR b).set (wslotR b').set :=
  Ring.lead_disjoint (s := S4x256x8192) 0 1 (fun b : Fin 4 => ![b.val, 0, 0]) S1x256x8192.size wslot_inb (by decide) rfl b b' h
theorem wslotR_cover : (Finset.univ : Finset (Fin 4)).biUnion (fun b => (wslotR b).set) = Finset.univ :=
  Ring.lead_cover (s := S4x256x8192) 0 1 (fun b : Fin 4 => ![b.val, 0, 0]) S1x256x8192.size wslot_inb (by decide) (by decide) rfl (by decide) rfl

/-! ## The printed words' side conditions, all met by device numbers -/

theorem chk1_all : ∀ (c : Fin 16) (i : grid0.Coords), k0_chk1 i (wd c) := by decide +kernel
theorem chk2_all : ∀ (c : Fin 16) (i : grid0.Coords), k0_chk2 i (wd c) := by decide +kernel
theorem chk3_all : ∀ (c : Fin 16) (i : grid0.Coords), k0_chk3 i (wd c) := by decide +kernel
theorem chk4_all : ∀ (c : Fin 16) (i : grid0.Coords), k0_chk4 i (wd c) := by decide +kernel
theorem chk5_all : ∀ (c : Fin 16) (i : grid0.Coords), k0_chk5 i (wd c) := by decide +kernel
theorem chk6_all : ∀ (c : Fin 16) (i : grid0.Coords), k0_chk6 i (wd c) := by decide +kernel
theorem chk7_all : ∀ (c : Fin 16), k0_chk7 (wd c) := by decide +kernel
theorem chk8_all : ∀ (c : Fin 16) (i : grid0.Coords), k0_chk8 i (wd c) := by decide +kernel

/-! ## What one transfer between devices credits -/

/-- The credit of one 256×256 bf16 block. -/
abbrev cN : ℕ := (xgSlot 0).view.dmaCredit
theorem cN_pos : 0 < cN := by decide +kernel
theorem xgSlot_credit (b : Fin 16) : (xgSlot b).view.dmaCredit = cN := rfl
theorem xbRow_credit (b : Fin 16) : (xbRow b).view.dmaCredit = cN := by decide +revert +kernel
/-- The credit of one 256×8192 f32 block. -/
abbrev wN : ℕ := (wvSlot 0).view.dmaCredit
theorem wN_pos : 0 < wN := by decide +kernel
theorem wvSlot_credit (j : Fin 4) : (wvSlot j).view.dmaCredit = wN := rfl

end Cert.KernelIdeal.Gather
-- ==== Proof.KernelIdeal.Cells.lean ====
/- The protocol of the gather: which cells there are, what each landing hands over, and what a device holds between two
   statements of the body.

   Device `c` sends its row block `c - s` of `x` to device `c - s`, for `s` from 1 to 15, and device `o`'s row block `c` reaches
   device `c` in slot `o`. A barrier cell collects sixteen units, one of each device; with the unit of device `p` comes
   `p`'s slot `c`, which is where device `c` will write on `p`. -/
module

public import proofs.«01_k».proof.Proof.KernelIdeal.Parts
public import Idealize.ShloMosaic.Lib.Pipeline.Kit

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

/-! ## The algebra -/

/-- The rounds of the barrier, send and receive cells; a duty is named by a device. -/
abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ (MT nD τ sig Unit (Elt F) ℕ UU ℕ)) := by unfold ER; infer_instance
abbrev EC : UEmb Counters (MT nD τ sig Unit (Elt F) ℕ UU ℕ) := countersEmb

abbrev 𝒱₀ : Variants := Variants.none

/-! ## Cells -/

abbrev barCell (c : Fin 16) : GSem nD τ sig := (((c : Dev nD) : Thread nD τ), .reg barrier0)
abbrev sendCell (c s : Fin 16) : GSem nD τ sig := (((c : Dev nD) : Thread nD τ), .dma (sendS s))
abbrev recvCell (c o : Fin 16) : GSem nD τ sig := (((c : Dev nD) : Thread nD τ), .dma (recvS o))

/-! ## Values -/

section Values

variable (X : Fin 16 → Vec F S4096x256 .f32) (W : Fin 16 → Vec F S4096x8192 .f32)

/-- Row block `b` of the bf16 copy of device `o`'s `x`. -/
def blk (o b : Fin 16) : Vec F S256x256 .bf16 := fun j => k0_pay4 (X o) ((rowR b).emb j)
/-- Row block `b` of device `c`'s `w`. -/
def wblk (c b : Fin 16) : Vec F S256x8192 .f32 := fun j => W c ((wrowR b).emb j)

/-! ## Payloads -/

/-- What device `p` hands device `c` with its unit on `c`'s barrier cell: the slot of its gather buffer that `c` writes, and
    that the cell counting that write is open. Its own unit hands over nothing. -/
def barPay (p c : Fin 16) : sProp 𝕄 :=
  if p = c then iprop(emp)
  else iprop((∃ Y, owns ((p : Dev nD) : Thread nD τ) (xgSlot c) fullShare Y) ∗ reached ER (recvCell p c) 0)

/-- What lands on device `c` from device `o`: slot `o` at row block `c` of `o`'s `x`. -/
def recvPay (c o : Fin 16) : sProp 𝕄 := owns ((c : Dev nD) : Thread nD τ) (xgSlot o) fullShare (blk X o c)

/-- What comes back of device `c`'s send `s`: the row block it was sent from. -/
def sendPay (c s : Fin 16) : sProp 𝕄 := owns ((c : Dev nD) : Thread nD τ) (xbRow (c - s)) fullShare (blk X c (c - s))

/-! ## The schedule -/

/-- The device number a natural number stands for. -/
abbrev dv (n : ℕ) : Fin 16 := Fin.ofNat 16 n

/-- One round at every cell. A barrier cell's has one duty per device, each of one unit; a send or receive cell's has one, of one
    block's credit. Send 0 and the receive from oneself are never made. -/
def Rd : Rounds.Schedule (GSem nD τ sig) (Fin 16) 𝕄 where
  duties g r :=
    if r = 0 then
      (match g.2 with
        | .reg _ => Finset.univ
        | .dma k => if k.val = 2 ∨ k.val = 18 + g.1.1.val then ∅ else {0})
    else ∅
  unitless _ := False
  amount g _ _ := match g.2 with | .reg _ => 1 | .dma _ => cN
  payload g _ d :=
    match g.2 with
    | .reg _ => barPay d g.1.1
    | .dma k => if 18 ≤ k.val then recvPay X g.1.1 (dv (k.val - 18)) else sendPay X g.1.1 (dv (k.val - 2))
  amount_pos g _ _ _ := by
    rcases g with ⟨_, _ | _⟩
    · exact Nat.one_pos
    · exact cN_pos

instance Rd_payload_storable (g : GSem nD τ sig) (r : ℕ) (d : Fin 16) :
    BI.Storable (upEmb : UEmb _ 𝕄) ((Rd X).payload g r d) := by
  rcases g with ⟨_, _ | _⟩ <;> dsimp only [Rd]
  · unfold barPay; split <;> infer_instance
  · unfold recvPay sendPay; split <;> infer_instance

variable (c : Fin 16)

theorem duties_bar : (Rd X).duties (barCell c) 0 = Finset.univ := by dsimp only [Rd]; exact if_pos rfl
theorem duties_send {s : Fin 16} (h : s ≠ 0) : (Rd X).duties (sendCell c s) 0 = {0} := by
  dsimp only [Rd]; rw [if_pos rfl, if_neg]; rw [sendS_val]; have := Fin.val_ne_of_ne h; have := s.2; have : (0 : Fin 16).val = 0 := rfl; omega
theorem duties_recv {o : Fin 16} (h : o ≠ c) : (Rd X).duties (recvCell c o) 0 = {0} := by
  dsimp only [Rd]; rw [if_pos rfl, if_neg]; rw [recvS_val]; have := Fin.val_ne_of_ne h; omega
theorem duties_later (g : GSem nD τ sig) : ∀ r, 1 ≤ r → (Rd X).duties g r = ∅ :=
  fun r hr => by dsimp only [Rd]; rw [if_neg (by omega)]
theorem duties_send0 : ∀ r, 0 ≤ r → (Rd X).duties (sendCell c 0) r = ∅ := fun r _ => by
  dsimp only [Rd]; split
  · rw [if_pos (.inl (sendS_val 0))]
  · rfl
theorem duties_recv_self : ∀ r, 0 ≤ r → (Rd X).duties (recvCell c c) r = ∅ := fun r _ => by
  dsimp only [Rd]; split
  · rw [if_pos (.inr (recvS_val c))]
  · rfl

theorem amount_bar (d : Fin 16) : (Rd X).amount (barCell c) 0 d = 1 := rfl
theorem amount_send (s d : Fin 16) : (Rd X).amount (sendCell c s) 0 d = cN := rfl
theorem amount_recv (o d : Fin 16) : (Rd X).amount (recvCell c o) 0 d = cN := rfl

theorem expect_bar : (Rd X).expect (barCell c) 0 = 16 := by
  unfold Schedule.expect Schedule.amountOf; rw [duties_bar]; rfl
theorem expect_send {s : Fin 16} (h : s ≠ 0) : (Rd X).expect (sendCell c s) 0 = cN := by
  unfold Schedule.expect Schedule.amountOf; rw [duties_send X c h, Finset.sum_singleton, amount_send]
theorem expect_recv {o : Fin 16} (h : o ≠ c) : (Rd X).expect (recvCell c o) 0 = cN := by
  unfold Schedule.expect Schedule.amountOf; rw [duties_recv X c h, Finset.sum_singleton, amount_recv]

theorem payload_bar (d : Fin 16) : (Rd X).payload (barCell c) 0 d = barPay d c := rfl
theorem payload_send (s d : Fin 16) : (Rd X).payload (sendCell c s) 0 d = sendPay X c s := by
  have e : dv ((sendS s).val - 2) = s := by rw [sendS_val]; revert s; decide
  show (if 18 ≤ (sendS s).val then recvPay X c (dv ((sendS s).val - 18)) else sendPay X c (dv ((sendS s).val - 2))) = _
  rw [if_neg (by rw [sendS_val]; omega), e]
theorem payload_recv (o d : Fin 16) : (Rd X).payload (recvCell c o) 0 d = recvPay X c o := by
  have e : dv ((recvS o).val - 18) = o := by rw [recvS_val]; revert o; decide
  show (if 18 ≤ (recvS o).val then recvPay X c (dv ((recvS o).val - 18)) else sendPay X c (dv ((recvS o).val - 2))) = _
  rw [if_pos (by rw [recvS_val]; omega), e]

theorem rest_bar : bigSep ((Rd X).duties (barCell c) 0 \ ∅) (fun d => (Rd X).payload (barCell c) 0 d)
    = bigSep Finset.univ fun p => (barPay p c : sProp 𝕄) := by
  rw [Finset.sdiff_empty, duties_bar]; rfl
theorem rest_send {s : Fin 16} (h : s ≠ 0) :
    bigSep ((Rd X).duties (sendCell c s) 0 \ ∅) (fun d => (Rd X).payload (sendCell c s) 0 d) = sendPay X c s := by
  rw [Finset.sdiff_empty, duties_send X c h, bigSep_singleton, payload_send]
theorem rest_recv {o : Fin 16} (h : o ≠ c) :
    bigSep ((Rd X).duties (recvCell c o) 0 \ ∅) (fun d => (Rd X).payload (recvCell c o) 0 d) = recvPay X c o := by
  rw [Finset.sdiff_empty, duties_recv X c h, bigSep_singleton, payload_recv]

end Values

/-! ## What a device owes; levels -/

/-- The units device `c` still owes the barrier cells when it has signalled the devices below `n`. -/
def barOwed (n : ℕ) : CellTallies nD τ sig Unit :=
  ∑ p ∈ Finset.univ.filter (fun p : Fin 16 => n ≤ p.val), tallyAt (barCell p) () 1
/-- The credits device `c` still owes the receive cells of the others when it has made its first `n` sends. -/
def recvOwed (c : Fin 16) (n : ℕ) : CellTallies nD τ sig Unit :=
  ∑ s ∈ Finset.univ.filter (fun s : Fin 16 => n < s.val), tallyAt (recvCell (c - s) c) () cN

theorem barOwed_step (p : Fin 16) : barOwed p.val = barOwed (p.val + 1) + tallyAt (barCell p) () 1 := by
  unfold barOwed
  have : Finset.univ.filter (fun q : Fin 16 => p.val ≤ q.val) = insert p (Finset.univ.filter (fun q : Fin 16 => p.val + 1 ≤ q.val)) := by
    ext q; simp only [Finset.mem_filter, Finset.mem_univ, true_and, Finset.mem_insert, Fin.ext_iff]; omega
  rw [this, Finset.sum_insert (by simp), add_comm]
theorem barOwed_end : barOwed 16 = 0 := by
  unfold barOwed; rw [Finset.filter_false_of_mem (fun p _ => by have := p.2; omega), Finset.sum_empty]
theorem recvOwed_step (c s : Fin 16) {n : ℕ} (h : n + 1 = s.val) : recvOwed c n = recvOwed c (n + 1) + tallyAt (recvCell (c - s) c) () cN := by
  unfold recvOwed
  have : Finset.univ.filter (fun q : Fin 16 => n < q.val) = insert s (Finset.univ.filter (fun q : Fin 16 => n + 1 < q.val)) := by
    ext q; simp only [Finset.mem_filter, Finset.mem_univ, true_and, Finset.mem_insert, Fin.ext_iff]; omega
  rw [this, Finset.sum_insert (by simp [h]), add_comm]
theorem recvOwed_end (c : Fin 16) : recvOwed c 15 = 0 := by
  unfold recvOwed; rw [Finset.filter_false_of_mem (fun p _ => by have := p.2; omega), Finset.sum_empty]

/-- Everything a device owes at launch: one unit on every barrier cell, one block on the receive cell of every other device. -/
def O₀ (c : Fin 16) : CellTallies nD τ sig Unit := barOwed 0 + recvOwed c 0

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma k => if 18 ≤ k.val ∧ k.val < 34 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c o : Fin 16) (u : Unit) : lv (recvCell c o) u = 2 := by
  show (if 18 ≤ (recvS o).val ∧ (recvS o).val < 34 then 2 else 0) = 2
  rw [if_pos]; rw [recvS_val]; have := o.2; omega

theorem recvOwed_pos {c : Fin 16} {n : ℕ} {g : GSem nD τ sig} {u : Unit} (h : 0 < recvOwed c n g u) : ∃ s, g = recvCell (c - s) c := by
  unfold recvOwed at h
  rw [Finset.sum_apply, Finsupp.finset_sum_apply] at h
  obtain ⟨s, -, hs⟩ := Finset.exists_ne_zero_of_sum_ne_zero (Nat.pos_iff_ne_zero.mp h)
  rw [tallyAt_apply] at hs
  exact ⟨s, by by_contra hne; exact hs (if_neg fun h => hne h.1)⟩
theorem barOwed_pos {n : ℕ} {g : GSem nD τ sig} {u : Unit} (h : 0 < barOwed n g u) : ∃ p, g = barCell p := by
  unfold barOwed at h
  rw [Finset.sum_apply, Finsupp.finset_sum_apply] at h
  obtain ⟨s, -, hs⟩ := Finset.exists_ne_zero_of_sum_ne_zero (Nat.pos_iff_ne_zero.mp h)
  rw [tallyAt_apply] at hs
  exact ⟨s, by by_contra hne; exact hs (if_neg fun h => hne h.1)⟩

/-- A device that owes blocks to receive cells may wait on its barrier cell. -/
theorem mayWait_bar (c : Fin 16) (n : ℕ) :
    (levAts L lv : sProp 𝕄) ⊢ MayWait ((c : Dev nD) : Thread nD τ) (.reg barrier0) () (recvOwed c n) :=
  MayOwe.of_cut (L := L) (lev := lv) 1 (fun p hp => by rw [Finset.mem_singleton.mp hp, L_tc]; exact Finset.mem_singleton_self _)
    (fun g u hg => by obtain ⟨s, rfl⟩ := recvOwed_pos hg; rw [L_tc]; exact Finset.mem_singleton_self _)
    (fun p hp => by rw [Finset.mem_singleton.mp hp]; exact Nat.le_refl 1)
    (fun g u hg => by obtain ⟨s, rfl⟩ := recvOwed_pos hg; rw [lv_recv]; decide)

/-! ## What a device holds between two statements -/

section State

variable (X : Fin 16 → Vec F S4096x256 .f32) (W : Fin 16 → Vec F S4096x8192 .f32) (K : GSem nD τ sig → ℕ)

/-- Every cell's invariant, under the names `K`. -/
def invs : sProp 𝕄 :=
  bigSep Finset.univ fun c : Fin 16 => iprop(cellInv ER (Rd X) (K (barCell c)) (barCell c)
    ∗ bigSep Finset.univ fun s : Fin 16 => iprop(cellInv ER (Rd X) (K (sendCell c s)) (sendCell c s)
      ∗ cellInv ER (Rd X) (K (recvCell c s)) (recvCell c s)))

instance invs_persistent : BI.Persistent (invs X K) := by unfold invs; infer_instance

theorem invs_at (c : Fin 16) : invs X K ⊢ iprop(cellInv ER (Rd X) (K (barCell c)) (barCell c)
    ∗ bigSep Finset.univ fun s : Fin 16 => iprop(cellInv ER (Rd X) (K (sendCell c s)) (sendCell c s)
      ∗ cellInv ER (Rd X) (K (recvCell c s)) (recvCell c s))) :=
  bigSep_elim (Finset.mem_univ c)
theorem invs_pair (c s : Fin 16) : (bigSep Finset.univ fun s : Fin 16 => iprop(cellInv ER (Rd X) (K (sendCell c s)) (sendCell c s)
      ∗ cellInv ER (Rd X) (K (recvCell c s)) (recvCell c s)))
    ⊢ iprop(cellInv ER (Rd X) (K (sendCell c s)) (sendCell c s) ∗ cellInv ER (Rd X) (K (recvCell c s)) (recvCell c s)) :=
  bigSep_elim (Finset.mem_univ s)

theorem invs_bar (c : Fin 16) : invs X K ⊢ cellInv ER (Rd X) (K (barCell c)) (barCell c) := by
  iintro H
  ihave H' := (invs_at X K c) $$ H
  icases H' with ⟨H, -⟩
  iexact H
theorem invs_send (c s : Fin 16) : invs X K ⊢ cellInv ER (Rd X) (K (sendCell c s)) (sendCell c s) := by
  iintro H
  ihave H' := (invs_at X K c) $$ H
  icases H' with ⟨-, H⟩
  ihave H' := (invs_pair X K c s) $$ H
  icases H' with ⟨H, -⟩
  iexact H
theorem invs_recv (c s : Fin 16) : invs X K ⊢ cellInv ER (Rd X) (K (recvCell c s)) (recvCell c s) := by
  iintro H
  ihave H' := (invs_at X K c) $$ H
  icases H' with ⟨-, H⟩
  ihave H' := (invs_pair X K c s) $$ H
  icases H' with ⟨-, H⟩
  iexact H

/-- A cell at which nothing is due any more. -/
def Done (g : GSem nD τ sig) : sProp 𝕄 := iprop(∃ R, ⌜∀ r, R ≤ r → (Rd X).duties g r = ∅⌝ ∗ atPos ER g R ∅ 0)

/-- Send `s` not made yet: the row block, the slot it is written to, the two tokens, and the right to wait for it. -/
def Snd (c s : Fin 16) : sProp 𝕄 :=
  iprop(owns ((c : Dev nD) : Thread nD τ) (xbRow (c - s)) fullShare (blk X c (c - s))
    ∗ barPay (c - s) c
    ∗ dutyTok ER (sendCell c s) 0 (0 : Fin 16) ∗ reached ER (sendCell c s) 0
    ∗ dutyTok ER (recvCell (c - s) c) 0 (0 : Fin 16)
    ∗ atPos ER (sendCell c s) 0 ∅ 0)
/-- Send `s` made and not waited for. -/
def Sent (c s : Fin 16) : sProp 𝕄 :=
  iprop(cred (tallyAt (sendCell c s) () cN) ∗ atPos ER (sendCell c s) 0 ∅ 0)
/-- Send `s` waited for: the row block is back. -/
def Back (c s : Fin 16) : sProp 𝕄 :=
  iprop(owns ((c : Dev nD) : Thread nD τ) (xbRow (c - s)) fullShare (blk X c (c - s)) ∗ Done X (sendCell c s))

/-- Send `s` of device `c` at step `t`, when the first `n` sends and the first `m` waits of this step's code are past. -/
def Sst (c : Fin 16) (t n m : ℕ) (s : Fin 16) : sProp 𝕄 :=
  if s.val = 0 ∨ 15 < t ∨ (t = 15 ∧ s.val ≤ m) then Back X c s
  else if t = 0 ∧ n < s.val then Snd X c s
  else Sent c s

/-- What device `c` owes at step `t` past `n` sends. -/
def owedAt (c : Fin 16) (t n : ℕ) : CellTallies nD τ sig Unit := if t = 0 then recvOwed c n else 0

/-- The sends of device `c`, with the invariants and what it owes. -/
def SW (c : Fin 16) (t n m : ℕ) : sProp 𝕄 :=
  iprop(invs X K ∗ bigSep Finset.univ (Sst X c t n m) ∗ ∃ W, owes ((c : Dev nD) : Thread nD τ) (owedAt c t n) W)

/-- The receive of device `c` from `c + s`, when the first `n` are waited for: the block landed, or the right to wait for it. -/
def Rst (c : Fin 16) (n : ℕ) (s : Fin 16) : sProp 𝕄 :=
  if s.val < n then iprop(owns ((c : Dev nD) : Thread nD τ) (xgSlot (c + s)) fullShare (blk X (c + s) c) ∗ Done X (recvCell c (c + s)))
  else iprop(cred (tallyAt (recvCell c (c + s)) () cN) ∗ atPos ER (recvCell c (c + s)) 0 ∅ 0)
def RV (c : Fin 16) (n : ℕ) : sProp 𝕄 := bigSep Finset.univ (Rst X c n)

/-- The slot row block `s` of `w` is staged in. -/
abbrev sl (s : Fin 16) : Fin 4 := ⟨s.val % 4, Nat.mod_lt _ (by decide)⟩

abbrev wHome (c s : Fin 16) : sProp 𝕄 := owns ((c : Dev nD) : Thread nD τ) (wRow (c + s)) fullShare (wblk W c (c + s))
/-- A free slot, with its counter. -/
abbrev wFree (c : Fin 16) (j : Fin 4) : sProp 𝕄 :=
  iprop((∃ Y, owns ((c : Dev nD) : Thread nD τ) (wvSlot j) fullShare Y) ∗ semVal (((c : Dev nD) : Thread nD τ), .dma (wS j)) 0)
/-- Row block `c + s` of `w` on its way to its slot. -/
abbrev wFly (c s : Fin 16) : sProp 𝕄 :=
  Flight EC ((c : Dev nD) : Thread nD τ) (.dma (wS (sl s))) () wN
    iprop(owns ((c : Dev nD) : Thread nD τ) (wvSlot (sl s)) fullShare (wblk W c (c + s)) ∗ wHome W c s)

/-- Row block `c + s` of `w` when the blocks below `b` are on their way and those below `a` used. -/
def Wst (c : Fin 16) (a b : ℕ) (s : Fin 16) : sProp 𝕄 :=
  if s.val < a then iprop(wHome W c s ∗ if 12 ≤ s.val then wFree c (sl s) else iprop(emp))
  else if s.val < b then wFly W c s
  else wHome W c s

end State
end Cert.KernelIdeal.Gather
-- ==== Proof.KernelIdeal.Steps.lean ====
/- The two guarded statements of a block of the body, send `s` and the wait for it, as rules on what the device holds. -/
module

public import proofs.«01_k».proof.Proof.KernelIdeal.Cells

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable {α : Type} {Q : α → sProp (MT nD τ sig Unit (Elt F) ℕ UU ℕ)} (bd : Option (𝒱₀).V)

/-! ## The printed offsets name the blocks -/

theorem slot_of {off : Fin 3 → Nat} (b : Fin 16) (h : off = ![b.val, 0, 0]) (hi : ∀ a, off a + S1x256x256.size a ≤ S16x256x256.size a) :
    (xgM.slice (Rect.unit off S1x256x256.size hi) (fun _ => rfl)).squeeze S256x256 squeezes_S1x256x256_S256x256 = xgSlot b := by
  subst h; rfl
theorem row_of {off : Fin 2 → Nat} (b : Fin 16) (h : off = ![256 * b.val, 0]) (hi : ∀ a, off a + S256x256.size a ≤ S4096x256.size a) :
    xbM.slice (Rect.unit off S256x256.size hi) (fun _ => rfl) = xbRow b := by
  subst h; rfl

/-! ## The statuses around one send -/

theorem Sst_send_ne {c s s' : Fin 16} {t n m : ℕ} (hs : n + 1 = s.val) (h : s' ≠ s) : Sst X c t n m s' = Sst X c t (n + 1) m s' := by
  unfold Sst
  have : (t = 0 ∧ n < s'.val) ↔ (t = 0 ∧ n + 1 < s'.val) := by
    have := Fin.val_ne_of_ne h; omega
  simp only [this]
theorem Sst_send_pos {c s : Fin 16} {n m : ℕ} (hs : n + 1 = s.val) : Sst X c 0 n m s = Snd X c s := by
  unfold Sst; rw [if_neg (by omega), if_pos ⟨rfl, by omega⟩]
theorem Sst_send_end {c s : Fin 16} {n m : ℕ} (hs : n + 1 = s.val) : Sst X c 0 (n + 1) m s = Sent c s := by
  unfold Sst; rw [if_neg (by omega), if_neg (by omega)]
theorem Sst_late {c s : Fin 16} {t n n' m : ℕ} (ht : t ≠ 0) : Sst X c t n m s = Sst X c t n' m s := by
  unfold Sst; simp only [ht, false_and]

theorem Sst_wait_ne {c s s' : Fin 16} {t n m : ℕ} (hs : m + 1 = s.val) (h : s' ≠ s) : Sst X c t n m s' = Sst X c t n (m + 1) s' := by
  unfold Sst
  have : (s'.val = 0 ∨ 15 < t ∨ (t = 15 ∧ s'.val ≤ m)) ↔ (s'.val = 0 ∨ 15 < t ∨ (t = 15 ∧ s'.val ≤ m + 1)) := by
    have := Fin.val_ne_of_ne h; omega
  simp only [this]
theorem Sst_wait_pos {c s : Fin 16} {n m : ℕ} (hs : m + 1 = s.val) : Sst X c 15 n m s = Sent c s := by
  unfold Sst; rw [if_neg (by omega), if_neg (by omega)]
theorem Sst_wait_end {c s : Fin 16} {n m : ℕ} (hs : m + 1 = s.val) : Sst X c 15 n (m + 1) s = Back X c s := by
  unfold Sst; rw [if_pos (by omega)]
theorem Sst_early {c s : Fin 16} {t n m m' : ℕ} (ht : t ≠ 15) : Sst X c t n m s = Sst X c t n m' s := by
  unfold Sst; simp only [ht, false_and]

theorem Sst_send_rest (c s : Fin 16) {t n m : ℕ} (hs : n + 1 = s.val) :
    bigSep (Finset.univ.erase s) (Sst X c t n m) ⊢ bigSep (Finset.univ.erase s) (Sst X c t (n + 1) m) :=
  Entails.of_eq (bigSep_congr fun s' hs' => Sst_send_ne X hs (Finset.ne_of_mem_erase hs'))
theorem Sst_wait_rest (c s : Fin 16) {t n m : ℕ} (hs : m + 1 = s.val) :
    bigSep (Finset.univ.erase s) (Sst X c t n m) ⊢ bigSep (Finset.univ.erase s) (Sst X c t n (m + 1)) :=
  Entails.of_eq (bigSep_congr fun s' hs' => Sst_wait_ne X hs (Finset.ne_of_mem_erase hs'))

theorem sub_ne {c s : Fin 16} (h : s ≠ 0) : c ≠ c - s := by revert c s; decide

/-! ## Send -/

/-- Send `s`, where the step is the first: the row block goes to device `c - s`, the device is left the right to wait for it. At
    the other steps the statement is not run and nothing changes. -/
theorem send_step (c s : Fin 16) {t n m : ℕ} (hs : n + 1 = s.val) {C : Prop} [Decidable C] (hC : C ↔ t = 0)
    {offS : Fin 2 → Nat} {offD : Fin 3 → Nat} {offR offP : Fin 1 → Nat} {dev : ℕ}
    (eS : offS = ![256 * (c - s).val, 0]) (eD : offD = ![c.val, 0, 0]) (eR : offR = ![c.val]) (eP : offP = ![s.val])
    (eV : dev = (c - s).val)
    {iS : C → ∀ a, offS a + S256x256.size a ≤ S4096x256.size a} {iD : C → ∀ a, offD a + S1x256x256.size a ≤ S16x256x256.size a}
    {iR : C → ∀ a, offR a + S1.size a ≤ S16.size a} {iP : ∀ a, offP a + S1.size a ≤ S16.size a} {iV : C → dev < nD}
    {w1 : ∀ h : C, (xbM.slice (Rect.unit offS S256x256.size (iS h)) (fun _ => rfl)).view.WordExact}
    {w2 : ∀ h : C, ((xgM.slice (Rect.unit offD S1x256x256.size (iD h)) (fun _ => rfl)).squeeze S256x256 squeezes_S1x256x256_S256x256).view.WordExact}
    {w3 : ∀ h : C, DmaTarget.Typed (nD := nD) (τ := τ) .vmem (.dma ((cc0_scratch4.slice (Rect.unit offR S1.size (iR h))).squeeze S_ squeezes_S1_S_).sem)
      (.remote (Dev.tc (⟨dev, iV h⟩ : Dev nD)) ((xgM.slice (Rect.unit offD S1x256x256.size (iD h)) (fun _ => rfl)).squeeze S256x256 squeezes_S1x256x256_S256x256)
        (.dma ((cc0_scratch3.slice (Rect.unit offP S1.size iP)).squeeze S_ squeezes_S1_S_).sem))}
    {Kt : Prog (TpuEff nD τ sig (Elt F) Λ₀ .tc) α} {Fr : sProp 𝕄}
    (hk : iprop(SW X K c t (n + 1) m ∗ Fr) ⊢ wp frame (wpE defs₀ 𝒱₀ ((c : Dev nD) : Thread nD τ) bd) Set.univ Kt Q) :
    iprop(SW X K c t n m ∗ Fr) ⊢ wp frame (wpE defs₀ 𝒱₀ ((c : Dev nD) : Thread nD τ) bd) Set.univ
      (if h : C then (do
        Prog.lift (.enqueueDma (xbM.slice (Rect.unit offS S256x256.size (iS h)) (fun _ => rfl))
          (.remote (Dev.tc (⟨dev, iV h⟩ : Dev nD)) ((xgM.slice (Rect.unit offD S1x256x256.size (iD h)) (fun _ => rfl)).squeeze S256x256 squeezes_S1x256x256_S256x256)
            (.dma ((cc0_scratch3.slice (Rect.unit offP S1.size iP)).squeeze S_ squeezes_S1_S_).sem))
          (.dma ((cc0_scratch4.slice (Rect.unit offR S1.size (iR h))).squeeze S_ squeezes_S1_S_).sem) (w1 h) (w2 h) (w3 h))
        Kt) else Kt) Q := by
  have hs0 : s ≠ 0 := fun h => by subst h; exact absurd hs (Nat.succ_ne_zero n)
  refine wp_guard 𝒱₀ _ bd (fun h => ?_) (fun h => ?_)
  · subst eS eD eR eP eV
    obtain rfl := hC.mp h
    unfold SW
    rw [bigSep_univ_at _ s, Sst_send_pos X hs]
    unfold Snd barPay
    rw [if_neg (sub_ne hs0).symm]
    iintro ⟨⟨#HI, ⟨⟨Hsrc, ⟨Hdst, Hr2⟩, Ht1, Hr1, Ht2, Hat⟩, Hrest⟩, ⟨%Wt, HO⟩⟩, HF⟩
    iapply (wp_send_owns 𝒱₀ ((c : Dev nD) : Thread nD τ) bd ER (Rd X) (c' := (((c - s : Fin 16) : Dev nD) : Thread nD τ))
      (src := xbRow (c - s)) (dst := xgSlot c) (sS := .dma (sendS s)) (sem := .dma (recvS c)) (d₁ := 0) (d₂ := 0) (r₁ := 0) (r₂ := 0) (κ₁ := K (sendCell c s)) (κ₂ := K (recvCell (c - s) c))
      (by rw [duties_send X c hs0]; exact Finset.mem_singleton_self _)
      (by rw [duties_recv X (c - s) (sub_ne hs0)]; exact Finset.mem_singleton_self _)
      () () cN (xgSlot_credit c) (amount_send X c s 0) (amount_recv X (c - s) c 0) (recvOwed c (n + 1)) (recvOwed_step c s hs)
      (X := blk X c (c - s)) (by rw [payload_send]; exact .rfl) (by rw [payload_recv]; exact .rfl))
      $$ [Hsrc Hdst Hr2 Ht1 Hr1 Ht2 HO]
    · isplitr; · iapply (invs_send X K c s); iexact HI
      isplitr; · iapply (invs_recv X K (c - s) c); iexact HI
      isplitl [Hsrc]; · iexact Hsrc
      isplitl [Hdst]; · iexact Hdst
      isplitl [HO]; · iexact HO
      isplitl [Ht1]; · iexact Ht1
      isplitl [Hr1]; · iexact Hr1
      isplitl [Ht2]; · iexact Ht2
      iexact Hr2
    iintro ⟨Hc, HO⟩
    iapply hk
    isplitr [HF]
    · unfold SW
      isplitr; · iexact HI
      isplitr [HO]
      · rw [bigSep_univ_at _ s, Sst_send_end X hs]
        isplitl [Hc Hat]
        · unfold Sent
          isplitl [Hc] <;> iassumption
        · iapply (Sst_send_rest X c s hs) $$ Hrest
      · iexists Wt; iexact HO
    · iexact HF
  · have ht : t ≠ 0 := fun e => h (hC.mpr e)
    refine Entails.trans (Entails.of_eq ?_) hk
    unfold SW owedAt
    rw [if_neg ht, if_neg ht, bigSep_congr (s := Finset.univ) fun s' _ => Sst_late X (c := c) (m := m) (n := n) (n' := n + 1) ht]

/-! ## The wait for a send -/

/-- The wait for send `s`, where the step is the last: the row block is back. At the other steps nothing changes. -/
theorem wait_step (c s : Fin 16) {t n m : ℕ} (hs : m + 1 = s.val) {C : Prop} [Decidable C] (hC : C ↔ t = 15)
    {offS : Fin 2 → Nat} {offD : Fin 3 → Nat} {offP : Fin 1 → Nat} (eP : offP = ![s.val])
    (eS : offS = ![256 * (c - s).val, 0])
    {iS : C → ∀ a, offS a + S256x256.size a ≤ S4096x256.size a} {iD : C → ∀ a, offD a + S1x256x256.size a ≤ S16x256x256.size a}
    {iP : ∀ a, offP a + S1.size a ≤ S16.size a}
    {w1 : ∀ h : C, ((xgM.slice (Rect.unit offD S1x256x256.size (iD h)) (fun _ => rfl)).squeeze S256x256 squeezes_S1x256x256_S256x256).view.WordExact}
    {w2 : ∀ h : C, (xbM.slice (Rect.unit offS S256x256.size (iS h)) (fun _ => rfl)).view.WordExact}
    {Kt : Prog (TpuEff nD τ sig (Elt F) Λ₀ .tc) α} {Fr : sProp 𝕄}
    (hk : iprop(SW X K c t n (m + 1) ∗ Fr) ⊢ wp frame (wpE defs₀ 𝒱₀ ((c : Dev nD) : Thread nD τ) bd) Set.univ Kt Q) :
    iprop(SW X K c t n m ∗ Fr) ⊢ wp frame (wpE defs₀ 𝒱₀ ((c : Dev nD) : Thread nD τ) bd) Set.univ
      (if h : C then (do
        Prog.lift (.waitDma2 ((cc0_scratch3.slice (Rect.unit offP S1.size iP)).squeeze S_ squeezes_S1_S_).sem
          ((xgM.slice (Rect.unit offD S1x256x256.size (iD h)) (fun _ => rfl)).squeeze S256x256 squeezes_S1x256x256_S256x256)
          (xbM.slice (Rect.unit offS S256x256.size (iS h)) (fun _ => rfl)) (w1 h) (w2 h))
        Kt) else Kt) Q := by
  have hs0 : s ≠ 0 := fun h => by subst h; exact absurd hs (Nat.succ_ne_zero m)
  refine wp_guard 𝒱₀ _ bd (fun h => ?_) (fun h => ?_)
  · subst eP eS
    obtain rfl := hC.mp h
    unfold SW owedAt
    rw [bigSep_univ_at _ s, Sst_wait_pos X hs, if_neg (by decide)]
    unfold Sent
    iintro ⟨⟨#HI, ⟨⟨Hc, Hat⟩, Hrest⟩, ⟨%Wt, HO⟩⟩, HF⟩
    iapply (Rounds.wp_wait_rest_token 𝒱₀ ER (Rd X) ((c : Dev nD) : Thread nD τ) bd (sm := .dma (sendS s)) (κ := K (sendCell c s))
      (wpE_waitDma2_eq 𝒱₀ ((c : Dev nD) : Thread nD τ) bd Set.univ) (Set.mem_univ _) () (O := 0) (W := Wt) (R := 0) (m := 0) (T := ∅)
      (by rw [Nat.zero_add]; exact (expect_send X c hs0).symm)) $$ [Hc Hat HO]
    · isplitr; · iapply (invs_send X K c s); iexact HI
      isplitl [Hc]; · iexact Hc
      isplitl [HO]; · iexact HO
      isplitr; · rw [MayWait_zero]; iempintro
      iexact Hat
    iintro ⟨HO, Hat, -, Hp⟩
    ihave Hp' := (Entails.of_eq (rest_send X c hs0)) $$ Hp
    iapply hk
    isplitr [HF]
    · unfold SW owedAt
      isplitr; · iexact HI
      isplitr [HO]
      · rw [bigSep_univ_at _ s, Sst_wait_end X hs]
        isplitl [Hp' Hat]
        · unfold Back sendPay Done
          isplitl [Hp']; · iexact Hp'
          iexists 1
          isplitr; · ipureintro; exact duties_later X _
          iexact Hat
        · iapply (Sst_wait_rest X c s hs) $$ Hrest
      · rw [if_neg (by decide)]; iexists _; iexact HO
    · iexact HF
  · have ht : t ≠ 15 := fun e => h (hC.mpr e)
    refine Entails.trans (Entails.of_eq ?_) hk
    unfold SW
    rw [bigSep_congr (s := Finset.univ) fun s' _ => Sst_early X (c := c) (t := t) (n := n) (m := m) (m' := m + 1) ht]

end Cert.KernelIdeal.Gather
-- ==== Proof.KernelIdeal.Sends.lean ====
/- The fifteen blocks of sends and waits, part by part of the body. -/
module

public import proofs.«01_k».proof.Proof.KernelIdeal.Steps

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (i : grid0.Coords) {Fr : sProp (MT nD τ sig Unit (Elt F) ℕ UU ℕ)} (bd : Option (𝒱₀).V)

theorem cond_first : k0_cond2 i = 1#1 ↔ (i 0).val = 0 := by revert i; decide +kernel
theorem cond_last : k0_cond3 i = 1#1 ↔ (i 0).val = 15 := by revert i; decide +kernel

/-- The device `s` places below, as the body computes it from its own number. -/
abbrev below (c s : Fin 16) : BitVec 32 :=
  Scalar.remsi (Scalar.addi (Scalar.subi (wd c) (BitVec.ofNat 32 s.val)) 16#32) 16#32
theorem below_val (c s : Fin 16) : (below c s).toNat = (c - s).val := by revert c s; decide +kernel
theorem below_row (c s : Fin 16) : (![(Scalar.muli (below c s) 256#32).toNat, 0] : Fin 2 → Nat) = ![256 * (c - s).val, 0] := by
  revert c s; decide +kernel
theorem own_slot (c : Fin 16) : (![(wd c).toNat, 0, 0] : Fin 3 → Nat) = ![c.val, 0, 0] := by revert c; decide +kernel
theorem own_sem (c : Fin 16) : (![(wd c).toNat] : Fin 1 → Nat) = ![c.val] := by revert c; decide +kernel

/-- The end of a stretch of statements. -/
theorem wp_done {α : Type} {P : sProp 𝕄} {a : α} {Q : α → sProp (MT nD τ sig Unit (Elt F) ℕ UU ℕ)} (h : P ⊢ Q a) :
    P ⊢ wp frame (wpE defs₀ 𝒱₀ ((c : Dev nD) : Thread nD τ) bd) Set.univ (.ret a) Q := by
  rw [wp_ret]; iintro H; imodintro; iapply h $$ H

section Parts

variable (harg1 : tbM.IsWhole) (arg2 : Memref sig .tc .vmem S4096x256 .f32) (harg2 : arg2.IsWhole) (harg3 : wM.IsWhole)
  (arg4 : Memref sig .tc .vmem S256x8192 .f32) (harg4 : arg4.IsWhole) (harg5 : xbM.IsWhole) (harg6 : xgM.IsWhole) (harg7 : wvM.IsWhole)
  (arg0 : BitVec 32) (hw5 : k0_chk5 i (wd c))

/-- Blocks 3 and 4, and send 5. -/
theorem part5_wp (v26 c16 : BitVec 32) :
    iprop(SW X K c (i 0).val 2 2 ∗ Fr) ⊢ wp frame (wpE defs₀ 𝒱₀ ((c : Dev nD) : Thread nD τ) bd) Set.univ
      (k0_part5 i tbM harg1 arg2 harg2 wM harg3 arg4 harg4 xbM harg5 xgM harg6 wvM harg7 cc0_scratch3 cc0_scratch4 cc0_scratch5
        arg0 (wd c) hw5 v26 c16) fun _ => iprop(SW X K c (i 0).val 5 4 ∗ Fr) := by
  rw [k0_part5_eq_skeleton]; unfold k0_part5_skel
  refine send_step X K bd c 3 rfl (cond_first i) (below_row c 3) (own_slot c) (own_sem c) rfl (below_val c 3) ?_
  refine wait_step X K bd c 3 rfl (cond_last i) rfl (below_row c 3) ?_
  refine send_step X K bd c 4 rfl (cond_first i) (below_row c 4) (own_slot c) (own_sem c) rfl (below_val c 4) ?_
  refine wait_step X K bd c 4 rfl (cond_last i) rfl (below_row c 4) ?_
  refine send_step X K bd c 5 rfl (cond_first i) (below_row c 5) (own_slot c) (own_sem c) rfl (below_val c 5) ?_
  exact wp_done c bd .rfl

/-- The wait of block 5, and blocks 6 and 7. -/
theorem part6_wp (v54 : BitVec 32) :
    iprop(SW X K c (i 0).val 5 4 ∗ Fr) ⊢ wp frame (wpE defs₀ 𝒱₀ ((c : Dev nD) : Thread nD τ) bd) Set.univ
      (k0_part6 i tbM harg1 arg2 harg2 wM harg3 arg4 harg4 xbM harg5 xgM harg6 wvM harg7 cc0_scratch3 cc0_scratch4 cc0_scratch5
        arg0 (wd c) hw5 v54) fun _ => iprop(SW X K c (i 0).val 7 7 ∗ Fr) := by
  rw [k0_part6_eq_skeleton]; unfold k0_part6_skel
  refine wait_step X K bd c 5 rfl (cond_last i) rfl (below_row c 5) ?_
  refine send_step X K bd c 6 rfl (cond_first i) (below_row c 6) (own_slot c) (own_sem c) rfl (below_val c 6) ?_
  refine wait_step X K bd c 6 rfl (cond_last i) rfl (below_row c 6) ?_
  refine send_step X K bd c 7 rfl (cond_first i) (below_row c 7) (own_slot c) (own_sem c) rfl (below_val c 7) ?_
  refine wait_step X K bd c 7 rfl (cond_last i) rfl (below_row c 7) ?_
  exact wp_done c bd .rfl

/-- Blocks 8 to 10. -/
theorem part7_wp (v81 c0 : BitVec 32) :
    iprop(SW X K c (i 0).val 7 7 ∗ Fr) ⊢ wp frame (wpE defs₀ 𝒱₀ ((c : Dev nD) : Thread nD τ) bd) Set.univ
      (k0_part7 i tbM harg1 arg2 harg2 wM harg3 arg4 harg4 xbM harg5 xgM harg6 wvM harg7 cc0_scratch3 cc0_scratch4 cc0_scratch5
        arg0 (wd c) hw5 v81 c0) fun _ => iprop(SW X K c (i 0).val 10 10 ∗ Fr) := by
  rw [k0_part7_eq_skeleton]; unfold k0_part7_skel
  refine send_step X K bd c 8 rfl (cond_first i) (below_row c 8) (own_slot c) (own_sem c) rfl (below_val c 8) ?_
  refine wait_step X K bd c 8 rfl (cond_last i) rfl (below_row c 8) ?_
  refine send_step X K bd c 9 rfl (cond_first i) (below_row c 9) (own_slot c) (own_sem c) rfl (below_val c 9) ?_
  refine wait_step X K bd c 9 rfl (cond_last i) rfl (below_row c 9) ?_
  refine send_step X K bd c 10 rfl (cond_first i) (below_row c 10) (own_slot c) (own_sem c) rfl (below_val c 10) ?_
  refine wait_step X K bd c 10 rfl (cond_last i) rfl (below_row c 10) ?_
  exact wp_done c bd .rfl

/-- Blocks 11 to 13. -/
theorem part8_wp (v108 c256 : BitVec 32) :
    iprop(SW X K c (i 0).val 10 10 ∗ Fr) ⊢ wp frame (wpE defs₀ 𝒱₀ ((c : Dev nD) : Thread nD τ) bd) Set.univ
      (k0_part8 i tbM harg1 arg2 harg2 wM harg3 arg4 harg4 xbM harg5 xgM harg6 wvM harg7 cc0_scratch3 cc0_scratch4 cc0_scratch5
        arg0 (wd c) hw5 v108 c256) fun _ => iprop(SW X K c (i 0).val 13 13 ∗ Fr) := by
  rw [k0_part8_eq_skeleton]; unfold k0_part8_skel
  refine send_step X K bd c 11 rfl (cond_first i) (below_row c 11) (own_slot c) (own_sem c) rfl (below_val c 11) ?_
  refine wait_step X K bd c 11 rfl (cond_last i) rfl (below_row c 11) ?_
  refine send_step X K bd c 12 rfl (cond_first i) (below_row c 12) (own_slot c) (own_sem c) rfl (below_val c 12) ?_
  refine wait_step X K bd c 12 rfl (cond_last i) rfl (below_row c 12) ?_
  refine send_step X K bd c 13 rfl (cond_first i) (below_row c 13) (own_slot c) (own_sem c) rfl (below_val c 13) ?_
  refine wait_step X K bd c 13 rfl (cond_last i) rfl (below_row c 13) ?_
  exact wp_done c bd .rfl

end Parts

end Cert.KernelIdeal.Gather
-- ==== Proof.KernelIdeal.Words.lean ====
/- Reading the table of device numbers, starting a copy of a row block of `w`, and signalling a barrier cell, as rules on what
   the device holds. -/
module

public import proofs.«01_k».proof.Proof.KernelIdeal.Sends

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

/-- A stretch of statements and what follows it. -/
theorem wp_seq {β : Type} {P : sProp 𝕄} {R : β → sProp (MT nD τ sig Unit (Elt F) ℕ UU ℕ)} {p : Prog (TpuEff nD τ sig (Elt F) Λ₀ .tc) β}
    {k : β → Prog (TpuEff nD τ sig (Elt F) Λ₀ .tc) α}
    (hp : P ⊢ wp frame (wpE defs₀ 𝒱₀ ((c : Dev nD) : Thread nD τ) bd) Set.univ p R)
    (hk : ∀ a, R a ⊢ wp frame (wpE defs₀ 𝒱₀ ((c : Dev nD) : Thread nD τ) bd) Set.univ (k a) Q) :
    P ⊢ wp frame (wpE defs₀ 𝒱₀ ((c : Dev nD) : Thread nD τ) bd) Set.univ (p >>= k) Q := by
  rw [wp_bind]
  exact hp.trans (wp_mono _ _ _ hk)

/-! ## The table -/

/-- Entry `s` of device `c`'s table: the device `s` places above. -/
def tabv (j : S16.Idx) : Elt F .i32 := wd (c + (show Fin 16 from j 0))
abbrev Tab : sProp 𝕄 := owns ((c : Dev nD) : Thread nD τ) tbM fullShare (tabv (F := F) c)

theorem entry_eq (b : Fin 16) (hi : ∀ a, (![b.val] : Fin 1 → Nat) a + S1.size a ≤ S16.size a) (h : 0 < (Rect.unit (s := S16) ![b.val] S1.size hi).shape.numel) :
    tabv (F := F) c ((Rect.unit (s := S16) ![b.val] S1.size hi).emb (Shape.Idx.first h)) = wd (c + b) := by
  unfold tabv
  congr 2

/-- Reading entry `b`. -/
theorem word_step (b : Fin 16) {off : Fin 1 → Nat} (e : off = ![b.val]) {hi : ∀ a, off a + S1.size a ≤ S16.size a}
    {k : Elt F .i32 → Prog (TpuEff nD τ sig (Elt F) Λ₀ .tc) α}
    (hk : iprop(Tab c ∗ Fr) ⊢ wp frame (wpE defs₀ 𝒱₀ ((c : Dev nD) : Thread nD τ) bd) Set.univ (k (wd (c + b))) Q) :
    iprop(Tab c ∗ Fr) ⊢ wp frame (wpE defs₀ 𝒱₀ ((c : Dev nD) : Thread nD τ) bd) Set.univ
      (smemLoad tbM (Rect.unit (s := S16) off S1.size hi) numel1_S1 rfl >>= k) Q := by
  subst e
  unfold smemLoad smemLoadElt
  rw [Prog.bind_op]
  simp only [Prog.bind_ret]
  iintro ⟨HT, HF⟩
  ihave HT' := (owns_elim ((c : Dev nD) : Thread nD τ) tbM fullShare (tabv (F := F) c)) $$ HT
  icases HT' with ⟨%f, %hf, HT⟩
  iapply (wp_load_rect 𝒱₀ ((c : Dev nD) : Thread nD τ) bd Set.univ (m := tbM) (r := Rect.unit (s := S16) ![b.val] S1.size hi) (f := f) (q := fullShare)
    (S := tbM.view.set) (by rw [show tbM.view.set = Finset.univ from View.set_whole _]; exact Finset.subset_univ _)) $$ HT
  iintro HT
  have e : (tbM.access (Rect.unit (s := S16) ![b.val] S1.size hi)).read (Elt F) f (Shape.Idx.first (numel1_S1.symm ▸ Nat.one_pos)) = wd (c + b) := by
    rw [← entry_eq (F := F) c b hi (numel1_S1.symm ▸ Nat.one_pos), ← hf]; rfl
  simp only [e]
  iapply hk
  isplitl [HT]
  · unfold Tab owns; iexists f; isplitr
    · ipureintro; exact hf
    · iexact HT
  · iexact HF

/-- A condition the program takes for granted, and that holds. -/
theorem assume_step {P : sProp 𝕄} {C : Prop} {d : Decidable C} (h : C) {k : PLift C → Prog (TpuEff nD τ sig (Elt F) Λ₀ .tc) α}
    (hk : P ⊢ wp frame (wpE defs₀ 𝒱₀ ((c : Dev nD) : Thread nD τ) bd) Set.univ (k ⟨h⟩) Q) :
    P ⊢ wp frame (wpE defs₀ 𝒱₀ ((c : Dev nD) : Thread nD τ) bd) Set.univ (Prog.lift (.assume C d) >>= k) Q :=
  hk.trans (wp_assume 𝒱₀ ((c : Dev nD) : Thread nD τ) bd Set.univ h)

/-! ## Copies of row blocks of `w` -/

/-- The row blocks of `w` with the first `b` on their way, and the slots from `b` on free. -/
def WI (b : ℕ) : sProp 𝕄 :=
  iprop(bigSep Finset.univ (Wst W c 0 b) ∗ bigSep (Finset.univ.filter fun j : Fin 4 => b ≤ j.val) fun j => wFree c j)

theorem wrow_of {off : Fin 2 → Nat} (b : Fin 16) (h : off = ![256 * b.val, 0]) (hi : ∀ a, off a + S256x8192.size a ≤ S4096x8192.size a) :
    wM.slice (Rect.unit off S256x8192.size hi) (fun _ => rfl) = wRow b := by
  subst h; rfl
theorem word_row (b : Fin 16) : (![(Scalar.muli (wd b) 256#32).toNat, 0] : Fin 2 → Nat) = ![256 * b.val, 0] := by
  revert b; decide +kernel

/-- Starting the copy of row block `c + s` into its slot. -/
theorem wp_wstart {s : Fin 16} {offW : Fin 2 → Nat} {offV : Fin 3 → Nat} {offP : Fin 1 → Nat}
    (eW : offW = ![256 * (c + s).val, 0]) (eV : offV = ![s.val % 4, 0, 0]) (eP : offP = ![s.val % 4])
    {iW : ∀ a, offW a + S256x8192.size a ≤ S4096x8192.size a} {iV : ∀ a, offV a + S1x256x8192.size a ≤ S4x256x8192.size a}
    {iP : ∀ a, offP a + S1.size a ≤ S4.size a}
    {w1 : (wM.slice (Rect.unit offW S256x8192.size iW) (fun _ => rfl)).view.WordExact}
    {w2 : ((wvM.slice (Rect.unit offV S1x256x8192.size iV) (fun _ => rfl)).squeeze S256x8192 squeezes_S1x256x8192_S256x8192).view.WordExact}
    {w3 : DmaTarget.Typed (nD := nD) (τ := τ) (p := .tc) .hbm (.dma ((cc0_scratch5.slice (Rect.unit offP S1.size iP)).squeeze S_ squeezes_S1_S_).sem)
      (.here ((wvM.slice (Rect.unit offV S1x256x8192.size iV) (fun _ => rfl)).squeeze S256x8192 squeezes_S1x256x8192_S256x8192))}
    {k : PUnit → Prog (TpuEff nD τ sig (Elt F) Λ₀ .tc) α} :
    iprop(wHome W c s ∗ wFree c (sl s)) ⊢ iprop((wFly W c s -∗ wp frame (wpE defs₀ 𝒱₀ ((c : Dev nD) : Thread nD τ) bd) Set.univ (k ⟨⟩) Q)
      -∗ wp frame (wpE defs₀ 𝒱₀ ((c : Dev nD) : Thread nD τ) bd) Set.univ
        (.op (.enqueueDma (wM.slice (Rect.unit offW S256x8192.size iW) (fun _ => rfl))
          (.here ((wvM.slice (Rect.unit offV S1x256x8192.size iV) (fun _ => rfl)).squeeze S256x8192 squeezes_S1x256x8192_S256x8192))
          (.dma ((cc0_scratch5.slice (Rect.unit offP S1.size iP)).squeeze S_ squeezes_S1_S_).sem) w1 w2 w3) k) Q) := by
  subst eW eV eP
  iintro ⟨Hw, Hv, Hs⟩
  iapply (wp_dma_owns 𝒱₀ ((c : Dev nD) : Thread nD τ) bd EC (src := wRow (c + s)) (dst := wvSlot (sl s)) (sm := .dma (wS (sl s)))
    (q := fullShare) (X := wblk W c (c + s)) () wN (show _ = wN from wvSlot_credit (sl s)) wN_pos)
  isplitl [Hw]; · iexact Hw
  isplitl [Hv]; · iexact Hv
  iexact Hs

theorem Wst_start_ne {a b : ℕ} {s s' : Fin 16} (hs : s.val = b) (h : s' ≠ s) : Wst W c a b s' = Wst W c a (b + 1) s' := by
  unfold Wst
  have : (s'.val < b) ↔ (s'.val < b + 1) := by have := Fin.val_ne_of_ne h; omega
  simp only [this]

/-- One of the first four copies. -/
theorem wstart_step {A : sProp 𝕄} (s : Fin 16) (j : Fin 4) {b : ℕ} (hs : s.val = b) (hj : j.val = b)
    {offW : Fin 2 → Nat} {offV : Fin 3 → Nat} {offP : Fin 1 → Nat}
    (eW : offW = ![256 * (c + s).val, 0]) (eV : offV = ![s.val % 4, 0, 0]) (eP : offP = ![s.val % 4])
    {iW : ∀ a, offW a + S256x8192.size a ≤ S4096x8192.size a} {iV : ∀ a, offV a + S1x256x8192.size a ≤ S4x256x8192.size a}
    {iP : ∀ a, offP a + S1.size a ≤ S4.size a}
    {w1 : (wM.slice (Rect.unit offW S256x8192.size iW) (fun _ => rfl)).view.WordExact}
    {w2 : ((wvM.slice (Rect.unit offV S1x256x8192.size iV) (fun _ => rfl)).squeeze S256x8192 squeezes_S1x256x8192_S256x8192).view.WordExact}
    {w3 : DmaTarget.Typed (nD := nD) (τ := τ) (p := .tc) .hbm (.dma ((cc0_scratch5.slice (Rect.unit offP S1.size iP)).squeeze S_ squeezes_S1_S_).sem)
      (.here ((wvM.slice (Rect.unit offV S1x256x8192.size iV) (fun _ => rfl)).squeeze S256x8192 squeezes_S1x256x8192_S256x8192))}
    {k : PUnit → Prog (TpuEff nD τ sig (Elt F) Λ₀ .tc) α}
    (hk : iprop(A ∗ WI W c (b + 1) ∗ Fr) ⊢ wp frame (wpE defs₀ 𝒱₀ ((c : Dev nD) : Thread nD τ) bd) Set.univ (k ⟨⟩) Q) :
    iprop(A ∗ WI W c b ∗ Fr) ⊢ wp frame (wpE defs₀ 𝒱₀ ((c : Dev nD) : Thread nD τ) bd) Set.univ
      (Prog.lift (.enqueueDma (wM.slice (Rect.unit offW S256x8192.size iW) (fun _ => rfl))
          (.here ((wvM.slice (Rect.unit offV S1x256x8192.size iV) (fun _ => rfl)).squeeze S256x8192 squeezes_S1x256x8192_S256x8192))
          (.dma ((cc0_scratch5.slice (Rect.unit offP S1.size iP)).squeeze S_ squeezes_S1_S_).sem) w1 w2 w3) >>= k) Q := by
  have ej : j = sl s := Fin.ext (by show j.val = s.val % 4; have := j.2; omega)
  have ef : (Finset.univ.filter fun j : Fin 4 => b ≤ j.val) = insert (sl s) (Finset.univ.filter fun j : Fin 4 => b + 1 ≤ j.val) := by
    rw [← ej]; ext q
    simp only [Finset.mem_filter, Finset.mem_univ, _root_.true_and, Finset.mem_insert, Fin.ext_iff]; omega
  have en : sl s ∉ (Finset.univ.filter fun j : Fin 4 => b + 1 ≤ j.val) := by
    rw [← ej]; simp only [Finset.mem_filter, Finset.mem_univ, _root_.true_and]; omega
  have e0 : Wst W c 0 b s = wHome W c s := by unfold Wst; rw [if_neg (by omega), if_neg (by omega)]
  have e1 : Wst W c 0 (b + 1) s = wFly W c s := by unfold Wst; rw [if_neg (by omega), if_pos (by omega)]
  have er : bigSep (Finset.univ.erase s) (Wst W c 0 b) = bigSep (Finset.univ.erase s) (Wst W c 0 (b + 1)) :=
    bigSep_congr fun s' h => Wst_start_ne W c hs (Finset.ne_of_mem_erase h)
  have ei : (bigSep (Finset.univ.filter fun j : Fin 4 => b ≤ j.val) fun j => (wFree c j : sProp 𝕄))
      ⊢ iprop(wFree c (sl s) ∗ bigSep (Finset.univ.filter fun j : Fin 4 => b + 1 ≤ j.val) fun j => wFree c j) := by
    rw [ef]; exact Entails.of_eq (bigSep_insert en)
  have eI : WI W c b ⊢ iprop((wHome W c s ∗ wFree c (sl s)) ∗ (bigSep (Finset.univ.erase s) (Wst W c 0 (b + 1))
      ∗ bigSep (Finset.univ.filter fun j : Fin 4 => b + 1 ≤ j.val) fun j => wFree c j)) := by
    unfold WI
    rw [bigSep_univ_at _ s, e0, er]
    iintro ⟨⟨Hh, Hr⟩, Hf⟩
    ihave Hf' := ei $$ Hf
    icases Hf' with ⟨Hf, Hq⟩
    isplitl [Hh Hf]
    · isplitl [Hh] <;> iassumption
    · isplitl [Hr] <;> iassumption
  have eO : iprop(wFly W c s ∗ (bigSep (Finset.univ.erase s) (Wst W c 0 (b + 1))
      ∗ bigSep (Finset.univ.filter fun j : Fin 4 => b + 1 ≤ j.val) fun j => wFree c j)) ⊢ WI W c (b + 1) := by
    unfold WI
    rw [bigSep_univ_at _ s, e1]
    iintro ⟨Hh, Hr, Hf⟩
    isplitr [Hf]
    · isplitl [Hh] <;> iassumption
    · iexact Hf
  iintro ⟨HA, HW, HF⟩
  ihave HW' := eI $$ HW
  icases HW' with ⟨Hs, Hr⟩
  iapply (wp_wstart W c bd (k := k) eW eV eP) $$ Hs
  iintro Hs
  iapply hk
  isplitl [HA]; · iexact HA
  isplitl [Hs Hr]
  · iapply eO
    isplitl [Hs] <;> iassumption
  iexact HF

/-! ## Signals -/

/-- The signals of device `c` from device `n` on: each with its token and what it hands over; and what the device owes. -/
def Sig (n : ℕ) : sProp 𝕄 :=
  iprop((invs X K ∗ (bigSep Finset.univ fun p : Fin 16 => reached ER (barCell p) 0))
    ∗ (bigSep (Finset.univ.filter fun p : Fin 16 => n ≤ p.val) fun p => iprop(dutyTok ER (barCell p) 0 c ∗ barPay c p))
    ∗ ∃ Wt, owes ((c : Dev nD) : Thread nD τ) (barOwed n + recvOwed c 0) Wt)

/-- One unit on device `p`'s barrier cell. -/
theorem sig_step (p : Fin 16) {n : ℕ} (hn : p.val = n) {dev : ℕ} (ed : dev = p.val) {hd : dev < nD}
    {k : PUnit → Prog (TpuEff nD τ sig (Elt F) Λ₀ .tc) α}
    (hk : iprop(Sig X K c (n + 1) ∗ Fr) ⊢ wp frame (wpE defs₀ 𝒱₀ ((c : Dev nD) : Thread nD τ) bd) Set.univ (k ⟨⟩) Q) :
    iprop(Sig X K c n ∗ Fr) ⊢ wp frame (wpE defs₀ 𝒱₀ ((c : Dev nD) : Thread nD τ) bd) Set.univ
      (semSignalWord (⟨dev, hd⟩ : Dev nD) (SemArray.scalar (sig.barrier 0 rfl) : Sems sig S_).sem 1#32 >>= k) Q := by
  subst ed; subst hn
  have ef : (Finset.univ.filter fun q : Fin 16 => p.val ≤ q.val) = insert p (Finset.univ.filter fun q : Fin 16 => p.val + 1 ≤ q.val) := by
    ext q; simp only [Finset.mem_filter, Finset.mem_univ, _root_.true_and, Finset.mem_insert, Fin.ext_iff]; omega
  have en : p ∉ (Finset.univ.filter fun q : Fin 16 => p.val + 1 ≤ q.val) := by
    simp only [Finset.mem_filter, Finset.mem_univ, _root_.true_and]; omega
  have eI : (bigSep (Finset.univ.filter fun q : Fin 16 => p.val ≤ q.val) fun q => (iprop(dutyTok ER (barCell q) 0 c ∗ barPay c q) : sProp 𝕄))
      ⊢ iprop((dutyTok ER (barCell p) 0 c ∗ barPay c p)
        ∗ bigSep (Finset.univ.filter fun q : Fin 16 => p.val + 1 ≤ q.val) fun q => (iprop(dutyTok ER (barCell q) 0 c ∗ barPay c q) : sProp 𝕄)) := by
    rw [ef]; exact Entails.of_eq (bigSep_insert en)
  have eR : (bigSep Finset.univ fun p : Fin 16 => reached ER (barCell p) 0) ⊢ (reached ER (barCell p) 0 : sProp 𝕄) :=
    bigSep_elim (Finset.mem_univ p)
  simp only [semSignalWord, Prog.bind_op, Prog.bind_ret]
  rw [show ((1#32 : BitVec 32).toInt) = ((1#32 : BitVec 32).toNat : Int) from rfl]
  unfold Sig
  iintro ⟨⟨⟨#HI, #HR⟩, Hs, ⟨%Wt, HO⟩⟩, HF⟩
  ihave Hs' := eI $$ Hs
  icases Hs' with ⟨⟨Ht, Hp⟩, Hs⟩
  iapply (Rounds.wp_signal 𝒱₀ ER (Rd X) ((c : Dev nD) : Thread nD τ) bd (dst := ((p : Dev nD) : Thread nD τ)) (sem := barrier0) (d := c) (r := 0)
    (O₀ := barOwed p.val + recvOwed c 0) (W := Wt) (κ := K (barCell p)) (by rw [duties_bar]; exact Finset.mem_univ _) (amount_bar X p c) () (barOwed (p.val + 1) + recvOwed c 0)
    (by rw [barOwed_step p]; exact add_right_comm _ _ _)) $$ [Ht Hp HO]
  · isplitr; · iapply (invs_bar X K p); iexact HI
    isplitl [HO]; · iexact HO
    isplitl [Ht]; · iexact Ht
    isplitl [Hp]; · rw [payload_bar]; iexact Hp
    iapply eR; iexact HR
  iintro HO
  iapply hk
  unfold Sig
  isplitr [HF]
  · isplitr
    · isplitr; · iexact HI
      iexact HR
    isplitl [Hs]; · iexact Hs
    iexists Wt; iexact HO
  · iexact HF

end Cert.KernelIdeal.Gather
-- ==== Proof.KernelIdeal.First.lean ====
/- The first grid point's opening statements on device `c`: the first four copies of row blocks of `w`, the bf16 copy of the
   local `x`, the own block put in its slot, a unit on every barrier cell, and the wait for everybody's unit. -/
module

public import proofs.«01_k».proof.Proof.KernelIdeal.Words
public import Idealize.ShloMosaic.Lib.Pipeline.Value

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

/-- Counting down from `c`. -/
def downE (c : Fin 16) : Fin 16 ≃ Fin 16 where
  toFun s := c - s
  invFun s := c - s
  left_inv := by revert c; decide
  right_inv := by revert c; decide
theorem plus_zero (c : Fin 16) : c + 0 = c := by revert c; decide

/-! ## The bf16 copy and the own block -/

/-- The row blocks of the bf16 copy, by send. -/
def Rows : sProp 𝕄 := bigSep Finset.univ fun s : Fin 16 => owns ((c : Dev nD) : Thread nD τ) (xbRow (c - s)) fullShare (blk X c (c - s))

/-- The bf16 copy, cut into the row blocks the sends read. -/
theorem rows_intro : owns ((c : Dev nD) : Thread nD τ) xbM fullShare (k0_pay4 (X c)) ⊢ Rows X c := by
  have e := bigSep_univ_equiv (downE c) fun b : Fin 16 => (owns ((c : Dev nD) : Thread nD τ) (xbRow b) fullShare (blk X c b) : sProp 𝕄)
  have h := owns_rects (Val := Elt F) (Ix := Unit) (Name := ℕ) (U := UU) (Lvl := ℕ) ((c : Dev nD) : Thread nD τ) xbM fullShare rowR (fun _ _ => rfl) rowR_disjoint rowR_cover (k0_pay4 (X c))
  exact h.trans (Entails.of_eq e)

theorem own_row (c : Fin 16) : k0_off14 (wd c) = ![256 * c.val, 0] := by revert c; decide +kernel
theorem own_block (c : Fin 16) : k0_off15 (wd c) = ![c.val, 0, 0] := by revert c; decide +kernel

/-- The statements between the copies of `w` and the signals. -/
theorem copy_step {arg2 : Memref sig .tc .vmem S4096x256 .f32}
    {offA : Fin 2 → Nat} {offB : Fin 3 → Nat} (eA : offA = ![256 * c.val, 0]) (eB : offB = ![c.val, 0, 0])
    {i0 i1 i2 : ∀ a, (![0, 0] : Fin 2 → Nat) a + S4096x256.size a ≤ S4096x256.size a}
    {iA : ∀ a, offA a + S256x256.size a ≤ S4096x256.size a} {iB iB' : ∀ a, offB a + S1x256x256.size a ≤ S16x256x256.size a}
    {l0 : arg2.view.LoadsAt (Rect.unit (s := S4096x256) ![0, 0] S4096x256.size i0).toLoadRect}
    {l1 : xbM.view.LoadsAt (Rect.unit (s := S4096x256) ![0, 0] S4096x256.size i1).toLoadRect}
    {x2 : (xbM.access (Rect.unit (s := S4096x256) ![0, 0] S4096x256.size i2)).Stores Finset.univ}
    {m2 : Finset.univ = Finset.univ ∨ ∀ a, (Rect.unit (s := S4096x256) ![0, 0] S4096x256.size i2).stride a = 1}
    {l3 : xbM.view.LoadsAt (Rect.unit (s := S4096x256) offA S256x256.size iA).toLoadRect}
    {l4 : xgM.view.LoadsAt (Rect.unit (s := S16x256x256) offB S1x256x256.size iB).toLoadRect}
    {x5 : (xgM.access (Rect.unit (s := S16x256x256) offB S1x256x256.size iB')).Stores Finset.univ}
    {m5 : Finset.univ = Finset.univ ∨ ∀ a, (Rect.unit (s := S16x256x256) offB S1x256x256.size iB').stride a = 1}
    {k : PUnit → Prog (TpuEff nD τ sig (Elt F) Λ₀ .tc) α}
    (hk : iprop((owns ((c : Dev nD) : Thread nD τ) arg2 fullShare (X c) ∗ Rows X c
        ∗ owns ((c : Dev nD) : Thread nD τ) (xgSlot c) fullShare (blk X c c)) ∗ Fr)
      ⊢ wp frame (wpE defs₀ 𝒱₀ ((c : Dev nD) : Thread nD τ) bd) Set.univ (k ⟨⟩) Q) :
    iprop((owns ((c : Dev nD) : Thread nD τ) arg2 fullShare (X c) ∗ (∃ Y, owns ((c : Dev nD) : Thread nD τ) xbM fullShare Y)
        ∗ ∃ Y, owns ((c : Dev nD) : Thread nD τ) (xgSlot c) fullShare Y) ∗ Fr)
      ⊢ wp frame (wpE defs₀ 𝒱₀ ((c : Dev nD) : Thread nD τ) bd) Set.univ (do
        let v224 : Vec F S4096x256 .f32 ← Prog.lift (.load arg2 (Rect.unit (s := S4096x256) ![0, 0] S4096x256.size i0).toLoadRect l0)
        let v227 : Vec F S4096x256 .bf16 ← Prog.lift (.load xbM (Rect.unit (s := S4096x256) ![0, 0] S4096x256.size i1).toLoadRect l1)
        Prog.lift (.store xbM (Rect.unit (s := S4096x256) ![0, 0] S4096x256.size i2) (k0_pay4 v224) Finset.univ x2 m2)
        let v232 : Vec F S256x256 .bf16 ← Prog.lift (.load xbM (Rect.unit (s := S4096x256) offA S256x256.size iA).toLoadRect l3)
        let v234 : Vec F S1x256x256 .bf16 ← Prog.lift (.load xgM (Rect.unit (s := S16x256x256) offB S1x256x256.size iB).toLoadRect l4)
        Prog.lift (.store xgM (Rect.unit (s := S16x256x256) offB S1x256x256.size iB') (k0_pay5 v232) Finset.univ x5 m5) >>= k) Q := by
  subst eA eB
  iintro ⟨⟨Hx, ⟨%Yb, Hb⟩, ⟨%Yg, Hg⟩⟩, HF⟩
  iapply (wp_load_all 𝒱₀ ((c : Dev nD) : Thread nD τ) bd Set.univ (m := arg2) (X := X c)) $$ Hx
  iintro Hx
  iapply (wp_load_all 𝒱₀ ((c : Dev nD) : Thread nD τ) bd Set.univ (m := xbM) (X := Yb)) $$ Hb
  iintro Hb
  iapply (wp_store_all 𝒱₀ ((c : Dev nD) : Thread nD τ) bd Set.univ (m := xbM) (X := Yb) (w := k0_pay4 (X c))) $$ Hb
  iintro Hb
  iapply (wp_load_owns 𝒱₀ ((c : Dev nD) : Thread nD τ) bd Set.univ (m := xbM) (r := rowR c) (X := k0_pay4 (X c))) $$ Hb
  iintro Hb
  iapply (wp_load_squeezed 𝒱₀ ((c : Dev nD) : Thread nD τ) bd Set.univ (m := xgM) (r := slotR c) (hr := fun _ => rfl)
    (h := squeezes_S1x256x256_S256x256) (X := Yg) shapeCasts_S1x256x256_S256x256) $$ Hg
  iintro %v - Hg
  iapply (wp_store_squeezed 𝒱₀ ((c : Dev nD) : Thread nD τ) bd Set.univ (m := xgM) (r := slotR c) (hr := fun _ => rfl)
    (h := squeezes_S1x256x256_S256x256) (X := Yg) shapeCasts_S1x256x256_S256x256 (w := k0_pay5 (blk X c c))) $$ Hg
  iintro Hg
  iapply hk
  isplitr [HF]
  · isplitl [Hx]; · iexact Hx
    isplitl [Hb]; · iapply (rows_intro X c) $$ Hb
    rw [show shapeCast S256x256 (k0_pay5 (blk X c c)) shapeCasts_S1x256x256_S256x256 = blk X c c from Idealize.ShloMosaic.shapeCast_shapeCast _ _ _]
    iexact Hg
  · iexact HF

/-! ## The barrier -/

/-- What the cells of device `c`'s sends start with. -/
def SndTok : sProp 𝕄 :=
  bigSep Finset.univ fun s : Fin 16 => if s = 0 then Done X (sendCell c s) else
    iprop(dutyTok ER (sendCell c s) 0 (0 : Fin 16) ∗ reached ER (sendCell c s) 0
      ∗ dutyTok ER (recvCell (c - s) c) 0 (0 : Fin 16) ∗ atPos ER (sendCell c s) 0 ∅ 0)
/-- What its receive cells start with. -/
def RvTok : sProp 𝕄 :=
  bigSep Finset.univ fun s : Fin 16 => if s = 0 then Done X (recvCell c (c + s)) else
    iprop(cred (tallyAt (recvCell c (c + s)) () cN) ∗ atPos ER (recvCell c (c + s)) 0 ∅ 0)

/-- One send, with the unit of the device it goes to. -/
theorem send_ready (s : Fin 16) : iprop(owns ((c : Dev nD) : Thread nD τ) (xbRow (c - s)) fullShare (blk X c (c - s))
      ∗ (if s = 0 then Done X (sendCell c s) else
        iprop(dutyTok ER (sendCell c s) 0 (0 : Fin 16) ∗ reached ER (sendCell c s) 0
          ∗ dutyTok ER (recvCell (c - s) c) 0 (0 : Fin 16) ∗ atPos ER (sendCell c s) 0 ∅ 0))
      ∗ barPay (c - s) c) ⊢ Sst X c 0 0 0 s := by
  unfold Sst
  by_cases h : s = 0
  · subst h
    rw [if_pos rfl, if_pos (.inl rfl)]
    unfold Back
    iintro ⟨Hr, Hd, -⟩
    isplitl [Hr] <;> iassumption
  · have hv : s.val ≠ 0 := fun e => h (Fin.ext e)
    rw [if_neg h, if_neg (by omega), if_pos ⟨rfl, by omega⟩]
    unfold Snd
    iintro ⟨Hr, ⟨H1, H2, H3, H4⟩, Hb⟩
    isplitl [Hr]; · iexact Hr
    isplitl [Hb]; · iexact Hb
    isplitl [H1]; · iexact H1
    isplitl [H2]; · iexact H2
    isplitl [H3] <;> iassumption

/-- With everybody's unit in, the sends can be made. -/
theorem sends_ready : iprop(Rows X c ∗ SndTok X c ∗ bigSep Finset.univ fun p : Fin 16 => (barPay p c : sProp 𝕄))
    ⊢ bigSep Finset.univ (Sst X c 0 0 0) := by
  unfold Rows SndTok
  rw [bigSep_univ_equiv (downE c) fun p : Fin 16 => (barPay p c : sProp 𝕄), ← bigSep_sep', ← bigSep_sep']
  exact bigSep_mono fun s _ => send_ready X c s

/-- The own block counts as the first received one. -/
theorem receives_ready : iprop(RvTok X c ∗ owns ((c : Dev nD) : Thread nD τ) (xgSlot c) fullShare (blk X c c)) ⊢ RV X c 1 := by
  unfold RvTok RV
  rw [bigSep_univ_at _ (0 : Fin 16), bigSep_univ_at (Rst X c 1) (0 : Fin 16)]
  have e : bigSep (Finset.univ.erase (0 : Fin 16)) (fun s : Fin 16 => if s = 0 then Done X (recvCell c (c + s)) else
      iprop(cred (tallyAt (recvCell c (c + s)) () cN) ∗ atPos ER (recvCell c (c + s)) 0 ∅ 0))
      = bigSep (Finset.univ.erase (0 : Fin 16)) (Rst X c 1) :=
    bigSep_congr fun s hs => by
      have h := Finset.ne_of_mem_erase hs
      have hv : s.val ≠ 0 := fun e => h (Fin.ext e)
      unfold Rst; rw [if_neg h, if_neg (by omega)]
  rw [e, if_pos rfl]
  unfold Rst
  rw [if_pos (show (0 : Fin 16).val < 1 from Nat.one_pos), plus_zero]
  iintro ⟨⟨Hd, Hr⟩, Ho⟩
  isplitr [Hr]
  · isplitl [Ho] <;> iassumption
  · iexact Hr

/-- The right to wait for everybody's unit. -/
def BarWait : sProp 𝕄 :=
  iprop(cred (tallyAt (barCell c) () 16) ∗ atPos ER (barCell c) 0 ∅ 0 ∗ levAts L lv)

/-- The wait for everybody's unit, after the last signal. -/
theorem barrier_step {k : PUnit → Prog (TpuEff nD τ sig (Elt F) Λ₀ .tc) α}
    (hk : iprop(SW X K c 0 0 0 ∗ Done X (barCell c) ∗ Fr) ⊢ wp frame (wpE defs₀ 𝒱₀ ((c : Dev nD) : Thread nD τ) bd) Set.univ (k ⟨⟩) Q) :
    iprop(Sig X K c 16 ∗ (Rows X c ∗ SndTok X c ∗ BarWait c) ∗ Fr) ⊢ wp frame (wpE defs₀ 𝒱₀ ((c : Dev nD) : Thread nD τ) bd) Set.univ
      (semWaitWord (SemArray.scalar (sig.barrier 0 rfl) : Sems sig S_).sem 16#32 >>= k) Q := by
  simp only [semWaitWord, Prog.bind_op, Prog.bind_ret]
  rw [show ((16#32 : BitVec 32).toInt) = ((16#32 : BitVec 32).toNat : Int) from rfl]
  unfold Sig BarWait
  rw [barOwed_end, zero_add]
  iintro ⟨⟨⟨#HI, #HR⟩, -, ⟨%Wt, HO⟩⟩, ⟨Hrows, Hsnd, Hc, Hat, #HL⟩, HF⟩
  iapply (Rounds.wp_wait_rest_token 𝒱₀ ER (Rd X) ((c : Dev nD) : Thread nD τ) bd (sm := .reg barrier0) (κ := K (barCell c))
    (wpE_semWait_eq 𝒱₀ ((c : Dev nD) : Thread nD τ) bd Set.univ) (Set.mem_univ _) () (O := recvOwed c 0) (W := Wt) (R := 0) (m := 0) (T := ∅)
    (by rw [Nat.zero_add]; exact (expect_bar X c).symm)) $$ [Hc Hat HO]
  · isplitr; · iapply (invs_bar X K c); iexact HI
    isplitl [Hc]; · iexact Hc
    isplitl [HO]; · iexact HO
    isplitr; · iapply (mayWait_bar c 0); iexact HL
    iexact Hat
  iintro ⟨HO, Hat, -, Hp⟩
  ihave Hp' := (Entails.of_eq (rest_bar X c)) $$ Hp
  iapply hk
  isplitr [HF Hat]
  · unfold SW owedAt
    isplitr; · iexact HI
    isplitr [HO]
    · iapply (sends_ready X c)
      isplitl [Hrows]; · iexact Hrows
      isplitl [Hsnd]; · iexact Hsnd
      iexact Hp'
    · rw [if_pos rfl]; iexists _; iexact HO
  isplitl [Hat]
  · unfold Done
    iexists (0 + 1)
    isplitr
    · ipureintro; exact fun r hr => duties_later X _ r (by omega)
    · iexact Hat
  · iexact HF

/-! ## The stretches -/

/-- With all four slots in use, what is left is the row blocks of `w`. -/
theorem WI_done : WI W c 4 ⊢ bigSep Finset.univ (Wst W c 0 4) := by
  unfold WI
  iintro ⟨H, -⟩
  iexact H

/-- A fact carried by the state. -/
theorem pure_step {φ : Prop} {P : sProp 𝕄} {p : Prog (TpuEff nD τ sig (Elt F) Λ₀ .tc) α}
    (h : φ → P ⊢ wp frame (wpE defs₀ 𝒱₀ ((c : Dev nD) : Thread nD τ) bd) Set.univ p Q) :
    iprop(⌜φ⌝ ∗ P) ⊢ wp frame (wpE defs₀ 𝒱₀ ((c : Dev nD) : Thread nD τ) bd) Set.univ p Q := by
  iintro ⟨%hφ, H⟩
  iapply (h hφ) $$ H

/-- A guarded stretch of statements: run under its condition, passed by otherwise. -/
theorem guard_step {P P' : sProp 𝕄} {C : Prop} {d : Decidable C} {A : C → Prog (TpuEff nD τ sig (Elt F) Λ₀ .tc) α}
    {Kt : Prog (TpuEff nD τ sig (Elt F) Λ₀ .tc) α}
    (hT : ∀ h : C, (P' ⊢ wp frame (wpE defs₀ 𝒱₀ ((c : Dev nD) : Thread nD τ) bd) Set.univ Kt Q)
      → P ⊢ wp frame (wpE defs₀ 𝒱₀ ((c : Dev nD) : Thread nD τ) bd) Set.univ (A h) Q)
    (hF : ¬C → P ⊢ P')
    (hk : P' ⊢ wp frame (wpE defs₀ 𝒱₀ ((c : Dev nD) : Thread nD τ) bd) Set.univ Kt Q) :
    P ⊢ wp frame (wpE defs₀ 𝒱₀ ((c : Dev nD) : Thread nD τ) bd) Set.univ (if h : C then A h else Kt) Q := by
  by_cases h : C
  · rw [dif_pos h]; exact hT h hk
  · rw [dif_neg h]; exact (hF h).trans hk

section Parts

variable (i : grid0.Coords)
variable (harg1 : tbM.IsWhole) (arg2 : Memref sig .tc .vmem S4096x256 .f32) (harg2 : arg2.IsWhole) (harg3 : wM.IsWhole)
  (arg4 : Memref sig .tc .vmem S256x8192 .f32) (harg4 : arg4.IsWhole) (harg5 : xbM.IsWhole) (harg6 : xgM.IsWhole) (harg7 : wvM.IsWhole)
  (h1 : k0_cond1 i = 1#1)

/-- Three copies of row blocks of `w`, and the number of the fourth. -/
theorem part1_wp :
    iprop(Tab c ∗ WI W c 0 ∗ Fr) ⊢ wp frame (wpE defs₀ 𝒱₀ ((c : Dev nD) : Thread nD τ) bd) Set.univ
      (k0_part1 i tbM harg1 arg2 harg2 wM harg3 arg4 harg4 xbM harg5 xgM harg6 wvM harg7 cc0_scratch3 cc0_scratch4 cc0_scratch5 h1)
      fun r => iprop(⌜r.1 = wd (c + 3)⌝ ∗ Tab c ∗ WI W c 3 ∗ Fr) := by
  rw [k0_part1_eq_skeleton]; unfold k0_part1_skel
  refine word_step c bd 0 rfl ?_
  refine assume_step c bd (chk1_all (c + 0) i) ?_
  refine wstart_step W c bd 0 0 rfl rfl (word_row (c + 0)) k0_off3_eq k0_off2_eq ?_
  refine word_step c bd 1 rfl ?_
  refine assume_step c bd (chk2_all (c + 1) i) ?_
  refine wstart_step W c bd 1 1 rfl rfl (word_row (c + 1)) k0_off6_eq k0_off5_eq ?_
  refine word_step c bd 2 rfl ?_
  refine assume_step c bd (chk3_all (c + 2) i) ?_
  refine wstart_step W c bd 2 2 rfl rfl (word_row (c + 2)) k0_off9_eq k0_off8_eq ?_
  refine word_step c bd 3 rfl ?_
  refine assume_step c bd (chk4_all (c + 3) i) ?_
  refine wp_done c bd ?_
  iintro H
  isplitr
  · ipureintro; rfl
  · iexact H

/-- The fourth copy, the bf16 copy, the own block, and the first four signals. -/
theorem part2_wp (hw5 : k0_chk5 i (wd c)) (hw4 : k0_chk4 i (wd (c + 3))) :
    iprop((owns ((c : Dev nD) : Thread nD τ) arg2 fullShare (X c) ∗ (∃ Y, owns ((c : Dev nD) : Thread nD τ) xbM fullShare Y)
        ∗ ∃ Y, owns ((c : Dev nD) : Thread nD τ) (xgSlot c) fullShare Y) ∗ WI W c 3 ∗ Sig X K c 0 ∗ Fr)
      ⊢ wp frame (wpE defs₀ 𝒱₀ ((c : Dev nD) : Thread nD τ) bd) Set.univ
      (k0_part2 i tbM harg1 arg2 harg2 wM harg3 arg4 harg4 xbM harg5 xgM harg6 wvM harg7 cc0_scratch3 cc0_scratch4 cc0_scratch5
        (wd c) hw5 h1 (wd (c + 3)) hw4)
      fun r => iprop(⌜r = SemArray.scalar (sig.barrier 0 rfl)⌝ ∗ Sig X K c 4
        ∗ (owns ((c : Dev nD) : Thread nD τ) arg2 fullShare (X c) ∗ Rows X c
          ∗ owns ((c : Dev nD) : Thread nD τ) (xgSlot c) fullShare (blk X c c)) ∗ WI W c 4 ∗ Fr) := by
  rw [k0_part2_eq_skeleton]; unfold k0_part2_skel
  refine wstart_step W c bd 3 3 rfl rfl (word_row (c + 3)) k0_off12_eq k0_off11_eq ?_
  refine copy_step X c bd (own_row c) (own_block c) ?_
  refine (show iprop((owns ((c : Dev nD) : Thread nD τ) arg2 fullShare (X c) ∗ Rows X c
        ∗ owns ((c : Dev nD) : Thread nD τ) (xgSlot c) fullShare (blk X c c)) ∗ WI W c 4 ∗ Sig X K c 0 ∗ Fr)
      ⊢ iprop(Sig X K c 0 ∗ (owns ((c : Dev nD) : Thread nD τ) arg2 fullShare (X c) ∗ Rows X c
        ∗ owns ((c : Dev nD) : Thread nD τ) (xgSlot c) fullShare (blk X c c)) ∗ WI W c 4 ∗ Fr) from by
    iintro ⟨Ha, Hw, Hs, HF⟩
    isplitl [Hs]; · iexact Hs
    isplitl [Ha]; · iexact Ha
    isplitl [Hw] <;> iassumption).trans ?_
  refine sig_step X K c bd 0 rfl k0_dev1_eq ?_
  refine sig_step X K c bd 1 rfl k0_dev2_eq ?_
  refine sig_step X K c bd 2 rfl k0_dev3_eq ?_
  refine sig_step X K c bd 3 rfl k0_dev4_eq ?_
  refine wp_done c bd ?_
  iintro H
  isplitr
  · ipureintro; rfl
  · iexact H

/-- Eight signals. -/
theorem part3_wp :
    iprop(Sig X K c 4 ∗ Fr) ⊢ wp frame (wpE defs₀ 𝒱₀ ((c : Dev nD) : Thread nD τ) bd) Set.univ
      (k0_part3 i tbM harg1 arg2 harg2 wM harg3 arg4 harg4 xbM harg5 xgM harg6 wvM harg7 cc0_scratch3 cc0_scratch4 cc0_scratch5
        h1 (SemArray.scalar (sig.barrier 0 rfl)))
      fun _ => iprop(Sig X K c 12 ∗ Fr) := by
  rw [k0_part3_eq_skeleton]; unfold k0_part3_skel
  refine sig_step X K c bd 4 rfl k0_dev5_eq ?_
  refine sig_step X K c bd 5 rfl k0_dev6_eq ?_
  refine sig_step X K c bd 6 rfl k0_dev7_eq ?_
  refine sig_step X K c bd 7 rfl k0_dev8_eq ?_
  refine sig_step X K c bd 8 rfl k0_dev9_eq ?_
  refine sig_step X K c bd 9 rfl k0_dev10_eq ?_
  refine sig_step X K c bd 10 rfl k0_dev11_eq ?_
  refine sig_step X K c bd 11 rfl k0_dev12_eq ?_
  exact wp_done c bd .rfl

/-- The opening statements: from what device `c` starts with, to its sends ready, its own block in, four blocks of `w` on their
    way. -/
theorem opening_step (hw5 : k0_chk5 i (wd c)) {k : PUnit → Prog (TpuEff nD τ sig (Elt F) Λ₀ .tc) α}
    (hk : iprop(SW X K c 0 0 0 ∗ Done X (barCell c)
        ∗ (Tab c ∗ owns ((c : Dev nD) : Thread nD τ) arg2 fullShare (X c) ∗ RV X c 1 ∗ bigSep Finset.univ (Wst W c 0 4)) ∗ Fr)
      ⊢ wp frame (wpE defs₀ 𝒱₀ ((c : Dev nD) : Thread nD τ) bd) Set.univ (k ⟨⟩) Q) :
    iprop(Tab c ∗ WI W c 0 ∗ (owns ((c : Dev nD) : Thread nD τ) arg2 fullShare (X c)
        ∗ (∃ Y, owns ((c : Dev nD) : Thread nD τ) xbM fullShare Y) ∗ ∃ Y, owns ((c : Dev nD) : Thread nD τ) (xgSlot c) fullShare Y)
        ∗ Sig X K c 0 ∗ SndTok X c ∗ RvTok X c ∗ BarWait c ∗ Fr)
      ⊢ wp frame (wpE defs₀ 𝒱₀ ((c : Dev nD) : Thread nD τ) bd) Set.univ (do
        let ⟨v217, k0_hw4⟩ : Σ' (v217 : Elt F .i32), k0_chk4 i v217 ← k0_part1 i tbM harg1 arg2 harg2 wM harg3 arg4 harg4 xbM harg5 xgM harg6 wvM harg7 cc0_scratch3 cc0_scratch4 cc0_scratch5 h1
        let v237 : Sems sig S_ ← k0_part2 i tbM harg1 arg2 harg2 wM harg3 arg4 harg4 xbM harg5 xgM harg6 wvM harg7 cc0_scratch3 cc0_scratch4 cc0_scratch5 (wd c) hw5 h1 v217 k0_hw4
        let v262 : BitVec 32 ← k0_part3 i tbM harg1 arg2 harg2 wM harg3 arg4 harg4 xbM harg5 xgM harg6 wvM harg7 cc0_scratch3 cc0_scratch4 cc0_scratch5 h1 v237
        semSignalWord (⟨k0_dev13, k0_dev13_lt i h1⟩ : Dev nD) v237.sem 1#32
        semSignalWord (⟨k0_dev14, k0_dev14_lt i h1⟩ : Dev nD) v237.sem 1#32
        semSignalWord (⟨k0_dev15, k0_dev15_lt i h1⟩ : Dev nD) v237.sem 1#32
        semSignalWord (⟨k0_dev16, k0_dev16_lt i h1⟩ : Dev nD) v237.sem 1#32
        semWaitWord v237.sem 16#32 >>= k) Q := by
  refine wp_seq c bd (part1_wp W c bd i harg1 arg2 harg2 harg3 arg4 harg4 harg5 harg6 harg7 h1) ?_
  rintro ⟨v217, hw4⟩
  refine pure_step c bd fun e => ?_
  dsimp only at e
  subst e
  refine (show _ ⊢ iprop((owns ((c : Dev nD) : Thread nD τ) arg2 fullShare (X c) ∗ (∃ Y, owns ((c : Dev nD) : Thread nD τ) xbM fullShare Y)
        ∗ ∃ Y, owns ((c : Dev nD) : Thread nD τ) (xgSlot c) fullShare Y) ∗ WI W c 3 ∗ Sig X K c 0
        ∗ Tab c ∗ SndTok X c ∗ RvTok X c ∗ BarWait c ∗ Fr) from by
    iintro ⟨HT, HW, Ha, Hs, Hr⟩
    isplitl [Ha]; · iexact Ha
    isplitl [HW]; · iexact HW
    isplitl [Hs]; · iexact Hs
    isplitl [HT] <;> iassumption).trans ?_
  refine wp_seq c bd (part2_wp X W K c bd i harg1 arg2 harg2 harg3 arg4 harg4 harg5 harg6 harg7 h1 hw5 hw4) ?_
  intro v237
  refine pure_step c bd fun e => ?_
  subst e
  refine wp_seq c bd (part3_wp X K c bd i harg1 arg2 harg2 harg3 arg4 harg4 harg5 harg6 harg7 h1) ?_
  intro v262
  refine sig_step X K c bd 12 rfl k0_dev13_eq ?_
  refine sig_step X K c bd 13 rfl k0_dev14_eq ?_
  refine sig_step X K c bd 14 rfl k0_dev15_eq ?_
  refine sig_step X K c bd 15 rfl k0_dev16_eq ?_
  refine (show _ ⊢ iprop(Sig X K c 16 ∗ (Rows X c ∗ SndTok X c ∗ BarWait c)
      ∗ (Tab c ∗ owns ((c : Dev nD) : Thread nD τ) arg2 fullShare (X c) ∗ RV X c 1 ∗ bigSep Finset.univ (Wst W c 0 4)) ∗ Fr) from by
    iintro ⟨Hs, ⟨Ha, HR, Hg⟩, HW, HT, Hsn, Hrv, Hb, HF⟩
    isplitl [Hs]; · iexact Hs
    isplitl [HR Hsn Hb]
    · isplitl [HR]; · iexact HR
      isplitl [Hsn] <;> iassumption
    isplitr [HF]
    · isplitl [HT]; · iexact HT
      isplitl [Ha]; · iexact Ha
      isplitl [Hrv Hg]
      · iapply (receives_ready X c)
        isplitl [Hrv] <;> iassumption
      · iapply (WI_done W c) $$ HW
    · iexact HF).trans ?_
  exact barrier_step X K c bd hk

end Parts

end Cert.KernelIdeal.Gather
-- ==== Proof.KernelIdeal.Tail.lean ====
/- The last statements of a grid point on device `c`: the receive of the block the step uses, the wait for its row block of `w`,
   the product added to the output window, and the next copy into the slot that is free again. -/
module

public import proofs.«01_k».proof.Proof.KernelIdeal.First

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

/-! ## What the output window holds -/

/-- One block product: a 256×256 block of the gathered `x` by a row block of `w` cast to bf16. -/
def mm (a : FVec F S256x256 .bf16) (b : FVec F S256x8192 .f32) : FVec F S256x8192 .f32 :=
  matmul dot_S256x256_S256x8192_S256x8192_1_0_0_1_n_n none a (truncf .bf16 b bitsLt_bf16_f32) (constant S256x8192 .f32 0x00000000#32)

/-- The product device `c` adds at step `t`: block `c` of device `c + t`'s `x` by row block `c + t` of its own `w`. -/
def part (t : ℕ) : FVec F S256x8192 .f32 := mm (blk X (c + dv t) c) (wblk W c (c + dv t))

/-- The output window after step `t`: the products so far summed, and at the last step kept above zero. -/
def acc : ℕ → FVec F S256x8192 .f32
  | 0 => part X W c 0
  | t + 1 => if t + 1 = 15 then maximumf (addf (acc t) (part X W c (t + 1))) (broadcast S256x8192 (Scalar.ofBits .f32 0x00000000#32))
    else addf (acc t) (part X W c (t + 1))

theorem dv_val (t : Fin 16) : dv t.val = t := by revert t; decide

section Stores

variable {t : Fin 16} {v169 : Vec F S1x256x256 .bf16} {v173 : Vec F S1x256x8192 .f32}
  (hx : shapeCast S256x256 v169 shapeCasts_S1x256x256_S256x256 = blk X (c + t) c)
  (hw : shapeCast S256x8192 v173 shapeCasts_S1x256x8192_S256x8192 = wblk W c (c + t))
include hx hw

/-- The product the body stores, on the two blocks it loads. -/
theorem pay1_eq : k0_pay1 v169 v173 = part X W c t.val := by
  unfold part; rw [dv_val, ← hx, ← hw]; rfl
theorem pay2_eq (v : Vec F S256x8192 .f32) : k0_pay2 v169 v173 v = addf v (part X W c t.val) := by
  rw [← pay1_eq X W c hx hw]; unfold k0_pay2; rw [shapeCast_self]
theorem pay3_eq (v : Vec F S256x8192 .f32) :
    k0_pay3 v169 v173 v = maximumf (addf v (part X W c t.val)) (broadcast S256x8192 (Scalar.ofBits .f32 0x00000000#32)) := by
  rw [← pay1_eq X W c hx hw]; unfold k0_pay3; rw [shapeCast_self]

end Stores

theorem acc_first : acc X W c 0 = part X W c 0 := rfl
theorem acc_mid {t : ℕ} (h0 : t ≠ 0) (h1 : t ≠ 15) : acc X W c t = addf (acc X W c (t - 1)) (part X W c t) := by
  cases t with
  | zero => exact absurd rfl h0
  | succ t => exact if_neg h1
theorem acc_last {t : ℕ} (h : t = 15) : acc X W c t = maximumf (addf (acc X W c (t - 1)) (part X W c t)) (broadcast S256x8192 (Scalar.ofBits .f32 0x00000000#32)) := by
  subst h; exact if_pos rfl

/-! ## The receive -/

theorem Rst_next {n : ℕ} {t s : Fin 16} (ht : t.val = n) (h : s ≠ t) : Rst X c n s = Rst X c (n + 1) s := by
  unfold Rst
  have : (s.val < n) ↔ (s.val < n + 1) := by have := Fin.val_ne_of_ne h; omega
  simp only [this]

theorem plus_ne {c t : Fin 16} (h : t ≠ 0) : c + t ≠ c := by revert c t; decide

/-- The wait for the block of device `c + t` at step `t`, but for its own. -/
theorem recv_step {t : Fin 16} {C : Prop} {d : Decidable C} (hC : C ↔ t ≠ 0) {offP : Fin 1 → Nat} {offD : Fin 3 → Nat}
    (eP : offP = ![(c + t).val]) (eD : offD = ![(c + t).val, 0, 0])
    {iP : C → ∀ a, offP a + S1.size a ≤ S16.size a} {iD : C → ∀ a, offD a + S1x256x256.size a ≤ S16x256x256.size a}
    {w1 w2 : ∀ h : C, ((xgM.slice (Rect.unit offD S1x256x256.size (iD h)) (fun _ => rfl)).squeeze S256x256 squeezes_S1x256x256_S256x256).view.WordExact}
    {Kt : Prog (TpuEff nD τ sig (Elt F) Λ₀ .tc) α}
    (hk : iprop(SW X K c t.val 15 15 ∗ RV X c (t.val + 1) ∗ Fr) ⊢ wp frame (wpE defs₀ 𝒱₀ ((c : Dev nD) : Thread nD τ) bd) Set.univ Kt Q) :
    iprop(SW X K c t.val 15 15 ∗ RV X c (max t.val 1) ∗ Fr) ⊢ wp frame (wpE defs₀ 𝒱₀ ((c : Dev nD) : Thread nD τ) bd) Set.univ
      (if h : C then (do
        Prog.lift (.waitDma2 ((cc0_scratch4.slice (Rect.unit offP S1.size (iP h))).squeeze S_ squeezes_S1_S_).sem
          ((xgM.slice (Rect.unit offD S1x256x256.size (iD h)) (fun _ => rfl)).squeeze S256x256 squeezes_S1x256x256_S256x256)
          ((xgM.slice (Rect.unit offD S1x256x256.size (iD h)) (fun _ => rfl)).squeeze S256x256 squeezes_S1x256x256_S256x256) (w1 h) (w2 h))
        Kt) else Kt) Q := by
  refine wp_guard 𝒱₀ _ bd (fun h => ?_) (fun h => ?_)
  · have ht := hC.mp h
    have hv : t.val ≠ 0 := fun e => ht (Fin.ext e)
    subst eP eD
    rw [show max t.val 1 = t.val by omega]
    have er : bigSep (Finset.univ.erase t) (Rst X c t.val) = bigSep (Finset.univ.erase t) (Rst X c (t.val + 1)) :=
      bigSep_congr fun s h => Rst_next X c rfl (Finset.ne_of_mem_erase h)
    have e0 : Rst X c t.val t = iprop(cred (tallyAt (recvCell c (c + t)) () cN) ∗ atPos ER (recvCell c (c + t)) 0 ∅ 0) := by
      unfold Rst; rw [if_neg (lt_irrefl _)]
    have e1 : Rst X c (t.val + 1) t = iprop(owns ((c : Dev nD) : Thread nD τ) (xgSlot (c + t)) fullShare (blk X (c + t) c) ∗ Done X (recvCell c (c + t))) := by
      unfold Rst; rw [if_pos (Nat.lt_succ_self _)]
    unfold SW owedAt RV at *
    rw [if_neg hv] at *
    rw [bigSep_univ_at (Rst X c (t.val + 1)) t, e1] at hk
    rw [bigSep_univ_at (Rst X c t.val) t, e0, er]
    iintro ⟨⟨#HI, HS, ⟨%Wt, HO⟩⟩, ⟨⟨Hc, Hat⟩, Hrest⟩, HF⟩
    iapply (Rounds.wp_wait_rest_token 𝒱₀ ER (Rd X) ((c : Dev nD) : Thread nD τ) bd (sm := .dma (recvS (c + t))) (κ := K (recvCell c (c + t)))
      (wpE_waitDma2_eq 𝒱₀ ((c : Dev nD) : Thread nD τ) bd Set.univ) (Set.mem_univ _) () (O := 0) (W := Wt) (R := 0) (m := 0) (T := ∅)
      (by rw [Nat.zero_add]; exact (expect_recv X c (plus_ne ht)).symm)) $$ [Hc Hat HO]
    · isplitr; · iapply (invs_recv X K c (c + t)); iexact HI
      isplitl [Hc]; · iexact Hc
      isplitl [HO]; · iexact HO
      isplitr; · rw [MayWait_zero]; iempintro
      iexact Hat
    iintro ⟨HO, Hat, -, Hp⟩
    ihave Hp' := (Entails.of_eq (rest_recv X c (plus_ne ht))) $$ Hp
    iapply hk
    isplitl [HS HO]
    · isplitr; · iexact HI
      isplitl [HS]; · iexact HS
      iexists _; iexact HO
    isplitr [HF]
    · isplitr [Hrest]
      · unfold recvPay Done
        isplitl [Hp']; · iexact Hp'
        iexists 1
        isplitr; · ipureintro; exact duties_later X _
        iexact Hat
      · iexact Hrest
    · iexact HF
  · have ht : t = 0 := by by_contra e; exact h (hC.mpr e)
    subst ht
    exact hk

/-! ## The two blocks of the step -/

/-- The row blocks of `w` while the product is formed: the step's own is home again and its slot free. -/
def WM (t : Fin 16) : sProp 𝕄 :=
  iprop(wFree c (sl t) ∗ wHome W c t ∗ bigSep (Finset.univ.erase t) (Wst W c t.val (t.val + 4)))

/-- The wait for the row block of `w`, and the loads of the two blocks. -/
theorem loads_step {t : Fin 16} {offP : Fin 1 → Nat} {offV offV' offB : Fin 3 → Nat} {offW : Fin 2 → Nat}
    (eP : offP = ![t.val % 4]) (eV' : offV' = ![t.val % 4, 0, 0]) (eB : offB = ![(c + t).val, 0, 0])
    {iP : ∀ a, offP a + S1.size a ≤ S4.size a} {iV : ∀ a, offV a + S1x256x8192.size a ≤ S4x256x8192.size a}
    {iV' : ∀ a, offV' a + S1x256x8192.size a ≤ S4x256x8192.size a}
    {iW : ∀ a, offW a + S256x8192.size a ≤ S4096x8192.size a} {iB : ∀ a, offB a + S1x256x256.size a ≤ S16x256x256.size a}
    {w1 : (wM.slice (Rect.unit offW S256x8192.size iW) (fun _ => rfl)).view.WordExact}
    {w2 : ((wvM.slice (Rect.unit offV S1x256x8192.size iV) (fun _ => rfl)).squeeze S256x8192 squeezes_S1x256x8192_S256x8192).view.WordExact}
    {l1 : xgM.view.LoadsAt (Rect.unit (s := S16x256x256) offB S1x256x256.size iB).toLoadRect}
    {l2 : wvM.view.LoadsAt (Rect.unit (s := S4x256x8192) offV' S1x256x8192.size iV').toLoadRect}
    {k : Vec F S1x256x256 .bf16 → Vec F S1x256x8192 .f32 → Prog (TpuEff nD τ sig (Elt F) Λ₀ .tc) α}
    (hk : ∀ v169 v173, shapeCast S256x256 v169 shapeCasts_S1x256x256_S256x256 = blk X (c + t) c →
      shapeCast S256x8192 v173 shapeCasts_S1x256x8192_S256x8192 = wblk W c (c + t) →
      iprop(SW X K c t.val 15 15 ∗ RV X c (t.val + 1) ∗ WM W c t ∗ Fr)
        ⊢ wp frame (wpE defs₀ 𝒱₀ ((c : Dev nD) : Thread nD τ) bd) Set.univ (k v169 v173) Q) :
    iprop(SW X K c t.val 15 15 ∗ RV X c (t.val + 1) ∗ bigSep Finset.univ (Wst W c t.val (t.val + 4)) ∗ Fr)
      ⊢ wp frame (wpE defs₀ 𝒱₀ ((c : Dev nD) : Thread nD τ) bd) Set.univ (do
        Prog.lift (.waitDma2 ((cc0_scratch5.slice (Rect.unit offP S1.size iP)).squeeze S_ squeezes_S1_S_).sem
          (wM.slice (Rect.unit offW S256x8192.size iW) (fun _ => rfl))
          ((wvM.slice (Rect.unit offV S1x256x8192.size iV) (fun _ => rfl)).squeeze S256x8192 squeezes_S1x256x8192_S256x8192) w1 w2)
        let v169 : Vec F S1x256x256 .bf16 ← Prog.lift (.load xgM (Rect.unit (s := S16x256x256) offB S1x256x256.size iB).toLoadRect l1)
        let v173 : Vec F S1x256x8192 .f32 ← Prog.lift (.load wvM (Rect.unit (s := S4x256x8192) offV' S1x256x8192.size iV').toLoadRect l2)
        k v169 v173) Q := by
  subst eP eV' eB
  have hO : owedAt c t.val 15 = 0 := by
    unfold owedAt; split
    · exact recvOwed_end c
    · rfl
  have e0 : Wst W c t.val (t.val + 4) t = wFly W c t := by unfold Wst; rw [if_neg (lt_irrefl _), if_pos (by omega)]
  have e1 : Rst X c (t.val + 1) t = iprop(owns ((c : Dev nD) : Thread nD τ) (xgSlot (c + t)) fullShare (blk X (c + t) c) ∗ Done X (recvCell c (c + t))) := by
    unfold Rst; rw [if_pos (Nat.lt_succ_self _)]
  have eS : SW X K c t.val 15 15 = iprop(invs X K ∗ bigSep Finset.univ (Sst X c t.val 15 15) ∗ ∃ W, owes ((c : Dev nD) : Thread nD τ) 0 W) := by
    unfold SW; rw [hO]
  have eR : RV X c (t.val + 1) = iprop((owns ((c : Dev nD) : Thread nD τ) (xgSlot (c + t)) fullShare (blk X (c + t) c) ∗ Done X (recvCell c (c + t)))
      ∗ bigSep (Finset.univ.erase t) (Rst X c (t.val + 1))) := by
    unfold RV; rw [bigSep_univ_at (Rst X c (t.val + 1)) t, e1]
  rw [eS, eR]
  unfold WM at hk
  rw [bigSep_univ_at (Wst W c t.val (t.val + 4)) t, e0]
  iintro ⟨⟨#HI, HS, ⟨%Wt, HO⟩⟩, ⟨⟨Hx, Hd⟩, Hxr⟩, ⟨Hw, Hwr⟩, HF⟩
  iapply (wp_waitLocal EC 𝒱₀ ((c : Dev nD) : Thread nD τ) bd () (N := wN) (sem := wS (sl t))
    (srcw := wM.slice (Rect.unit offW S256x8192.size iW) (fun _ => rfl))
    (dstw := (wvM.slice (Rect.unit offV S1x256x8192.size iV) (fun _ => rfl)).squeeze S256x8192 squeezes_S1x256x8192_S256x8192)
    (hsrc := w1) (hdst := w2) (show _ = wN from rfl)) $$ [Hw HO]
  · isplitl [Hw] <;> iassumption
  iintro ⟨⟨Hv, Hh⟩, Hsem, HO⟩
  iapply (wp_load_squeezed 𝒱₀ ((c : Dev nD) : Thread nD τ) bd Set.univ (m := xgM) (r := slotR (c + t)) (hr := fun _ => rfl)
    (h := squeezes_S1x256x256_S256x256) (X := blk X (c + t) c) shapeCasts_S1x256x256_S256x256) $$ Hx
  iintro %v169 %h169 Hx
  iapply (wp_load_squeezed 𝒱₀ ((c : Dev nD) : Thread nD τ) bd Set.univ (m := wvM) (r := wslotR (sl t)) (hr := fun _ => rfl)
    (h := squeezes_S1x256x8192_S256x8192) (X := wblk W c (c + t)) shapeCasts_S1x256x8192_S256x8192) $$ Hv
  iintro %v173 %h173 Hv
  iapply (hk v169 v173 h169 h173)
  isplitl [HS HO]
  · rw [eS]
    isplitr; · iexact HI
    isplitl [HS]; · iexact HS
    iexists (insert (SemLoc.dma (wS (sl t)), ()) Wt); iexact HO
  isplitl [Hx Hd Hxr]
  · rw [eR]
    isplitr [Hxr]
    · isplitl [Hx] <;> iassumption
    · iexact Hxr
  isplitr [HF]
  · isplitl [Hv Hsem]
    · isplitl [Hv]
      · iexists (wblk W c (c + t)); iexact Hv
      · iexact Hsem
    isplitl [Hh] <;> iassumption
  · iexact HF

/-! ## Stores to the output window -/

section Window

variable {arg4 : Memref sig .tc .vmem S256x8192 .f32}
  {i0 i1 i2 : ∀ a, (![0, 0] : Fin 2 → Nat) a + S256x8192.size a ≤ S256x8192.size a}
  {l0 : arg4.view.LoadsAt (Rect.unit (s := S256x8192) ![0, 0] S256x8192.size i0).toLoadRect}
  {l1 : arg4.view.LoadsAt (Rect.unit (s := S256x8192) ![0, 0] S256x8192.size i1).toLoadRect}
  {x2 : (arg4.access (Rect.unit (s := S256x8192) ![0, 0] S256x8192.size i2)).Stores Finset.univ}
  {m2 : (Finset.univ : Finset (Rect.unit (s := S256x8192) ![0, 0] S256x8192.size i2).shape.Idx) = Finset.univ ∨ ∀ a, (Rect.unit (s := S256x8192) ![0, 0] S256x8192.size i2).stride a = 1}
  {Y Z : Vec F S256x8192 .f32}

/-- A store over the window, after a load nothing reads. -/
theorem store_step {w : Vec F S256x8192 .f32} (hw : w = Z) {Kt : Prog (TpuEff nD τ sig (Elt F) Λ₀ .tc) α}
    (hk : iprop(owns ((c : Dev nD) : Thread nD τ) arg4 fullShare Z ∗ Fr)
      ⊢ wp frame (wpE defs₀ 𝒱₀ ((c : Dev nD) : Thread nD τ) bd) Set.univ Kt Q) :
    iprop(owns ((c : Dev nD) : Thread nD τ) arg4 fullShare Y ∗ Fr)
      ⊢ wp frame (wpE defs₀ 𝒱₀ ((c : Dev nD) : Thread nD τ) bd) Set.univ (do
        let v192 : Vec F S256x8192 .f32 ← Prog.lift (.load arg4 (Rect.unit (s := S256x8192) ![0, 0] S256x8192.size i0).toLoadRect l0)
        Prog.lift (.store arg4 (Rect.unit (s := S256x8192) ![0, 0] S256x8192.size i2) w Finset.univ x2 m2)
        Kt) Q := by
  subst hw
  iintro ⟨H, HF⟩
  iapply (wp_load_all 𝒱₀ ((c : Dev nD) : Thread nD τ) bd Set.univ (m := arg4) (X := Y)) $$ H
  iintro H
  iapply (wp_store_all 𝒱₀ ((c : Dev nD) : Thread nD τ) bd Set.univ (m := arg4) (X := Y) (w := w)) $$ H
  iintro H
  iapply hk
  isplitl [H] <;> iassumption

/-- A store over the window of a value computed from what it holds. -/
theorem update_step {w : Vec F S256x8192 .f32 → Vec F S256x8192 .f32} (hw : w Y = Z) {Kt : Prog (TpuEff nD τ sig (Elt F) Λ₀ .tc) α}
    (hk : iprop(owns ((c : Dev nD) : Thread nD τ) arg4 fullShare Z ∗ Fr)
      ⊢ wp frame (wpE defs₀ 𝒱₀ ((c : Dev nD) : Thread nD τ) bd) Set.univ Kt Q) :
    iprop(owns ((c : Dev nD) : Thread nD τ) arg4 fullShare Y ∗ Fr)
      ⊢ wp frame (wpE defs₀ 𝒱₀ ((c : Dev nD) : Thread nD τ) bd) Set.univ (do
        let v192 : Vec F S256x8192 .f32 ← Prog.lift (.load arg4 (Rect.unit (s := S256x8192) ![0, 0] S256x8192.size i0).toLoadRect l0)
        let v195 : Vec F S256x8192 .f32 ← Prog.lift (.load arg4 (Rect.unit (s := S256x8192) ![0, 0] S256x8192.size i1).toLoadRect l1)
        Prog.lift (.store arg4 (Rect.unit (s := S256x8192) ![0, 0] S256x8192.size i2) (w v192) Finset.univ x2 m2)
        Kt) Q := by
  subst hw
  iintro ⟨H, HF⟩
  iapply (wp_load_all 𝒱₀ ((c : Dev nD) : Thread nD τ) bd Set.univ (m := arg4) (X := Y)) $$ H
  iintro H
  iapply (wp_load_all 𝒱₀ ((c : Dev nD) : Thread nD τ) bd Set.univ (m := arg4) (X := Y)) $$ H
  iintro H
  iapply (wp_store_all 𝒱₀ ((c : Dev nD) : Thread nD τ) bd Set.univ (m := arg4) (X := Y) (w := w Y)) $$ H
  iintro H
  iapply hk
  isplitl [H] <;> iassumption

end Window

/-! ## The next copy -/

theorem Wst_next {t s : Fin 16} (h : s ≠ t) (h4 : s.val ≠ t.val + 4) : Wst W c t.val (t.val + 4) s = Wst W c (t.val + 1) (t.val + 5) s := by
  unfold Wst
  have e1 : (s.val < t.val) ↔ (s.val < t.val + 1) := by have := Fin.val_ne_of_ne h; omega
  have e2 : (s.val < t.val + 4) ↔ (s.val < t.val + 5) := by omega
  simp only [e1, e2]

/-- Without a further copy the slot stays free. -/
theorem WM_rest {t : Fin 16} (h : ¬ t.val + 4 < 16) : WM W c t ⊢ bigSep Finset.univ (Wst W c (t.val + 1) (t.val + 5)) := by
  unfold WM
  have e1 : Wst W c (t.val + 1) (t.val + 5) t = iprop(wHome W c t ∗ wFree c (sl t)) := by
    unfold Wst; rw [if_pos (by omega), if_pos (by omega)]
  rw [bigSep_univ_at (Wst W c (t.val + 1) (t.val + 5)) t, e1,
    bigSep_congr (s := (Finset.univ : Finset (Fin 16)).erase t) fun s hs => Wst_next W c (t := t) (s := s) (Finset.ne_of_mem_erase hs) (by have := s.2; omega)]
  iintro ⟨Hf, Hh, Hr⟩
  isplitr [Hr]
  · isplitl [Hh] <;> iassumption
  · iexact Hr

/-- The copy of the row block four steps on, into the slot that is free again. -/
theorem next_step {A : sProp 𝕄} {t u : Fin 16} (huv : u.val = t.val + 4)
    {offW : Fin 2 → Nat} {offV : Fin 3 → Nat} {offP : Fin 1 → Nat}
    (eW : offW = ![256 * (c + u).val, 0]) (eV : offV = ![u.val % 4, 0, 0]) (eP : offP = ![u.val % 4])
    {iW : ∀ a, offW a + S256x8192.size a ≤ S4096x8192.size a} {iV : ∀ a, offV a + S1x256x8192.size a ≤ S4x256x8192.size a}
    {iP : ∀ a, offP a + S1.size a ≤ S4.size a}
    {w1 : (wM.slice (Rect.unit offW S256x8192.size iW) (fun _ => rfl)).view.WordExact}
    {w2 : ((wvM.slice (Rect.unit offV S1x256x8192.size iV) (fun _ => rfl)).squeeze S256x8192 squeezes_S1x256x8192_S256x8192).view.WordExact}
    {w3 : DmaTarget.Typed (nD := nD) (τ := τ) (p := .tc) .hbm (.dma ((cc0_scratch5.slice (Rect.unit offP S1.size iP)).squeeze S_ squeezes_S1_S_).sem)
      (.here ((wvM.slice (Rect.unit offV S1x256x8192.size iV) (fun _ => rfl)).squeeze S256x8192 squeezes_S1x256x8192_S256x8192))}
    {k : PUnit → Prog (TpuEff nD τ sig (Elt F) Λ₀ .tc) α}
    (hk : iprop(A ∗ bigSep Finset.univ (Wst W c (t.val + 1) (t.val + 5)) ∗ Fr)
      ⊢ wp frame (wpE defs₀ 𝒱₀ ((c : Dev nD) : Thread nD τ) bd) Set.univ (k ⟨⟩) Q) :
    iprop(A ∗ WM W c t ∗ Fr) ⊢ wp frame (wpE defs₀ 𝒱₀ ((c : Dev nD) : Thread nD τ) bd) Set.univ
      (Prog.lift (.enqueueDma (wM.slice (Rect.unit offW S256x8192.size iW) (fun _ => rfl))
          (.here ((wvM.slice (Rect.unit offV S1x256x8192.size iV) (fun _ => rfl)).squeeze S256x8192 squeezes_S1x256x8192_S256x8192))
          (.dma ((cc0_scratch5.slice (Rect.unit offP S1.size iP)).squeeze S_ squeezes_S1_S_).sem) w1 w2 w3) >>= k) Q := by
  have hu := u.2
  have hs : sl u = sl t := Fin.ext (by show u.val % 4 = t.val % 4; omega)
  have hne : u ≠ t := fun e => by have := congrArg Fin.val e; omega
  have hm : u ∈ Finset.univ.erase t := Finset.mem_erase.mpr ⟨hne, Finset.mem_univ _⟩
  have ht : t ∉ (Finset.univ.erase t).erase u := by simp
  have hset : (Finset.univ : Finset (Fin 16)) = insert t (insert u ((Finset.univ.erase t).erase u)) := by
    rw [Finset.insert_erase hm, Finset.insert_erase (Finset.mem_univ _)]
  have hi : t ∉ insert u ((Finset.univ.erase t).erase u) := by
    rw [Finset.insert_erase hm]; exact Finset.notMem_erase _ _
  have eu : Wst W c t.val (t.val + 4) u = wHome W c u := by unfold Wst; rw [if_neg (by omega), if_neg (by omega)]
  have eu' : Wst W c (t.val + 1) (t.val + 5) u = wFly W c u := by unfold Wst; rw [if_neg (by omega), if_pos (by omega)]
  have et : Wst W c (t.val + 1) (t.val + 5) t = iprop(wHome W c t ∗ emp) := by unfold Wst; rw [if_pos (by omega), if_neg (by omega)]
  have er : bigSep ((Finset.univ.erase t).erase u) (Wst W c t.val (t.val + 4))
      = bigSep ((Finset.univ.erase t).erase u) (Wst W c (t.val + 1) (t.val + 5)) :=
    bigSep_congr fun s hs => Wst_next W c (Finset.ne_of_mem_erase (Finset.mem_of_mem_erase hs))
      (fun e => Finset.ne_of_mem_erase hs (Fin.ext (e.trans huv.symm)))
  have eI : WM W c t ⊢ iprop((wHome W c u ∗ wFree c (sl u)) ∗ wHome W c t ∗ bigSep ((Finset.univ.erase t).erase u) (Wst W c (t.val + 1) (t.val + 5))) := by
    unfold WM
    have e2 : bigSep (Finset.univ.erase t) (Wst W c t.val (t.val + 4))
        ⊢ iprop(wHome W c u ∗ bigSep ((Finset.univ.erase t).erase u) (Wst W c (t.val + 1) (t.val + 5))) := by
      rw [← er, ← eu]
      have := bigSep_insert (Φ := Wst W c t.val (t.val + 4)) (Finset.notMem_erase u (Finset.univ.erase t))
      rw [Finset.insert_erase hm] at this
      exact Entails.of_eq this
    rw [hs]
    iintro ⟨Hf, Hh, Hr⟩
    ihave Hr' := e2 $$ Hr
    icases Hr' with ⟨Hu, Hr⟩
    isplitl [Hu Hf]
    · isplitl [Hu] <;> iassumption
    isplitl [Hh] <;> iassumption
  have eO : iprop(wFly W c u ∗ wHome W c t ∗ bigSep ((Finset.univ.erase t).erase u) (Wst W c (t.val + 1) (t.val + 5)))
      ⊢ bigSep Finset.univ (Wst W c (t.val + 1) (t.val + 5)) := by
    have e3 : iprop(wFly W c u ∗ bigSep ((Finset.univ.erase t).erase u) (Wst W c (t.val + 1) (t.val + 5)))
        ⊢ bigSep (Finset.univ.erase t) (Wst W c (t.val + 1) (t.val + 5)) := by
      rw [← eu']
      have := bigSep_insert (Φ := Wst W c (t.val + 1) (t.val + 5)) (Finset.notMem_erase u (Finset.univ.erase t))
      rw [Finset.insert_erase hm] at this
      exact Entails.of_eq this.symm
    rw [bigSep_univ_at (Wst W c (t.val + 1) (t.val + 5)) t, et]
    iintro ⟨Hu, Hh, Hr⟩
    isplitl [Hh]
    · isplitl [Hh]
      · iexact Hh
      · iempintro
    · iapply e3
      isplitl [Hu] <;> iassumption
  iintro ⟨HA, HW, HF⟩
  ihave HW' := eI $$ HW
  icases HW' with ⟨Hs, Hr⟩
  iapply (wp_wstart W c bd (s := u) (k := k) eW eV eP) $$ Hs
  iintro Hs
  iapply hk
  isplitl [HA]; · iexact HA
  isplitl [Hs Hr]
  · iapply eO
    isplitl [Hs] <;> iassumption
  iexact HF

end Cert.KernelIdeal.Gather
-- ==== Proof.KernelIdeal.Body.lean ====
/- The whole body on device `c` at any grid point: from what the device holds before the step to what it holds after it. -/
module

public import proofs.«01_k».proof.Proof.KernelIdeal.Tail

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

/-! ## What the device holds before and after a step -/

/-- Before the first step. -/
def Begin : sProp 𝕄 :=
  iprop(WI W c 0 ∗ (∃ Y, owns ((c : Dev nD) : Thread nD τ) xbM fullShare Y) ∗ (∃ Y, owns ((c : Dev nD) : Thread nD τ) (xgSlot c) fullShare Y)
    ∗ Sig X K c 0 ∗ SndTok X c ∗ RvTok X c ∗ BarWait c)
/-- Between steps, `t` of them past. -/
def Go (t : ℕ) : sProp 𝕄 := iprop(SW X K c t 0 0 ∗ RV X c t ∗ bigSep Finset.univ (Wst W c t (t + 4)) ∗ Done X (barCell c))
/-- Before step `t`. -/
def PreS (t : ℕ) : sProp 𝕄 := if t = 0 then Begin X W K c else Go X W K c t
/-- The output window before step `t`: anything at first, then the sum so far. -/
def OutA (arg4 : Memref sig .tc .vmem S256x8192 .f32) (t : ℕ) : sProp 𝕄 :=
  if t = 0 then iprop(∃ Y, owns ((c : Dev nD) : Thread nD τ) arg4 fullShare Y)
  else owns ((c : Dev nD) : Thread nD τ) arg4 fullShare (acc X W c (t - 1))

/-- The step of a grid point. -/
abbrev st (i : grid0.Coords) : Fin 16 := ⟨(i 0).val, (i 0).2⟩

/-- After the sixteen blocks of a step the sends stand as the next step finds them. -/
theorem SW_next {t : ℕ} (ht : t < 16) : SW X K c t 15 15 ⊢ SW X K c (t + 1) 0 0 := by
  have e (s : Fin 16) : Sst X c t 15 15 s = Sst X c (t + 1) 0 0 s := by
    have := s.2
    unfold Sst
    by_cases h0 : s.val = 0
    · rw [if_pos (.inl h0), if_pos (.inl h0)]
    by_cases h15 : t = 15
    · subst h15; rw [if_pos (by omega), if_pos (by omega)]
    · rw [if_neg (by omega), if_neg (by omega), if_neg (by omega), if_neg (by omega)]
  have eO : owedAt c t 15 = owedAt c (t + 1) 0 := by
    rw [show owedAt c (t + 1) 0 = 0 from if_neg (Nat.succ_ne_zero t)]
    unfold owedAt
    split
    · exact recvOwed_end c
    · rfl
  unfold SW
  rw [eO, bigSep_congr (s := (Finset.univ : Finset (Fin 16))) fun s _ => e s]

section Parts

variable (i : grid0.Coords)
variable (harg1 : tbM.IsWhole) (arg2 : Memref sig .tc .vmem S4096x256 .f32) (harg2 : arg2.IsWhole) (harg3 : wM.IsWhole)
  (arg4 : Memref sig .tc .vmem S256x8192 .f32) (harg4 : arg4.IsWhole) (harg5 : xbM.IsWhole) (harg6 : xgM.IsWhole) (harg7 : wvM.IsWhole)

theorem cond_opening : k0_cond1 i = 1#1 ↔ (i 0).val = 0 := by revert i; decide +kernel
theorem cond_receive : k0_cond32 i = 1#1 ↔ st i ≠ 0 := by revert i; decide +kernel
theorem cond_store : k0_cond33 i = 1#1 ↔ (i 0).val = 0 := by revert i; decide +kernel
theorem cond_add : k0_cond34 i = 1#1 ↔ (i 0).val ≠ 0 ∧ (i 0).val ≠ 15 := by revert i; decide +kernel
theorem cond_end : k0_cond35 i = 1#1 ↔ (i 0).val = 15 := by revert i; decide +kernel
theorem cond_next : k0_cond36 i = 1#1 ↔ (i 0).val + 4 < 16 := by revert i; decide +kernel

/-- Reading entry 0, the device's own number. -/
theorem word_own {off : Fin 1 → Nat} (e : off = ![(0 : Fin 16).val]) {hi : ∀ a, off a + S1.size a ≤ S16.size a}
    {k : Elt F .i32 → Prog (TpuEff nD τ sig (Elt F) Λ₀ .tc) α}
    (hk : iprop(Tab c ∗ Fr) ⊢ wp frame (wpE defs₀ 𝒱₀ ((c : Dev nD) : Thread nD τ) bd) Set.univ (k (wd c)) Q) :
    iprop(Tab c ∗ Fr) ⊢ wp frame (wpE defs₀ 𝒱₀ ((c : Dev nD) : Thread nD τ) bd) Set.univ
      (smemLoad tbM (Rect.unit (s := S16) off S1.size hi) numel1_S1 rfl >>= k) Q :=
  word_step c bd 0 e (by rw [plus_zero]; exact hk)

/-- `opening_step` at a step known to be the first. -/
theorem opening_at (h1 : k0_cond1 i = 1#1) (hw5 : k0_chk5 i (wd c)) {t : ℕ} (ht : t = 0) {k : PUnit → Prog (TpuEff nD τ sig (Elt F) Λ₀ .tc) α}
    (hk : iprop(SW X K c t 0 0 ∗ Done X (barCell c) ∗ (Tab c ∗ owns ((c : Dev nD) : Thread nD τ) arg2 fullShare (X c) ∗ RV X c (max t 1)
        ∗ bigSep Finset.univ (Wst W c t (t + 4))) ∗ Fr)
      ⊢ wp frame (wpE defs₀ 𝒱₀ ((c : Dev nD) : Thread nD τ) bd) Set.univ (k ⟨⟩) Q) :
    iprop(Tab c ∗ owns ((c : Dev nD) : Thread nD τ) arg2 fullShare (X c) ∗ PreS X W K c t ∗ Fr)
      ⊢ wp frame (wpE defs₀ 𝒱₀ ((c : Dev nD) : Thread nD τ) bd) Set.univ (do
        let ⟨v217, k0_hw4⟩ : Σ' (v217 : Elt F .i32), k0_chk4 i v217 ← k0_part1 i tbM harg1 arg2 harg2 wM harg3 arg4 harg4 xbM harg5 xgM harg6 wvM harg7 cc0_scratch3 cc0_scratch4 cc0_scratch5 h1
        let v237 : Sems sig S_ ← k0_part2 i tbM harg1 arg2 harg2 wM harg3 arg4 harg4 xbM harg5 xgM harg6 wvM harg7 cc0_scratch3 cc0_scratch4 cc0_scratch5 (wd c) hw5 h1 v217 k0_hw4
        let v262 : BitVec 32 ← k0_part3 i tbM harg1 arg2 harg2 wM harg3 arg4 harg4 xbM harg5 xgM harg6 wvM harg7 cc0_scratch3 cc0_scratch4 cc0_scratch5 h1 v237
        semSignalWord (⟨k0_dev13, k0_dev13_lt i h1⟩ : Dev nD) v237.sem 1#32
        semSignalWord (⟨k0_dev14, k0_dev14_lt i h1⟩ : Dev nD) v237.sem 1#32
        semSignalWord (⟨k0_dev15, k0_dev15_lt i h1⟩ : Dev nD) v237.sem 1#32
        semSignalWord (⟨k0_dev16, k0_dev16_lt i h1⟩ : Dev nD) v237.sem 1#32
        semWaitWord v237.sem 16#32 >>= k) Q := by
  subst ht
  refine (show _ ⊢ iprop(Tab c ∗ WI W c 0 ∗ (owns ((c : Dev nD) : Thread nD τ) arg2 fullShare (X c)
        ∗ (∃ Y, owns ((c : Dev nD) : Thread nD τ) xbM fullShare Y) ∗ ∃ Y, owns ((c : Dev nD) : Thread nD τ) (xgSlot c) fullShare Y)
        ∗ Sig X K c 0 ∗ SndTok X c ∗ RvTok X c ∗ BarWait c ∗ Fr) from by
    unfold PreS
    rw [if_pos rfl]
    unfold Begin
    iintro ⟨HT, Hx, ⟨HW, Hb, Hg, Hs, Hsn, Hrv, Hbar⟩, HF⟩
    isplitl [HT]; · iexact HT
    isplitl [HW]; · iexact HW
    isplitl [Hx Hb Hg]
    · isplitl [Hx]; · iexact Hx
      isplitl [Hb] <;> iassumption
    isplitl [Hs]; · iexact Hs
    isplitl [Hsn]; · iexact Hsn
    isplitl [Hrv]; · iexact Hrv
    isplitl [Hbar] <;> iassumption).trans ?_
  exact opening_step X W K c bd i harg1 arg2 harg2 harg3 arg4 harg4 harg5 harg6 harg7 h1 hw5 hk

/-- The table's two entries, the opening at the first step, and blocks 1 and 2. -/
theorem part4_wp :
    iprop(Tab c ∗ owns ((c : Dev nD) : Thread nD τ) arg2 fullShare (X c) ∗ PreS X W K c (i 0).val ∗ Fr)
      ⊢ wp frame (wpE defs₀ 𝒱₀ ((c : Dev nD) : Thread nD τ) bd) Set.univ
      (k0_part4 i tbM harg1 arg2 harg2 wM harg3 arg4 harg4 xbM harg5 xgM harg6 wvM harg7 cc0_scratch3 cc0_scratch4 cc0_scratch5)
      fun r => iprop(⌜r.2.1 = wd c ∧ r.2.2.2.1 = wd (c + st i)⌝ ∗ SW X K c (i 0).val 2 2 ∗ Done X (barCell c)
        ∗ (Tab c ∗ owns ((c : Dev nD) : Thread nD τ) arg2 fullShare (X c) ∗ RV X c (max (i 0).val 1)
          ∗ bigSep Finset.univ (Wst W c (i 0).val ((i 0).val + 4))) ∗ Fr) := by
  rw [k0_part4_eq_skeleton]; unfold k0_part4_skel
  refine word_own c bd rfl ?_
  refine assume_step c bd (chk5_all c i) ?_
  refine word_step c bd (st i) (k0_off1_eq i) ?_
  refine assume_step c bd (chk6_all (c + st i) i) ?_
  refine guard_step c bd (P' := iprop(SW X K c (i 0).val 0 0 ∗ Done X (barCell c) ∗ (Tab c ∗ owns ((c : Dev nD) : Thread nD τ) arg2 fullShare (X c) ∗ RV X c (max (i 0).val 1)
          ∗ bigSep Finset.univ (Wst W c (i 0).val ((i 0).val + 4))) ∗ Fr)) (fun h hk => ?_) (fun h => ?_) ?_
  · exact opening_at X W K c bd i harg1 arg2 harg2 harg3 arg4 harg4 harg5 harg6 harg7 h (chk5_all c i) ((cond_opening i).mp h) hk
  · have hv : (i 0).val ≠ 0 := fun e => h ((cond_opening i).mpr e)
    unfold PreS
    rw [if_neg hv, Nat.max_eq_left (Nat.one_le_iff_ne_zero.mpr hv)]
    unfold Go
    iintro ⟨HT, Hx, ⟨HS, HR, HW, HD⟩, HF⟩
    isplitl [HS]; · iexact HS
    isplitl [HD]; · iexact HD
    isplitr [HF]
    · isplitl [HT]; · iexact HT
      isplitl [Hx]; · iexact Hx
      isplitl [HR] <;> iassumption
    · iexact HF
  refine send_step X K bd c 1 rfl (cond_first i) (below_row c 1) (own_slot c) (own_sem c) rfl (below_val c 1) ?_
  refine wait_step X K bd c 1 rfl (cond_last i) rfl (below_row c 1) ?_
  refine send_step X K bd c 2 rfl (cond_first i) (below_row c 2) (own_slot c) (own_sem c) rfl (below_val c 2) ?_
  refine wait_step X K bd c 2 rfl (cond_last i) rfl (below_row c 2) ?_
  refine wp_done c bd ?_
  iintro H
  isplitr
  · ipureintro; exact ⟨rfl, rfl⟩
  · iexact H

theorem recv_block (c : Fin 16) : k0_off92 (wd c) = ![c.val, 0, 0] := by revert c; decide +kernel
theorem recv_sem (c : Fin 16) : k0_off91 (wd c) = ![c.val] := by revert c; decide +kernel
theorem load_block (c : Fin 16) : k0_off97 (wd c) = ![c.val, 0, 0] := by revert c; decide +kernel

/-- Blocks 14 and 15, the receive, and the number of the step's row block of `w`. -/
theorem part9_wp (arg0 : BitVec 32) (hw5 : k0_chk5 i (wd c)) (hw6 : k0_chk6 i (wd (c + st i))) (c14 : BitVec 32) :
    iprop(SW X K c (i 0).val 13 13 ∗ RV X c (max (i 0).val 1) ∗ Tab c ∗ Fr) ⊢ wp frame (wpE defs₀ 𝒱₀ ((c : Dev nD) : Thread nD τ) bd) Set.univ
      (k0_part9 i tbM harg1 arg2 harg2 wM harg3 arg4 harg4 xbM harg5 xgM harg6 wvM harg7 cc0_scratch3 cc0_scratch4 cc0_scratch5
        arg0 (wd c) hw5 (wd (c + st i)) hw6 c14)
      fun r => iprop(⌜r.1 = wd (c + st i)⌝ ∗ SW X K c (i 0).val 15 15 ∗ RV X c ((i 0).val + 1) ∗ Tab c ∗ Fr) := by
  rw [k0_part9_eq_skeleton]; unfold k0_part9_skel
  refine send_step X K bd c 14 rfl (cond_first i) (below_row c 14) (own_slot c) (own_sem c) rfl (below_val c 14) ?_
  refine wait_step X K bd c 14 rfl (cond_last i) rfl (below_row c 14) ?_
  refine send_step X K bd c 15 rfl (cond_first i) (below_row c 15) (own_slot c) (own_sem c) rfl (below_val c 15) ?_
  refine wait_step X K bd c 15 rfl (cond_last i) rfl (below_row c 15) ?_
  refine recv_step X K c bd (t := st i) (cond_receive i) (recv_sem (c + st i)) (recv_block (c + st i)) ?_
  refine (show _ ⊢ iprop(Tab c ∗ SW X K c (i 0).val 15 15 ∗ RV X c ((i 0).val + 1) ∗ Fr) from by
    iintro ⟨HS, HR, HT, HF⟩
    isplitl [HT]; · iexact HT
    isplitl [HS]; · iexact HS
    isplitl [HR] <;> iassumption).trans ?_
  refine word_step c bd (st i) (k0_off93_eq i) ?_
  refine assume_step c bd (chk7_all (c + st i)) ?_
  refine wp_done c bd ?_
  iintro ⟨HT, HS, HR, HF⟩
  isplitr; · ipureintro; rfl
  isplitl [HS]; · iexact HS
  isplitl [HR]; · iexact HR
  isplitl [HT] <;> iassumption

/-- One step of device `c`. -/
theorem body_wp :
    iprop(Tab c ∗ PreS X W K c (i 0).val ∗ owns ((c : Dev nD) : Thread nD τ) arg2 fullShare (X c) ∗ OutA X W c arg4 (i 0).val)
      ⊢ wp frame (wpE defs₀ 𝒱₀ ((c : Dev nD) : Thread nD τ) bd) Set.univ
      (cc0_body i tbM harg1 arg2 harg2 wM harg3 arg4 harg4 xbM harg5 xgM harg6 wvM harg7 cc0_scratch3 cc0_scratch4 cc0_scratch5)
      fun _ => iprop(Tab c ∗ Go X W K c ((i 0).val + 1) ∗ owns ((c : Dev nD) : Thread nD τ) arg2 fullShare (X c)
        ∗ owns ((c : Dev nD) : Thread nD τ) arg4 fullShare (acc X W c (i 0).val)) := by
  rw [cc0_body_eq_skeleton]; unfold cc0_body_skel
  refine (show _ ⊢ iprop(Tab c ∗ owns ((c : Dev nD) : Thread nD τ) arg2 fullShare (X c) ∗ PreS X W K c (i 0).val ∗ OutA X W c arg4 (i 0).val) from by
    iintro ⟨HT, HP, Hx, Ho⟩
    isplitl [HT]; · iexact HT
    isplitl [Hx]; · iexact Hx
    isplitl [HP] <;> iassumption).trans ?_
  refine wp_seq c bd (part4_wp X W K c bd i harg1 arg2 harg2 harg3 arg4 harg4 harg5 harg6 harg7) ?_
  rintro ⟨arg0, v0, hw5, v2, hw6, v26, c16⟩
  refine pure_step c bd fun e => ?_
  dsimp only at e
  obtain ⟨rfl, rfl⟩ := e
  refine wp_seq c bd (part5_wp X K c i bd harg1 arg2 harg2 harg3 arg4 harg4 harg5 harg6 harg7 arg0 hw5 v26 c16) fun v54 => ?_
  refine wp_seq c bd (part6_wp X K c i bd harg1 arg2 harg2 harg3 arg4 harg4 harg5 harg6 harg7 arg0 hw5 v54) ?_
  rintro ⟨v81, c0⟩
  refine wp_seq c bd (part7_wp X K c i bd harg1 arg2 harg2 harg3 arg4 harg4 harg5 harg6 harg7 arg0 hw5 v81 c0) ?_
  rintro ⟨v108, c256⟩
  refine wp_seq c bd (part8_wp X K c i bd harg1 arg2 harg2 harg3 arg4 harg4 harg5 harg6 harg7 arg0 hw5 v108 c256) fun c14 => ?_
  refine (show _ ⊢ iprop(SW X K c (i 0).val 13 13 ∗ RV X c (max (i 0).val 1) ∗ Tab c
      ∗ (Done X (barCell c) ∗ bigSep Finset.univ (Wst W c (i 0).val ((i 0).val + 4)) ∗ owns ((c : Dev nD) : Thread nD τ) arg2 fullShare (X c) ∗ OutA X W c arg4 (i 0).val)) from by
    iintro ⟨HS, HD, ⟨HT, Hx, HR, HW⟩, Ho⟩
    isplitl [HS]; · iexact HS
    isplitl [HR]; · iexact HR
    isplitl [HT]; · iexact HT
    isplitl [HD]; · iexact HD
    isplitl [HW]; · iexact HW
    isplitl [Hx] <;> iassumption).trans ?_
  refine wp_seq c bd (part9_wp X K c bd i harg1 arg2 harg2 harg3 arg4 harg4 harg5 harg6 harg7 arg0 hw5 hw6 c14) ?_
  rintro ⟨v161, hw7⟩
  refine pure_step c bd fun e => ?_
  dsimp only at e
  subst e
  refine (show _ ⊢ iprop(SW X K c (st i).val 15 15 ∗ RV X c ((st i).val + 1) ∗ bigSep Finset.univ (Wst W c (st i).val ((st i).val + 4))
      ∗ (Tab c ∗ Done X (barCell c) ∗ owns ((c : Dev nD) : Thread nD τ) arg2 fullShare (X c) ∗ OutA X W c arg4 (i 0).val)) from by
    iintro ⟨HS, HR, HT, HD, HW, Hx, Ho⟩
    isplitl [HS]; · iexact HS
    isplitl [HR]; · iexact HR
    isplitl [HW]; · iexact HW
    isplitl [HT]; · iexact HT
    isplitl [HD]; · iexact HD
    isplitl [Hx] <;> iassumption).trans ?_
  refine loads_step X W K c bd (t := st i) (k0_off94_eq i) (k0_off98_eq i) (load_block (c + st i)) ?_
  intro v169 v173 hx hw
  refine (show _ ⊢ iprop(OutA X W c arg4 (i 0).val ∗ (Tab c ∗ WM W c (st i)
      ∗ (SW X K c (i 0).val 15 15 ∗ RV X c ((i 0).val + 1) ∗ Done X (barCell c) ∗ owns ((c : Dev nD) : Thread nD τ) arg2 fullShare (X c)))) from by
    iintro ⟨HS, HR, HW, HT, HD, Hx, Ho⟩
    isplitl [Ho]; · iexact Ho
    isplitl [HT]; · iexact HT
    isplitl [HW]; · iexact HW
    isplitl [HS]; · iexact HS
    isplitl [HR]; · iexact HR
    isplitl [HD] <;> iassumption).trans ?_
  -- the first product
  refine guard_step c bd (P' := iprop(owns ((c : Dev nD) : Thread nD τ) arg4 fullShare (acc X W c ((i 0).val - 1)) ∗ (Tab c ∗ WM W c (st i)
      ∗ (SW X K c (i 0).val 15 15 ∗ RV X c ((i 0).val + 1) ∗ Done X (barCell c) ∗ owns ((c : Dev nD) : Thread nD τ) arg2 fullShare (X c))))) (fun h hk => ?_) (fun h => ?_) ?_
  · have hv := (cond_store i).mp h
    unfold OutA
    rw [if_pos hv]
    iintro ⟨⟨%Y, Ho⟩, HF⟩
    iapply (store_step c bd (Y := Y) ((pay1_eq X W c hx hw).trans (by rw [show (st i).val = 0 from hv]; exact (acc_first X W c).symm)) hk)
    isplitl [Ho] <;> iassumption
  · unfold OutA
    rw [if_neg fun e => h ((cond_store i).mpr e)]
  -- a further one
  refine guard_step c bd (P' := iprop(owns ((c : Dev nD) : Thread nD τ) arg4 fullShare (acc X W c (if (i 0).val ≠ 0 ∧ (i 0).val ≠ 15 then (i 0).val else (i 0).val - 1))
      ∗ (Tab c ∗ WM W c (st i)
      ∗ (SW X K c (i 0).val 15 15 ∗ RV X c ((i 0).val + 1) ∗ Done X (barCell c) ∗ owns ((c : Dev nD) : Thread nD τ) arg2 fullShare (X c))))) (fun h hk => ?_) (fun h => ?_) ?_
  · have hv := (cond_add i).mp h
    exact update_step c bd ((pay2_eq X W c hx hw _).trans (by rw [if_pos hv]; exact (acc_mid X W c hv.1 hv.2).symm)) hk
  · rw [if_neg fun e => h ((cond_add i).mpr e)]
  -- the last one
  refine guard_step c bd (P' := iprop(owns ((c : Dev nD) : Thread nD τ) arg4 fullShare (acc X W c (i 0).val)
      ∗ (Tab c ∗ WM W c (st i)
      ∗ (SW X K c (i 0).val 15 15 ∗ RV X c ((i 0).val + 1) ∗ Done X (barCell c) ∗ owns ((c : Dev nD) : Thread nD τ) arg2 fullShare (X c))))) (fun h hk => ?_) (fun h => ?_) ?_
  · have hv := (cond_end i).mp h
    exact update_step c bd ((pay3_eq X W c hx hw _).trans (by rw [if_neg (fun e => e.2 hv)]; exact (acc_last X W c hv).symm)) hk
  · have hv : (i 0).val ≠ 15 := fun e => h ((cond_end i).mpr e)
    rw [show (if (i 0).val ≠ 0 ∧ (i 0).val ≠ 15 then (i 0).val else (i 0).val - 1) = (i 0).val by split <;> omega]
  -- the next copy
  refine (show _ ⊢ iprop(Tab c ∗ WM W c (st i) ∗ (owns ((c : Dev nD) : Thread nD τ) arg4 fullShare (acc X W c (i 0).val)
      ∗ (SW X K c (i 0).val 15 15 ∗ RV X c ((i 0).val + 1) ∗ Done X (barCell c) ∗ owns ((c : Dev nD) : Thread nD τ) arg2 fullShare (X c)))) from by
    iintro ⟨Ho, HT, HW, HR⟩
    isplitl [HT]; · iexact HT
    isplitl [HW]; · iexact HW
    isplitl [Ho] <;> iassumption).trans ?_
  refine guard_step c bd (P' := iprop(Tab c ∗ bigSep Finset.univ (Wst W c ((st i).val + 1) ((st i).val + 5)) ∗ (owns ((c : Dev nD) : Thread nD τ) arg4 fullShare (acc X W c (i 0).val)
      ∗ (SW X K c (i 0).val 15 15 ∗ RV X c ((i 0).val + 1) ∗ Done X (barCell c) ∗ owns ((c : Dev nD) : Thread nD τ) arg2 fullShare (X c))))) (fun h hk => ?_) (fun h => ?_) ?_
  · have hv := (cond_next i).mp h
    refine word_step c bd ⟨(i 0).val + 4, hv⟩ (k0_off99_eq i) ?_
    refine assume_step c bd (chk8_all _ i) ?_
    exact next_step W c bd (t := st i) (u := ⟨(i 0).val + 4, hv⟩) rfl (word_row _) (k0_off101_eq i) (k0_off100_eq i) hk
  · have hv : ¬ (st i).val + 4 < 16 := fun e => h ((cond_next i).mpr e)
    iintro ⟨HT, HW, HR⟩
    isplitl [HT]; · iexact HT
    isplitl [HW]; · iapply (WM_rest W c hv) $$ HW
    iexact HR
  refine wp_done c bd ?_
  unfold Go
  iintro ⟨HT, HW, Ho, HS, HR, HD, Hx⟩
  isplitl [HT]; · iexact HT
  isplitl [HS HR HW HD]
  · isplitl [HS]; · iapply (SW_next X K c (st i).2) $$ HS
    isplitl [HR]; · iexact HR
    isplitl [HW] <;> iassumption
  isplitl [Hx] <;> iassumption

end Parts

end Cert.KernelIdeal.Gather
-- ==== Proof.KernelIdeal.End.lean ====
/-
  The end of the grid: every cell is closed and every buffer put together again.
-/
module

public import proofs.«01_k».proof.Proof.KernelIdeal.Body
public import Idealize.ShloMosaic.Lib.Rounds.Family

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

local instance : ∀ e, Nonempty (Elt F e) := inferInstance

/-- The devices above `c`, in order. -/
def upE (c : Fin 16) : Fin 16 ≃ Fin 16 where
  toFun s := c + s
  invFun o := o - c
  left_inv := by revert c; decide
  right_inv := by revert c; decide

/-- The last four blocks use the four slots. -/
def lastE : Fin 4 ↪ Fin 16 := ⟨fun j => ⟨12 + j.val, by omega⟩, fun a b h => by
  have := congrArg Fin.val h; ext; simpa using this⟩
theorem sl_last (j : Fin 4) : sl (lastE j) = j := by revert j; decide
theorem lastE_le (j : Fin 4) : 12 ≤ (lastE j).val := Nat.le_add_right _ _

/-- A cell at which nothing is due any more is closed: its counter is at zero. -/
theorem close_cell {g : GSem nD τ sig} : iprop(cellInv ER (Rd X) (K g) g ∗ Done X g) ⊢ (|={Set.univ}=> semVal g 0 : sProp 𝕄) := by
  unfold Done
  iintro ⟨HI, ⟨%R, %hR, Hat⟩⟩
  iapply (Rounds.cell_close ER (Rd X) (g := g) (Set.mem_univ (K g)) (fun h => h) (R := R) hR)
  isplitl [HI] <;> iassumption

theorem close_send (s : Fin 16) : iprop(invs X K ∗ Sst X c 16 0 0 s)
    ⊢ (|={Set.univ}=> iprop(semVal (sendCell c s) 0 ∗ ∃ Y, owns ((c : Dev nD) : Thread nD τ) (xbRow (c - s)) fullShare Y) : sProp 𝕄) := by
  unfold Sst Back
  rw [if_pos (.inr (.inl (by decide)))]
  iintro ⟨#HI, Hx, HD⟩
  ihave Hc := (invs_send X K c s) $$ HI
  imod (close_cell X K (g := sendCell c s)) $$ [Hc HD] with Hs
  · isplitl [Hc] <;> iassumption
  imodintro
  isplitl [Hs]; · iexact Hs
  iexists _; iexact Hx

theorem close_recv (s : Fin 16) : iprop(invs X K ∗ Rst X c 16 s)
    ⊢ (|={Set.univ}=> iprop(semVal (recvCell c (c + s)) 0 ∗ ∃ Y, owns ((c : Dev nD) : Thread nD τ) (xgM.slice (slotR (c + s)) (fun _ => rfl)) fullShare Y) : sProp 𝕄) := by
  unfold Rst
  rw [if_pos s.2]
  iintro ⟨#HI, Hx, HD⟩
  ihave Hc := (invs_recv X K c (c + s)) $$ HI
  imod (close_cell X K (g := recvCell c (c + s))) $$ [Hc HD] with Hs
  · isplitl [Hc] <;> iassumption
  imodintro
  isplitl [Hs]; · iexact Hs
  iexists _
  iapply (owns_unsqueeze ((c : Dev nD) : Thread nD τ) (xgM.slice (slotR (c + s)) (fun _ => rfl)) fullShare squeezes_S1x256x256_S256x256 _)
  iexact Hx

/-- The send cells closed, and the bf16 copy whole again. -/
theorem close_sends : iprop(invs X K ∗ bigSep Finset.univ (Sst X c 16 0 0))
    ⊢ (|={Set.univ}=> iprop((bigSep Finset.univ fun s : Fin 16 => semVal (sendCell c s) 0)
        ∗ ∃ Y, owns ((c : Dev nD) : Thread nD τ) xbM fullShare Y) : sProp 𝕄) := by
  have h := (bigSep_with_persistent (R := invs X K) (S := Finset.univ) (Φ := Sst X c 16 0 0)
    (Ψ := fun s => iprop(|={Set.univ}=> iprop(semVal (sendCell c s) 0 ∗ ∃ Y, owns ((c : Dev nD) : Thread nD τ) (xbRow (c - s)) fullShare Y)))
    fun s _ => close_send X K c s).trans (BI.bigSep_fupd Finset.univ _)
  have hj := owns_of_rects_any ((c : Dev nD) : Thread nD τ) (Val := Elt F) (Ix := Unit) (Name := ℕ) (U := UU) (Lvl := ℕ) xbM fullShare rowR (fun _ _ => rfl) rowR_disjoint rowR_cover
  rw [bigSep_univ_equiv (downE c)] at hj
  iintro H
  imod h $$ H with H
  ihave H' := (Entails.of_eq (bigSep_sep' _ _ _)) $$ H
  icases H' with ⟨Hs, Hx⟩
  imodintro
  isplitl [Hs]; · iexact Hs
  iapply hj; iexact Hx

/-- The receive cells closed, and the gather buffer whole again. -/
theorem close_recvs : iprop(invs X K ∗ RV X c 16)
    ⊢ (|={Set.univ}=> iprop((bigSep Finset.univ fun o : Fin 16 => semVal (recvCell c o) 0)
        ∗ ∃ Y, owns ((c : Dev nD) : Thread nD τ) xgM fullShare Y) : sProp 𝕄) := by
  have h := (bigSep_with_persistent (R := invs X K) (S := Finset.univ) (Φ := Rst X c 16)
    (Ψ := fun s => iprop(|={Set.univ}=> iprop(semVal (recvCell c (c + s)) 0 ∗ ∃ Y, owns ((c : Dev nD) : Thread nD τ) (xgM.slice (slotR (c + s)) (fun _ => rfl)) fullShare Y)))
    fun s _ => close_recv X K c s).trans (BI.bigSep_fupd Finset.univ _)
  have hj := owns_of_rects_any ((c : Dev nD) : Thread nD τ) (Val := Elt F) (Ix := Unit) (Name := ℕ) (U := UU) (Lvl := ℕ) xgM fullShare slotR (fun _ _ => rfl) slotR_disjoint slotR_cover
  rw [bigSep_univ_equiv (upE c)] at hj
  rw [bigSep_univ_equiv (upE c) (fun o : Fin 16 => (semVal (recvCell c o) 0 : sProp 𝕄))]
  unfold RV
  iintro H
  imod h $$ H with H
  ihave H' := (Entails.of_eq (bigSep_sep' _ _ _)) $$ H
  icases H' with ⟨Hs, Hx⟩
  imodintro
  isplitl [Hs]; · iexact Hs
  iapply hj; iexact Hx

theorem slot_back (j : Fin 4) : wFree c j ⊢ iprop(semVal (((c : Dev nD) : Thread nD τ), .dma (wS j)) 0
    ∗ ∃ Y, owns ((c : Dev nD) : Thread nD τ) (wvM.slice (wslotR j) (fun _ => rfl)) fullShare Y : sProp 𝕄) := by
  iintro ⟨⟨%Y, Hx⟩, Hs⟩
  isplitl [Hs]; · iexact Hs
  iexists _
  iapply (owns_unsqueeze ((c : Dev nD) : Thread nD τ) (wvM.slice (wslotR j) (fun _ => rfl)) fullShare squeezes_S1x256x8192_S256x8192 _)
  iexact Hx

/-- The four slots together: their counters, and the staging buffer whole. -/
theorem slots_back : (bigSep Finset.univ fun j : Fin 4 => wFree c j)
    ⊢ iprop((bigSep Finset.univ fun j : Fin 4 => semVal (((c : Dev nD) : Thread nD τ), .dma (wS j)) 0)
      ∗ ∃ Y, owns ((c : Dev nD) : Thread nD τ) wvM fullShare Y : sProp 𝕄) := by
  have h := bigSep_mono (s := Finset.univ) fun j (_ : j ∈ Finset.univ) => slot_back (F := F) c j
  have hj := owns_of_rects_any ((c : Dev nD) : Thread nD τ) (Val := Elt F) (Ix := Unit) (Name := ℕ) (U := UU) (Lvl := ℕ) wvM fullShare wslotR (fun _ _ => rfl) wslotR_disjoint wslotR_cover
  refine h.trans ?_
  rw [bigSep_sep']
  exact sep_mono_right hj

/-- Once every block of `w` is used, `w` is whole again and the slots are free. -/
theorem w_back : bigSep Finset.univ (Wst W c 16 20)
    ⊢ iprop(owns ((c : Dev nD) : Thread nD τ) wM fullShare (W c)
      ∗ bigSep Finset.univ fun j : Fin 4 => wFree c j) := by
  rw [bigSep_congr (s := Finset.univ) (Ψ := fun s : Fin 16 => iprop(wHome W c s ∗ if 12 ≤ s.val then wFree c (sl s) else iprop(emp)))
    fun s _ => by unfold Wst; rw [if_pos s.2], bigSep_sep']
  have hw := owns_of_rects ((c : Dev nD) : Thread nD τ) (Val := Elt F) (Ix := Unit) (Name := ℕ) (U := UU) (Lvl := ℕ) wM fullShare wrowR (fun _ _ => rfl) wrowR_disjoint wrowR_cover (W c)
  rw [bigSep_univ_equiv (upE c)] at hw
  refine BI.sep_mono hw ?_
  refine BI.Entails.trans (bigSep_subset (Finset.subset_univ (Finset.univ.map lastE))) ?_
  rw [bigSep_map]
  exact Entails.of_eq (bigSep_congr fun j _ => by rw [if_pos (lastE_le j), sl_last])

/-- What a device holds when the pipeline is through: every counter at zero, every buffer whole. -/
def Finish : sProp 𝕄 :=
  iprop(semVal (barCell c) 0
    ∗ ((bigSep Finset.univ fun s : Fin 16 => semVal (sendCell c s) 0)
      ∗ (bigSep Finset.univ fun o : Fin 16 => semVal (recvCell c o) 0)
      ∗ bigSep Finset.univ fun j : Fin 4 => semVal (((c : Dev nD) : Thread nD τ), .dma (wS j)) 0)
    ∗ ((∃ Y, owns ((c : Dev nD) : Thread nD τ) xbM fullShare Y)
      ∗ (∃ Y, owns ((c : Dev nD) : Thread nD τ) xgM fullShare Y)
      ∗ ∃ Y, owns ((c : Dev nD) : Thread nD τ) wvM fullShare Y)
    ∗ owns ((c : Dev nD) : Thread nD τ) wM fullShare (W c))

/-- After the last step every cell can be closed. -/
theorem finish : Go X W K c 16
    ⊢ (|={Set.univ}=> iprop(Finish W c ∗ ∃ Wt, owes ((c : Dev nD) : Thread nD τ) 0 Wt) : sProp 𝕄) := by
  unfold Go SW Finish
  rw [show owedAt c 16 0 = 0 from if_neg (by decide)]
  iintro ⟨⟨#HI, HS, HO⟩, HR, HW, HD⟩
  ihave Hb := (invs_bar X K c) $$ HI
  imod (close_cell X K (g := barCell c)) $$ [Hb HD] with Hb
  · isplitl [Hb] <;> iassumption
  imod (close_sends X K c) $$ [HS] with ⟨Hs, Hxb⟩
  · isplitr; · iexact HI
    iexact HS
  imod (close_recvs X K c) $$ [HR] with ⟨Hr, Hxg⟩
  · isplitr; · iexact HI
    iexact HR
  ihave Hw := (w_back W c) $$ HW
  icases Hw with ⟨Hw, Hf⟩
  ihave Hf' := (slots_back (F := F) c) $$ Hf
  icases Hf' with ⟨Hws, Hwv⟩
  imodintro
  isplitr [HO]
  · isplitl [Hb]; · iexact Hb
    isplitl [Hs Hr Hws]
    · isplitl [Hs]; · iexact Hs
      isplitl [Hr] <;> iassumption
    isplitl [Hxb Hxg Hwv]
    · isplitl [Hxb]; · iexact Hxb
      isplitl [Hxg] <;> iassumption
    iexact Hw
  · iexact HO

end Cert.KernelIdeal.Gather
-- ==== Proof.KernelIdeal.Grid.lean ====
/-
  The pipeline over the grid: the proof data, and its body at a grid point.
-/
module

public import proofs.«01_k».proof.Proof.KernelIdeal.End
public import Idealize.ShloMosaic.Lib.Pipeline.Value

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

open Idealize.ShloMosaic.Pipeline (Dat BodyObligation)

local instance : ∀ e, Nonempty (Elt F e) := inferInstance

/-! ## The state without what the device owes -/

/-- `Sig` without what the device owes. -/
def SigR : sProp (MT nD τ sig Unit (Elt F) ℕ UU ℕ) :=
  iprop((invs X K ∗ bigSep Finset.univ fun p : Fin 16 => reached ER (barCell p) 0)
    ∗ bigSep (Finset.univ.filter fun p : Fin 16 => 0 ≤ p.val) fun p => iprop(dutyTok ER (barCell p) 0 c ∗ barPay c p))

/-- `Begin` without what the device owes. -/
def BeginR : sProp (MT nD τ sig Unit (Elt F) ℕ UU ℕ) :=
  iprop(WI W c 0 ∗ (∃ Y, owns ((c : Dev nD) : Thread nD τ) xbM fullShare Y) ∗ (∃ Y, owns ((c : Dev nD) : Thread nD τ) (xgSlot c) fullShare Y)
    ∗ SigR X K c ∗ SndTok X c ∗ RvTok X c ∗ BarWait c)

/-- `Go` without what the device owes. -/
def GoR (t : ℕ) : sProp (MT nD τ sig Unit (Elt F) ℕ UU ℕ) :=
  iprop((invs X K ∗ bigSep Finset.univ (Sst X c t 0 0)) ∗ RV X c t ∗ bigSep Finset.univ (Wst W c t (t + 4)) ∗ Done X (barCell c))

def PreR (t : ℕ) : sProp (MT nD τ sig Unit (Elt F) ℕ UU ℕ) := if t = 0 then BeginR X W K c else GoR X W K c t

/-- What the device owes before grid point `t`. -/
def owedG (t : ℕ) : CellTallies nD τ sig Unit := if t = 0 then O₀ c else 0

theorem pre_join (t : ℕ) : iprop(PreR X W K c t ∗ ∃ Wt, owes ((c : Dev nD) : Thread nD τ) (owedG c t) Wt) ⊢ PreS X W K c t := by
  unfold PreR PreS owedG
  split
  · unfold BeginR Begin SigR Sig O₀
    iintro ⟨⟨HW, Hxb, Hxg, ⟨HI, Ht⟩, HS, HR, HB⟩, HO⟩
    isplitl [HW]; · iexact HW
    isplitl [Hxb]; · iexact Hxb
    isplitl [Hxg]; · iexact Hxg
    isplitl [HI Ht HO]
    · isplitl [HI]; · iexact HI
      isplitl [Ht] <;> iassumption
    isplitl [HS]; · iexact HS
    isplitl [HR] <;> iassumption
  · next h =>
    unfold GoR Go SW owedAt
    rw [if_neg h]
    iintro ⟨⟨⟨HI, HS⟩, HR, HW, HD⟩, HO⟩
    isplitl [HI HS HO]
    · isplitl [HI]; · iexact HI
      isplitl [HS] <;> iassumption
    isplitl [HR]; · iexact HR
    isplitl [HW] <;> iassumption

theorem go_split (t : ℕ) : Go X W K c (t + 1) ⊢ iprop(PreR X W K c (t + 1) ∗ ∃ Wt, owes ((c : Dev nD) : Thread nD τ) (owedG c (t + 1)) Wt) := by
  unfold PreR owedG
  rw [if_neg (Nat.succ_ne_zero t), if_neg (Nat.succ_ne_zero t)]
  unfold GoR Go SW owedAt
  rw [if_neg (Nat.succ_ne_zero t)]
  iintro ⟨⟨HI, HS, HO⟩, HR, HW, HD⟩
  isplitr [HO]
  · isplitl [HI HS]
    · isplitl [HI] <;> iassumption
    isplitl [HR]; · iexact HR
    isplitl [HW] <;> iassumption
  · iexact HO

/-- The invariant at grid position `t`: the table, and what the device holds there; after the last point, the end. -/
def PhiN (t : ℕ) : sProp (MT nD τ sig Unit (Elt F) ℕ UU ℕ) :=
  iprop(Tab c ∗ if t = 16 then Finish W c else ∃ K, PreR X W K c t)

/-! ## The proof data -/

/-- The table's contents. -/
def tabA : (pcfg0 (F := F)).Adm := ⟨fun | 0 => tabv c | ⟨_ + 1, h⟩ => absurd h (Nat.not_lt.2 (Nat.le_add_left _ _)), trivial⟩

variable (V9 : Fin 16 → Vec F S256x8192 .f32)

/-- Device `c`'s proof data: the first window holds its `x` throughout, the second the sum of the products so far. -/
def datG : Dat τ (Elt F) Unit ℕ UU ℕ ((pcfg0 (F := F)).at (tabA c)) c where
  A := fun | 0 => X c | 1 => V9 c | ⟨_ + 2, h⟩ => absurd h (Nat.not_lt.2 (Nat.le_add_left _ _))
  after := fun w t => match w with | 0 => X c | 1 => acc X W c t.val | ⟨_ + 2, h⟩ => absurd h (Nat.not_lt.2 (Nat.le_add_left _ _))
  Φ := fun t => PhiN X W c t.val
  q := fun _ => fullShare
  owed := fun t => owedG c t.val

theorem fetch_0 (t : Fin grid0.N) : ((((pcfg0 (F := F)).at (tabA c)).win 0).fetch t = true) ↔ t.val % 16 = 0 :=
  Pipeline.Window.fetch_const _ rfl (fun _ _ => rfl) N_0 t
theorem fetch_1 (t : Fin grid0.N) : (((pcfg0 (F := F)).at (tabA c)).win 1).fetch t = false := rfl
theorem flush_0 (t : Fin grid0.N) : (((pcfg0 (F := F)).at (tabA c)).win 0).flush t = false := rfl
theorem flush_1 (t : Fin grid0.N) : ((((pcfg0 (F := F)).at (tabA c)).win 1).flush t = true) ↔ t.val % 16 = 15 :=
  Pipeline.Window.flush_const _ rfl (fun _ _ => rfl) N_0 rfl t

theorem idle_1 : ∀ t : Fin grid0.N, idle0 1 (grid0.coords t) = false := by decide +kernel

theorem before_0 (t : Fin grid0.N) (d) : (datG X W c V9).before 0 t d = X c := by
  have hN : grid0.N = 16 := N_0
  by_cases h : t.val = 0
  · unfold Dat.before
    rw [if_pos ((fetch_0 c t).mpr (by rw [h]))]
    funext j
    show X c _ = X c j
    refine congrArg (X c) (funext fun a => Fin.ext ?_)
    exact Pipeline.Window.rect_emb_val_of_index_zero (((pcfg0 (F := F)).at (tabA c)).win 0) t a (by
      change Fin 2 at a
      fin_cases a <;> rfl) j
  · rw [(datG X W c V9).before_of_pos 0 t h (Bool.eq_false_iff.mpr fun hf => by
      have := (fetch_0 c t).mp hf; have := t.2; omega)]
    rw [if_neg (Bool.eq_false_iff.mp (flush_0 c _))]
    rfl

theorem before_1 (t : Fin grid0.N) (h : t.val ≠ 0) (d) : (datG X W c V9).before 1 t d = acc X W c (t.val - 1) := by
  have hN : grid0.N = 16 := N_0
  rw [(datG X W c V9).before_of_pos 1 t h (fetch_1 c t)]
  rw [if_neg fun hf => by
    have := (flush_1 c _).mp hf
    have := t.2
    have e : (⟨t.val - 1, Nat.lt_of_le_of_lt (Nat.sub_le _ _) t.isLt⟩ : Fin grid0.N).val = t.val - 1 := rfl
    omega]
  unfold Dat.left
  have hi : ((pcfg0 (F := F)).at (tabA c)).idle 1 (((pcfg0 (F := F)).at (tabA c)).grid.coords ⟨t.val - 1, Nat.lt_of_le_of_lt (Nat.sub_le _ _) t.isLt⟩) = false := idle_1 _
  rw [hi]
  rfl

theorem coords_val : ∀ t : Fin grid0.N, (grid0.coords t 0).val = t.val := by decide

/-! ## The body at a grid point -/

theorem owes_intro (t : Fin (grid0.N + 1)) {n : ℕ} (hn : t.val = n) : (iprop(∃ Wt, owes ((c : Dev nD) : Thread nD τ) (owedG c n) Wt) : sProp (MT nD τ sig Unit (Elt F) ℕ UU ℕ))
    ⊢ (datG X W c V9).owesAt () t := by
  subst hn
  unfold Dat.owesAt Pipeline.owesWithin Dat.bound
  iintro ⟨%Wt, HO⟩
  iexists Wt
  isplitr
  · ipureintro; exact fun _ _ => Or.inl trivial
  · iexact HO
theorem owes_elim (t : Fin (grid0.N + 1)) {n : ℕ} (hn : t.val = n) : (datG X W c V9).owesAt () t
    ⊢ (iprop(∃ Wt, owes ((c : Dev nD) : Thread nD τ) (owedG c n) Wt) : sProp (MT nD τ sig Unit (Elt F) ℕ UU ℕ)) := by
  subst hn
  unfold Dat.owesAt Pipeline.owesWithin
  iintro ⟨%Wt, -, HO⟩
  iexists Wt
  iexact HO

/-- After a point: the next one's invariant; after the last point every cell is closed. -/
theorem phi_next (t : Fin grid0.N) : iprop(Tab c ∗ Go X W K c (t.val + 1))
    ⊢ (|={Set.univ}=> iprop(PhiN X W c (t.val + 1) ∗ ∃ Wt, owes ((c : Dev nD) : Thread nD τ) (owedG c (t.val + 1)) Wt) : sProp (MT nD τ sig Unit (Elt F) ℕ UU ℕ)) := by
  unfold PhiN
  split
  · next h =>
    rw [h, show owedG c 16 = 0 from if_neg (by decide)]
    iintro ⟨HT, HG⟩
    imod (finish X W K c) $$ HG with ⟨HF, HO⟩
    imodintro
    isplitr [HO]
    · isplitl [HT] <;> iassumption
    · iexact HO
  · iintro ⟨HT, HG⟩
    ihave HG' := (go_split X W K c t.val) $$ HG
    icases HG' with ⟨HG, HO⟩
    imodintro
    isplitr [HO]
    · isplitl [HT]; · iexact HT
      iexists K; iexact HG
    · iexact HO

/-- What the body leaves at point `t` is the next point's state. -/
theorem body_post (t : Fin grid0.N) (u : Unit) : iprop(Tab c ∗ Go X W K c ((grid0.coords t 0).val + 1)
      ∗ owns ((c : Dev nD) : Thread nD τ) (spec0_0.stage (((pcfg0 (F := F)).at (tabA c)).slots t 0)) fullShare (X c)
      ∗ owns ((c : Dev nD) : Thread nD τ) (spec0_1.stage (((pcfg0 (F := F)).at (tabA c)).slots t 1)) fullShare (acc X W c (grid0.coords t 0).val))
    ⊢ (|={Set.univ}=> iprop((datG X W c V9).Φ t.succ ∗ (datG X W c V9).owesAt () t.succ
      ∗ owns ((c : Dev nD) : Thread nD τ) (spec0_0.stage (((pcfg0 (F := F)).at (tabA c)).slots t 0)) fullShare (X c)
      ∗ owns ((c : Dev nD) : Thread nD τ) (spec0_1.stage (((pcfg0 (F := F)).at (tabA c)).slots t 1)) fullShare (acc X W c t.val)) : sProp (MT nD τ sig Unit (Elt F) ℕ UU ℕ)) := by
  rw [coords_val t, show (datG X W c V9).Φ t.succ = PhiN X W c (t.val + 1) from congrArg (PhiN X W c) (Fin.val_succ t)]
  iintro ⟨HT, HG, H0, H1⟩
  imod (phi_next X W K c t) $$ [HT HG] with ⟨HP, HO⟩
  · isplitl [HT] <;> iassumption
  ihave HO' := (owes_intro X W c V9 t.succ (Fin.val_succ t)) $$ HO
  imodintro
  isplitl [HP]; · iexact HP
  isplitl [HO']; · iexact HO'
  isplitl [H0] <;> iassumption

theorem body_at : BodyObligation (datG X W c V9) defs₀ 𝒱₀ () Set.univ := fun t => by
  have hN : grid0.N = 16 := N_0
  have hv := coords_val t
  have hi : idle0 1 (((pcfg0 (F := F)).gridAt (tabA c).1).coords t) = false := idle_1 t
  rw [bigSep_W0, bigSep_W0]
  dsimp only
  rw [hi]
  refine (show _ ⊢ iprop(∃ K, iprop(Tab c ∗ PreS X W K c (grid0.coords t 0).val ∗ owns ((c : Dev nD) : Thread nD τ) (spec0_0.stage (((pcfg0 (F := F)).at (tabA c)).slots t 0)) fullShare (X c)
      ∗ OutA X W c (spec0_1.stage (((pcfg0 (F := F)).at (tabA c)).slots t 1)) (grid0.coords t 0).val)) from ?_).trans ?_
  · rw [show (datG X W c V9).Φ t.castSucc = PhiN X W c t.val from rfl]
    unfold PhiN OutA
    rw [if_neg (by have := t.2; omega), hv]
    iintro ⟨⟨HT, ⟨%K, HP⟩⟩, HO, ⟨%d0, H0⟩, ⟨%d1, H1⟩⟩
    ihave HO' := (owes_elim X W c V9 t.castSucc (n := t.val) rfl) $$ HO
    iexists K
    isplitl [HT]; · iexact HT
    isplitl [HP HO']
    · iapply (pre_join X W K c t.val)
      isplitl [HP] <;> iassumption
    isplitl [H0]
    · ihave H0' := (Entails.of_eq (congrArg (owns ((c : Dev nD) : Thread nD τ) (spec0_0.stage (((pcfg0 (F := F)).at (tabA c)).slots t 0)) fullShare) (before_0 X W c V9 t d0))) $$ H0
      iexact H0'
    · by_cases h : t.val = 0
      · rw [if_pos h]; iexists _; iexact H1
      · rw [if_neg h]
        ihave H1' := (Entails.of_eq (congrArg (owns ((c : Dev nD) : Thread nD τ) (spec0_1.stage (((pcfg0 (F := F)).at (tabA c)).slots t 1)) fullShare) (before_1 X W c V9 t h d1))) $$ H1
        iexact H1'
  refine BIClass.exists_elim fun K => (body_wp X W K c none (grid0.coords t) (Memref.isWhole_whole _) (spec0_0.stage (((pcfg0 (F := F)).at (tabA c)).slots t 0)) (hstage0_0 _)
    (Memref.isWhole_whole _) (spec0_1.stage (((pcfg0 (F := F)).at (tabA c)).slots t 1)) (hstage0_1 _) (Memref.isWhole_whole _) (Memref.isWhole_whole _) (Memref.isWhole_whole _)).trans ?_
  exact (wp_mono _ _ _ (body_post X W K c V9 t)).trans (wp_fupd _ _ _ _ _)

end Cert.KernelIdeal.Gather
-- ==== Proof.KernelIdeal.Entry.lean ====
/-
  Entering the region: a device opens its cells, cuts its buffers, and has the state the first step starts from.
-/
module

public import proofs.«01_k».proof.Proof.KernelIdeal.Grid

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

local instance : ∀ e, Nonempty (Elt F e) := inferInstance

/-! ## What a device holds at launch, and once its cells are open -/

/-- The invariants, and that every barrier cell is open. -/
def Base : sProp (MT nD τ sig Unit (Elt F) ℕ UU ℕ) := iprop(invs X K ∗ bigSep Finset.univ fun p : Fin 16 => reached ER (barCell p) 0)

instance Base_persistent : BI.Persistent (Base X K) := by unfold Base; infer_instance

/-- The tokens of the duties device `c` pays: a unit on every barrier cell; its sends; the blocks it writes elsewhere. -/
def Toks : sProp (MT nD τ sig Unit (Elt F) ℕ UU ℕ) :=
  iprop((bigSep Finset.univ fun p : Fin 16 => dutyTok ER (barCell p) 0 c)
    ∗ (bigSep Finset.univ fun s : Fin 16 => dutyTok ER (sendCell c s) 0 (0 : Fin 16))
    ∗ bigSep Finset.univ fun s : Fin 16 => dutyTok ER (recvCell (c - s) c) 0 (0 : Fin 16))

/-- The credit device `c` may wait with: sixteen units of the barrier, a block of every other device. -/
def Creds : sProp (MT nD τ sig Unit (Elt F) ℕ UU ℕ) :=
  iprop(cred (tallyAt (barCell c) () 16)
    ∗ bigSep Finset.univ fun s : Fin 16 => if s = 0 then iprop(emp) else cred (tallyAt (recvCell c (c + s)) () cN))

/-- What stays with device `c` at launch. -/
def Mine : sProp (MT nD τ sig Unit (Elt F) ℕ UU ℕ) :=
  iprop(atPos ER (barCell c) 0 ∅ 0
    ∗ ((bigSep Finset.univ fun s : Fin 16 => openTok ER (sendCell c s)) ∗ bigSep Finset.univ fun o : Fin 16 => openTok ER (recvCell c o))
    ∗ Toks c)

/-- The protocol's part of what device `c` holds until the region. -/
def Start : sProp (MT nD τ sig Unit (Elt F) ℕ UU ℕ) := iprop(∃ K, Base X K ∗ Mine c ∗ Creds c)

/-- And once its cells are open. -/
def Opened : sProp (MT nD τ sig Unit (Elt F) ℕ UU ℕ) :=
  iprop(∃ K, Base X K ∗ atPos ER (barCell c) 0 ∅ 0
    ∗ ((bigSep Finset.univ fun s : Fin 16 => iprop(atPos ER (sendCell c s) 0 ∅ 0 ∗ reached ER (sendCell c s) 0))
      ∗ bigSep Finset.univ fun o : Fin 16 => iprop(atPos ER (recvCell c o) 0 ∅ 0 ∗ reached ER (recvCell c o) 0))
    ∗ Toks c ∗ Creds c)

theorem open_sends : iprop(invs X K ∗ (bigSep Finset.univ fun s : Fin 16 => openTok ER (sendCell c s)) ∗ bigSep Finset.univ fun s : Fin 16 => semVal (sendCell c s) 0)
    ⊢ (|={Set.univ}=> bigSep Finset.univ fun s : Fin 16 => iprop(atPos ER (sendCell c s) 0 ∅ 0 ∗ reached ER (sendCell c s) 0) : sProp (MT nD τ sig Unit (Elt F) ℕ UU ℕ)) := by
  have h := bigSep_with_persistent (R := invs X K) (S := Finset.univ) (Φ := fun s : Fin 16 => openTok ER (sendCell c s))
    (Ψ := fun s => iprop(cellInv ER (Rd X) (K (sendCell c s)) (sendCell c s) ∗ openTok ER (sendCell c s)))
    fun s _ => sep_mono_left (invs_send X K c s)
  iintro ⟨HI, Ho, Hv⟩
  iapply (Rounds.cells_open ER (Rd X) Finset.univ (fun s : Fin 16 => sendCell c s) (fun s => K (sendCell c s)) (fun _ _ => Set.mem_univ _))
  isplitr [Hv]
  · iapply h; isplitl [HI] <;> iassumption
  · iexact Hv

theorem open_recvs : iprop(invs X K ∗ (bigSep Finset.univ fun s : Fin 16 => openTok ER (recvCell c s)) ∗ bigSep Finset.univ fun s : Fin 16 => semVal (recvCell c s) 0)
    ⊢ (|={Set.univ}=> bigSep Finset.univ fun s : Fin 16 => iprop(atPos ER (recvCell c s) 0 ∅ 0 ∗ reached ER (recvCell c s) 0) : sProp (MT nD τ sig Unit (Elt F) ℕ UU ℕ)) := by
  have h := bigSep_with_persistent (R := invs X K) (S := Finset.univ) (Φ := fun s : Fin 16 => openTok ER (recvCell c s))
    (Ψ := fun s => iprop(cellInv ER (Rd X) (K (recvCell c s)) (recvCell c s) ∗ openTok ER (recvCell c s)))
    fun s _ => sep_mono_left (invs_recv X K c s)
  iintro ⟨HI, Ho, Hv⟩
  iapply (Rounds.cells_open ER (Rd X) Finset.univ (fun s : Fin 16 => recvCell c s) (fun s => K (recvCell c s)) (fun _ _ => Set.mem_univ _))
  isplitr [Hv]
  · iapply h; isplitl [HI] <;> iassumption
  · iexact Hv

/-- A device opens its cells once it holds their counters. -/
theorem open_up : iprop(Start X c ∗ (bigSep Finset.univ fun s : Fin 16 => semVal (sendCell c s) 0) ∗ bigSep Finset.univ fun o : Fin 16 => semVal (recvCell c o) 0)
    ⊢ (|={Set.univ}=> Opened X c : sProp (MT nD τ sig Unit (Elt F) ℕ UU ℕ)) := by
  unfold Start Mine Opened Base
  iintro ⟨⟨%K, ⟨#HI, #HR⟩, ⟨Hb, ⟨Hs, Hr⟩, HT⟩, HC⟩, Hvs, Hvr⟩
  imod (open_sends X K c) $$ [Hs Hvs] with Hs
  · isplitr; · iexact HI
    isplitl [Hs] <;> iassumption
  imod (open_recvs X K c) $$ [Hr Hvr] with Hr
  · isplitr; · iexact HI
    isplitl [Hr] <;> iassumption
  imodintro
  iexists K
  isplitr
  · isplitr; · iexact HI
    iexact HR
  isplitl [Hb]; · iexact Hb
  isplitl [Hs Hr]
  · isplitl [Hs] <;> iassumption
  isplitl [HT] <;> iassumption

/-! ## The buffers, cut -/

theorem slot_out (o : Fin 16) : iprop(∃ Y, owns ((c : Dev nD) : Thread nD τ) (xgM.slice (slotR o) (fun _ => rfl)) fullShare Y)
    ⊢ (iprop(∃ Y, owns ((c : Dev nD) : Thread nD τ) (xgSlot o) fullShare Y) : sProp (MT nD τ sig Unit (Elt F) ℕ UU ℕ)) := by
  iintro ⟨%Y, H⟩
  iexists _
  iapply (owns_squeeze ((c : Dev nD) : Thread nD τ) (xgM.slice (slotR o) (fun _ => rfl)) fullShare squeezes_S1x256x256_S256x256 Y)
  iexact H
theorem wslot_out (j : Fin 4) : iprop((∃ Y, owns ((c : Dev nD) : Thread nD τ) (wvM.slice (wslotR j) (fun _ => rfl)) fullShare Y) ∗ semVal (((c : Dev nD) : Thread nD τ), .dma (wS j)) 0)
    ⊢ (wFree c j : sProp (MT nD τ sig Unit (Elt F) ℕ UU ℕ)) := by
  iintro ⟨⟨%Y, H⟩, Hs⟩
  isplitl [H]
  · iexists _
    iapply (owns_squeeze ((c : Dev nD) : Thread nD τ) (wvM.slice (wslotR j) (fun _ => rfl)) fullShare squeezes_S1x256x8192_S256x8192 Y)
    iexact H
  · iexact Hs

theorem some_of {S : Fin 16 → sProp (MT nD τ sig Unit (Elt F) ℕ UU ℕ)} {T : Fin 16 → sProp (MT nD τ sig Unit (Elt F) ℕ UU ℕ)} (h : ∀ o, S o ⊢ T o) : bigSep Finset.univ S ⊢ bigSep Finset.univ T :=
  bigSep_mono fun o _ => h o

theorem slot_any (Y : Vec F S16x256x256 .bf16) (o : Fin 16) : owns ((c : Dev nD) : Thread nD τ) (xgM.slice (slotR o) (fun _ => rfl)) fullShare (fun j => Y ((slotR o).emb j))
    ⊢ (iprop(∃ Y, owns ((c : Dev nD) : Thread nD τ) (xgSlot o) fullShare Y) : sProp (MT nD τ sig Unit (Elt F) ℕ UU ℕ)) := by
  iintro H
  iapply (slot_out c o)
  iexists _; iexact H
theorem wslot_any (Y : Vec F S4x256x8192 .f32) (j : Fin 4) : owns ((c : Dev nD) : Thread nD τ) (wvM.slice (wslotR j) (fun _ => rfl)) fullShare (fun i => Y ((wslotR j).emb i))
    ⊢ (iprop(∃ Y, owns ((c : Dev nD) : Thread nD τ) (wvM.slice (wslotR j) (fun _ => rfl)) fullShare Y) : sProp (MT nD τ sig Unit (Elt F) ℕ UU ℕ)) := by
  iintro H
  iexists _; iexact H

/-- The gather buffer, cut into its slots. -/
theorem slots_intro : iprop(∃ Y, owns ((c : Dev nD) : Thread nD τ) xgM fullShare Y)
    ⊢ (bigSep Finset.univ fun o : Fin 16 => iprop(∃ Y, owns ((c : Dev nD) : Thread nD τ) (xgSlot o) fullShare Y) : sProp (MT nD τ sig Unit (Elt F) ℕ UU ℕ)) := by
  refine BIClass.exists_elim fun Y => ?_
  exact (owns_rects (Val := Elt F) (Ix := Unit) (Name := ℕ) (U := UU) (Lvl := ℕ) ((c : Dev nD) : Thread nD τ) xgM fullShare slotR (fun _ _ => rfl) slotR_disjoint slotR_cover Y).trans
    (bigSep_mono fun o _ => slot_any c Y o)

/-- The staging buffer of `w` with its counters: four free slots. -/
theorem wslots_intro : iprop((∃ Y, owns ((c : Dev nD) : Thread nD τ) wvM fullShare Y) ∗ bigSep Finset.univ fun j : Fin 4 => semVal (((c : Dev nD) : Thread nD τ), .dma (wS j)) 0)
    ⊢ (bigSep Finset.univ fun j : Fin 4 => wFree c j : sProp (MT nD τ sig Unit (Elt F) ℕ UU ℕ)) := by
  have h1 : iprop(∃ Y, owns ((c : Dev nD) : Thread nD τ) wvM fullShare Y)
      ⊢ (bigSep Finset.univ fun j : Fin 4 => iprop(∃ Y, owns ((c : Dev nD) : Thread nD τ) (wvM.slice (wslotR j) (fun _ => rfl)) fullShare Y) : sProp (MT nD τ sig Unit (Elt F) ℕ UU ℕ)) := by
    refine BIClass.exists_elim fun Y => ?_
    exact (owns_rects (Val := Elt F) (Ix := Unit) (Name := ℕ) (U := UU) (Lvl := ℕ) ((c : Dev nD) : Thread nD τ) wvM fullShare wslotR (fun _ _ => rfl) wslotR_disjoint wslotR_cover Y).trans
      (bigSep_mono fun j _ => wslot_any c Y j)
  refine (sep_mono_left h1).trans ?_
  rw [← bigSep_sep']
  exact bigSep_mono fun j _ => wslot_out (F := F) c j

/-- `w` at home, and its slots free. -/
theorem wi_intro : iprop(owns ((c : Dev nD) : Thread nD τ) wM fullShare (W c) ∗ bigSep Finset.univ fun j : Fin 4 => wFree c j) ⊢ WI W c 0 := by
  unfold WI
  have hw := owns_rects (Val := Elt F) (Ix := Unit) (Name := ℕ) (U := UU) (Lvl := ℕ) ((c : Dev nD) : Thread nD τ) wM fullShare wrowR (fun _ _ => rfl) wrowR_disjoint wrowR_cover (W c)
  rw [bigSep_univ_equiv (upE c)] at hw
  rw [Finset.filter_true_of_mem (fun j _ => Nat.zero_le _)]
  refine sep_mono_left (hw.trans (bigSep_mono fun s _ => ?_))
  unfold Wst
  rw [if_neg (Nat.not_lt_zero _), if_neg (Nat.not_lt_zero _)]
  exact BI.Entails.refl _

/-! ## The start of the first step -/

/-- The slots with the receive cells open: the own slot, and what every other device is handed. -/
theorem bar_pays : iprop((bigSep Finset.univ fun o : Fin 16 => iprop(∃ Y, owns ((c : Dev nD) : Thread nD τ) (xgSlot o) fullShare Y))
      ∗ bigSep Finset.univ fun o : Fin 16 => reached ER (recvCell c o) 0)
    ⊢ (iprop((∃ Y, owns ((c : Dev nD) : Thread nD τ) (xgSlot c) fullShare Y) ∗ bigSep Finset.univ fun p : Fin 16 => barPay c p) : sProp (MT nD τ sig Unit (Elt F) ℕ UU ℕ)) := by
  rw [← bigSep_sep', bigSep_univ_at _ c, bigSep_univ_at (fun p : Fin 16 => barPay c p) c]
  have e : bigSep (Finset.univ.erase c) (fun o : Fin 16 => iprop((∃ Y, owns ((c : Dev nD) : Thread nD τ) (xgSlot o) fullShare Y) ∗ reached ER (recvCell c o) 0))
      = (bigSep (Finset.univ.erase c) (fun p : Fin 16 => barPay c p) : sProp (MT nD τ sig Unit (Elt F) ℕ UU ℕ)) :=
    bigSep_congr fun o ho => by unfold barPay; rw [if_neg (Finset.ne_of_mem_erase ho).symm]
  rw [e, show (barPay c c : sProp (MT nD τ sig Unit (Elt F) ℕ UU ℕ)) = iprop(emp) from if_pos rfl]
  iintro ⟨⟨H, -⟩, H'⟩
  isplitl [H]; · iexact H
  isplitr
  · iempintro
  · iexact H'

theorem snd_tok (s : Fin 16) : iprop(dutyTok ER (sendCell c s) 0 (0 : Fin 16) ∗ dutyTok ER (recvCell (c - s) c) 0 (0 : Fin 16)
      ∗ atPos ER (sendCell c s) 0 ∅ 0 ∗ reached ER (sendCell c s) 0)
    ⊢ (if s = 0 then Done X (sendCell c s) else iprop(dutyTok ER (sendCell c s) 0 (0 : Fin 16) ∗ reached ER (sendCell c s) 0
      ∗ dutyTok ER (recvCell (c - s) c) 0 (0 : Fin 16) ∗ atPos ER (sendCell c s) 0 ∅ 0) : sProp (MT nD τ sig Unit (Elt F) ℕ UU ℕ)) := by
  split
  · next h =>
    subst h
    unfold Done
    iintro ⟨-, -, H, -⟩
    iexists 0
    isplitr
    · ipureintro; exact duties_send0 X c
    · iexact H
  · iintro ⟨H1, H2, H3, H4⟩
    isplitl [H1]; · iexact H1
    isplitl [H4]; · iexact H4
    isplitl [H2] <;> iassumption
theorem rv_tok (s : Fin 16) : iprop((if s = 0 then iprop(emp) else cred (tallyAt (recvCell c (c + s)) () cN)) ∗ atPos ER (recvCell c (c + s)) 0 ∅ 0)
    ⊢ (if s = 0 then Done X (recvCell c (c + s)) else iprop(cred (tallyAt (recvCell c (c + s)) () cN) ∗ atPos ER (recvCell c (c + s)) 0 ∅ 0) : sProp (MT nD τ sig Unit (Elt F) ℕ UU ℕ)) := by
  split
  · next h =>
    subst h
    rw [plus_zero]
    unfold Done
    iintro ⟨-, H⟩
    iexists 0
    isplitr
    · ipureintro; exact duties_recv_self X c
    · iexact H
  · exact .rfl

theorem snd_intro : iprop((bigSep Finset.univ fun s : Fin 16 => dutyTok ER (sendCell c s) 0 (0 : Fin 16))
      ∗ (bigSep Finset.univ fun s : Fin 16 => dutyTok ER (recvCell (c - s) c) 0 (0 : Fin 16))
      ∗ bigSep Finset.univ fun s : Fin 16 => iprop(atPos ER (sendCell c s) 0 ∅ 0 ∗ reached ER (sendCell c s) 0)) ⊢ SndTok X c := by
  unfold SndTok
  rw [← bigSep_sep', ← bigSep_sep']
  exact bigSep_mono fun s _ => snd_tok X c s
theorem rv_intro : iprop((bigSep Finset.univ fun s : Fin 16 => if s = 0 then iprop(emp) else cred (tallyAt (recvCell c (c + s)) () cN))
      ∗ bigSep Finset.univ fun o : Fin 16 => atPos ER (recvCell c o) 0 ∅ 0) ⊢ RvTok X c := by
  unfold RvTok
  rw [bigSep_univ_equiv (upE c) (fun o : Fin 16 => (atPos ER (recvCell c o) 0 ∅ 0 : sProp (MT nD τ sig Unit (Elt F) ℕ UU ℕ))), ← bigSep_sep']
  exact bigSep_mono fun s _ => rv_tok X c s

/-- What the region is entered with makes the first step's state. -/
theorem begin_intro : iprop((Opened X c ∗ levAts L lv ∗ (bigSep Finset.univ fun j : Fin 4 => semVal (((c : Dev nD) : Thread nD τ), .dma (wS j)) 0)
      ∗ owns ((c : Dev nD) : Thread nD τ) wM fullShare (W c))
      ∗ (∃ Y, owns ((c : Dev nD) : Thread nD τ) xbM fullShare Y) ∗ (∃ Y, owns ((c : Dev nD) : Thread nD τ) xgM fullShare Y)
      ∗ ∃ Y, owns ((c : Dev nD) : Thread nD τ) wvM fullShare Y) ⊢ iprop(∃ K, BeginR X W K c) := by
  unfold Opened BeginR SigR Toks Creds BarWait
  rw [Finset.filter_true_of_mem (fun j _ => Nat.zero_le _)]
  iintro ⟨⟨⟨%K, HB, Hb, ⟨Hs, Hr⟩, ⟨Ht1, Ht2, Ht3⟩, ⟨Hc1, Hc2⟩⟩, HL, Hv, Hw⟩, Hxb, Hxg, Hwv⟩
  iexists K
  ihave Hr' := (Entails.of_eq (bigSep_sep' _ _ _)) $$ Hr
  icases Hr' with ⟨Hra, Hrr⟩
  ihave Hsl := (slots_intro (F := F) c) $$ Hxg
  ihave Hbp := (bar_pays (F := F) c) $$ [Hsl Hrr]
  · isplitl [Hsl] <;> iassumption
  icases Hbp with ⟨Hown, Hbp⟩
  isplitl [Hw Hv Hwv]
  · iapply (wi_intro W c)
    isplitl [Hw]; · iexact Hw
    iapply (wslots_intro (F := F) c)
    isplitl [Hwv] <;> iassumption
  isplitl [Hxb]; · iexact Hxb
  isplitl [Hown]; · iexact Hown
  isplitl [HB Ht1 Hbp]
  · unfold Base
    isplitl [HB]; · iexact HB
    rw [bigSep_sep']
    isplitl [Ht1] <;> iassumption
  isplitl [Ht2 Ht3 Hs]
  · iapply (snd_intro X c)
    isplitl [Ht2]; · iexact Ht2
    isplitl [Ht3] <;> iassumption
  isplitl [Hc2 Hra]
  · iapply (rv_intro X c)
    isplitl [Hc2] <;> iassumption
  isplitl [Hc1]; · iexact Hc1
  isplitl [Hb] <;> iassumption

end Cert.KernelIdeal.Gather
-- ==== Proof.KernelIdeal.Region.lean ====
/-
  The kernel region: what a device enters it with, and what it leaves it with.
-/
module

public import proofs.«01_k».proof.Proof.KernelIdeal.Entry
public import proofs.«01_k».proof.Proof.Gen.KernelIdeal.Regions

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

open Idealize.ShloMosaic.Pipeline (Dat BodyObligation)

local instance : ∀ e, Nonempty (Elt F e) := inferInstance

variable (V9 : Fin 16 → Vec F S256x8192 .f32)

/-! ## The arrays at the region's two ends -/

/-- `main_arg0` on device `c`, at `Y`; the same for the other three buffers the region touches. -/
abbrev a0At (Y : Vec F S4096x256 .f32) : sProp (MT nD τ sig Unit (Elt F) ℕ UU ℕ) := ((c : Dev nD) : Thread nD τ).loc main_arg0 ↦{fullShare} Y
abbrev a1At (Y : Vec F S4096x8192 .f32) : sProp (MT nD τ sig Unit (Elt F) ℕ UU ℕ) := ((c : Dev nD) : Thread nD τ).loc main_arg1 ↦{fullShare} Y
abbrev tbAt (Y : Vec F S16 .i32) : sProp (MT nD τ sig Unit (Elt F) ℕ UU ℕ) := ((c : Dev nD) : Thread nD τ).loc main_v8 ↦{fullShare} Y
abbrev outAt (Y : Vec F S256x8192 .f32) : sProp (MT nD τ sig Unit (Elt F) ℕ UU ℕ) := ((c : Dev nD) : Thread nD τ).loc main_v9 ↦{fullShare} Y

theorem arrays_eq (G : (w : Fin 2) → Buf (Elt F) (((pcfg0 (F := F)).spec w).arr.view.loc ((c : Dev nD) : Thread nD τ))) :
    (datG X W c V9).arrays G = iprop(a0At c (G 0) ∗ outAt c (G 1)) := by
  unfold Dat.arrays
  rw [bigSep_W0]
  refine congrArg₂ _ ?_ ?_
  · exact congrArg (fun S => ((c : Dev nD) : Thread nD τ).loc main_arg0 ↦[S]{fullShare} (G 0)) (View.set_whole _)
  · exact congrArg (fun S => ((c : Dev nD) : Thread nD τ).loc main_v9 ↦[S]{fullShare} (G 1)) (View.set_whole _)

theorem arr_0 (n : ℕ) : (datG X W c V9).arrAt 0 n = X c := (datG X W c V9).arrAt_in 0 rfl n

/-- The output's block is the whole output. -/
theorem out_emb (t : Fin grid0.N) (j : S256x8192.Idx) : ((((pcfg0 (F := F)).at (tabA c)).win 1).blk t).view.emb j = j :=
  funext fun a => Fin.ext (Pipeline.Window.rect_emb_val_of_index_zero (((pcfg0 (F := F)).at (tabA c)).win 1) t a (by
    change Fin 2 at a
    fin_cases a <;> rfl) j)

/-- The output ends as the sum after the last step. -/
theorem arr_1 : (datG X W c V9).arrAt 1 ((pcfg0 (F := F)).at (tabA c)).N = acc X W c 15 := by
  have hN : grid0.N = 16 := N_0
  refine (datG X W c V9).arrAt_eq_of_cover 1 (acc X W c 15) (fun t ht => ?_) (fun i => ?_)
  · have h15 : t.val = 15 := by have := (flush_1 c t).mp ht; have := t.2; change t.val < grid0.N at this; omega
    funext j
    show acc X W c t.val _ = acc X W c 15 (((((pcfg0 (F := F)).at (tabA c)).win 1).blk t).view.emb j)
    rw [h15, out_emb c t j]
  · refine ⟨⟨15, by show 15 < grid0.N; rw [hN]; decide⟩, (flush_1 c _).mpr rfl, ?_⟩
    exact Finset.mem_map.mpr ⟨i, Finset.mem_univ _, out_emb c _ i⟩

/-! ## The region's own counters -/

/-- The semaphores of the region, beside those of its windows. -/
def osem : Fin 16 ⊕ (Fin 16 ⊕ Fin 4) → SemLoc sig :=
  Sum.elim (fun s => .dma (sendS s)) (Sum.elim (fun o => .dma (recvS o)) fun j => .dma (wS j))

theorem osem_facts : Pipeline.OwnSemFacts spec0 osem := by decide +kernel

theorem ownSems_eq : (Pipeline.ownSems0 osem (c : Dev nD) : sProp (MT nD τ sig Unit (Elt F) ℕ UU ℕ))
    = iprop((bigSep Finset.univ fun s : Fin 16 => semVal (sendCell c s) 0) ∗ (bigSep Finset.univ fun o : Fin 16 => semVal (recvCell c o) 0)
      ∗ bigSep Finset.univ fun j : Fin 4 => semVal (((c : Dev nD) : Thread nD τ), .dma (wS j)) 0) := by
  unfold Pipeline.ownSems0
  rw [BI.bigSep_univ_sum, BI.bigSep_univ_sum]
  rfl

theorem pref_eq : (Pipeline.prefHeld (pcfg0 (F := F)).pre (c : Dev nD) (fun _ => fullShare) (tabA (F := F) c).1 : sProp (MT nD τ sig Unit (Elt F) ℕ UU ℕ)) = tbAt c (tabv c) := by
  unfold Pipeline.prefHeld
  show bigSep (Finset.univ : Finset (Fin 1)) _ = _
  rw [Finset.univ_unique]
  rw [bigSep_singleton]
  rfl

/-- The counters of the windows are below everything a device owes. -/
theorem stage_waits (w : Fin 2) (s : Fin ((((pcfg0 (F := F)).at (tabA c)).win w).nbuf)) (t : Fin (grid0.N + 1)) :
    (levAts L lv : sProp (MT nD τ sig Unit (Elt F) ℕ UU ℕ)) ⊢ MayWait ((c : Dev nD) : Thread nD τ) (.dma ((((pcfg0 (F := F)).at (tabA c)).win w).sem s)) () ((datG X W c V9).owed t) := by
  show _ ⊢ MayWait _ _ () (owedG c t.val)
  unfold owedG
  split
  · have hs : lv (((c : Dev nD) : Thread nD τ), .dma ((((pcfg0 (F := F)).at (tabA c)).win w).sem s)) () ≤ 0 := by
      fin_cases w
      · change Fin 1 at s; fin_cases s; exact Nat.le_of_eq rfl
      · change Fin 1 at s; fin_cases s; exact Nat.le_of_eq rfl
    have hD : ∀ g u, 0 < O₀ c g u → u ∈ L g ∧ 0 < lv g u := fun g u hg => by
      have h : 0 < barOwed 0 g u + recvOwed c 0 g u := hg
      rcases Nat.eq_zero_or_pos (barOwed 0 g u) with h0 | h0
      · have h1 : 0 < recvOwed c 0 g u := by rw [h0] at h; simpa using h
        obtain ⟨s, rfl⟩ := recvOwed_pos h1
        refine ⟨?_, ?_⟩
        · rw [L_tc]; exact Finset.mem_singleton_self _
        · rw [lv_recv]; decide
      · obtain ⟨s, rfl⟩ := barOwed_pos h0
        refine ⟨?_, ?_⟩
        · rw [L_tc]; exact Finset.mem_singleton_self _
        · exact Nat.one_pos
    exact MayOwe.of_cut (L := L) (lev := lv) 0 (fun p hp => by rw [Finset.mem_singleton.mp hp, L_tc]; exact Finset.mem_singleton_self _)
      (fun g u hg => (hD g u hg).1) (fun p hp => by rw [Finset.mem_singleton.mp hp]; exact hs) (fun g u hg => (hD g u hg).2)
  · rw [MayWait_zero]
    iintro -
    iempintro

/-! ## The region -/

/-- What a device holds before the region, after the host's operations. -/
def Pre (c : Fin 16) : sProp (MT nD τ sig Unit (Elt F) ℕ UU ℕ) :=
  iprop((a0At c (X c) ∗ a1At c (W c) ∗ tbAt c (tabv c) ∗ outAt c (V9 c)) ∗ Start X c ∗ ∃ Wt, owes ((c : Dev nD) : Thread nD τ) (O₀ c) Wt)

/-- What it holds at the end. -/
def Last (c : Fin 16) : sProp (MT nD τ sig Unit (Elt F) ℕ UU ℕ) :=
  iprop((a0At c (X c) ∗ a1At c (W c) ∗ outAt c (acc X W c 15)) ∗ semVal (barCell c) 0)

/-- What enters the pipeline's invariant. -/
def Into (c : Fin 16) : sProp (MT nD τ sig Unit (Elt F) ℕ UU ℕ) :=
  iprop(Opened X c ∗ levAts L lv ∗ (bigSep Finset.univ fun j : Fin 4 => semVal (((c : Dev nD) : Thread nD τ), .dma (wS j)) 0)
    ∗ owns ((c : Dev nD) : Thread nD τ) wM fullShare (W c))

/-- What the invariant gives back. -/
def GiveBack (c : Fin 16) : sProp (MT nD τ sig Unit (Elt F) ℕ UU ℕ) := iprop(semVal (barCell c) 0 ∗ a1At c (W c))

theorem enter : iprop(Pre X W V9 c ∗ Pipeline.ownSems0 osem (c : Dev nD) ∗ levAts L lv)
    ⊢ (|={Set.univ}=> iprop((datG X W c V9).arrays ((datG X W c V9).arrAt · 0) ∗ Pipeline.prefHeld (pcfg0 (F := F)).pre (c : Dev nD) (fun _ => fullShare) (tabA (F := F) c).1
      ∗ (datG X W c V9).owesAt () 0 ∗ Into X W c ∗ emp) : sProp (MT nD τ sig Unit (Elt F) ℕ UU ℕ)) := by
  rw [ownSems_eq, pref_eq, arrays_eq]
  unfold Pre Into
  rw [show O₀ c = owedG c 0 from rfl]
  iintro ⟨⟨⟨H0, H1, HT, H9⟩, HS, HO⟩, ⟨Hs, Hr, Hw⟩, HL⟩
  imod (open_up X c) $$ [HS Hs Hr] with HS
  · isplitl [HS]; · iexact HS
    isplitl [Hs] <;> iassumption
  ihave HO' := (owes_intro X W c V9 0 (n := 0) rfl) $$ HO
  ihave H1' := (Entails.of_eq (owns_whole ((c : Dev nD) : Thread nD τ) main_arg1 fullShare (W c)).symm) $$ H1
  imodintro
  isplitl [H0 H9]
  · isplitl [H0]; · iexact H0
    iexact H9
  isplitl [HT]; · iexact HT
  isplitl [HO']; · iexact HO'
  isplitl [HS HL Hw H1']
  · isplitl [HS]; · iexact HS
    isplitl [HL]; · iexact HL
    isplitl [Hw] <;> iassumption
  iempintro

theorem buf_any (b : Ref sig .tc) : iprop(∃ f : Buf (Elt F) (((c : Dev nD) : Thread nD τ).loc b), (((c : Dev nD) : Thread nD τ).loc b) ↦{fullShare} f)
    = (iprop(∃ Y, owns ((c : Dev nD) : Thread nD τ) (Memref.whole b) fullShare Y) : sProp (MT nD τ sig Unit (Elt F) ℕ UU ℕ)) :=
  congrArg _ (funext fun f => (owns_whole ((c : Dev nD) : Thread nD τ) b fullShare f).symm)

theorem inside : iprop(Into X W c ∗ Pipeline.prefHeld (pcfg0 (F := F)).pre (c : Dev nD) (fun _ => fullShare) (tabA (F := F) c).1 ∗ Pipeline.scopedRest spec0 (c : Dev nD))
    ⊢ (PhiN X W c 0 : sProp (MT nD τ sig Unit (Elt F) ℕ UU ℕ)) := by
  rw [scopedRest0_eq, pref_eq, buf_any, buf_any, buf_any]
  unfold PhiN Tab PreR Into
  rw [if_neg (by decide)]
  iintro ⟨HI, HT, Hb, Hg, Hw⟩
  ihave HT' := (Entails.of_eq (owns_whole ((c : Dev nD) : Thread nD τ) main_v8 fullShare (tabv c)).symm) $$ HT
  isplitl [HT']; · iexact HT'
  ihave HB := (begin_intro X W c) $$ [HI Hb Hg Hw]
  · isplitl [HI]; · iexact HI
    isplitl [Hb]; · iexact Hb
    isplitl [Hg] <;> iassumption
  icases HB with ⟨%K, HB⟩
  iexists K
  rw [if_pos rfl]
  iexact HB

theorem outside : PhiN X W c 16
    ⊢ (iprop(GiveBack W c ∗ Pipeline.ownSems0 osem (c : Dev nD) ∗ Pipeline.scopedRest spec0 (c : Dev nD)) : sProp (MT nD τ sig Unit (Elt F) ℕ UU ℕ)) := by
  rw [scopedRest0_eq, ownSems_eq, buf_any, buf_any, buf_any]
  unfold PhiN Finish GiveBack
  rw [if_pos rfl]
  iintro ⟨HT, Hb, Hs, HB, Hw⟩
  ihave Hw' := (Entails.of_eq (owns_whole ((c : Dev nD) : Thread nD τ) main_arg1 fullShare (W c))) $$ Hw
  isplitl [Hb Hw']
  · isplitl [Hb] <;> iassumption
  isplitl [Hs] <;> iassumption

theorem leave : iprop((datG X W c V9).arrays ((datG X W c V9).arrAt · ((pcfg0 (F := F)).at (tabA c)).N) ∗ (datG X W c V9).owesAt () (Fin.last ((pcfg0 (F := F)).at (tabA c)).N) ∗ GiveBack W c ∗ emp)
    ⊢ (|={Set.univ}=> iprop(Last X W c ∗ ∃ Wt, owes ((c : Dev nD) : Thread nD τ) 0 Wt) : sProp (MT nD τ sig Unit (Elt F) ℕ UU ℕ)) := by
  rw [arrays_eq, arr_0, arr_1]
  unfold Last GiveBack
  iintro ⟨⟨H0, H9⟩, HO, ⟨Hb, H1⟩, -⟩
  ihave HO' := (owes_elim X W c V9 (Fin.last grid0.N) (n := 16) N_0) $$ HO
  imodintro
  isplitr [HO']
  · isplitr [Hb]
    · isplitl [H0]; · iexact H0
      isplitl [H1] <;> iassumption
    · iexact Hb
  · rw [show (0 : CellTallies nD τ sig Unit) = owedG c 16 from (if_neg (by decide)).symm]
    iexact HO'

variable (F) in
/-- Every device's table. -/
def tabs : Dev nD → (p : Fin 1) → (pcfgs (F := F) p).Adm := fun c _ => tabA c

/-- Every device's proof data. -/
def dats (p : Fin 1) (c : Dev nD) : Dat τ (Elt F) Unit ℕ UU ℕ (Pipeline.pinD pcfgs (tabs F) c p) c := datG X W c V9

set_option backward.isDefEq.respectTransparency.types false in
/-- The kernel's region. -/
def region : Pipeline.PerCore.RegionSeg pcfgs (tabs F) (dats X W V9) () defs₀ 𝒱₀ L lv 0 where
  win := winFacts0.to₀
  block_pos := block_pos0
  stage_whole := stage_whole0
  K := Fin 16 ⊕ (Fin 16 ⊕ Fin 4)
  osem := osem
  ho := osem_facts
  hbody := fun c => (body_at X W c V9).loose
  hwaits := fun c => Pipeline.PerCore.cellsWaits_intro (Pipeline.pinD pcfgs (tabs F)) (dats X W V9) () 0 c fun w s t => stage_waits X W c V9 w s t
  pre := Pre X W V9
  post := fun c => iprop(Last X W c ∗ ∃ Wt, owes ((c : Dev nD) : Thread nD τ) 0 Wt)
  X := Into X W
  Y := GiveBack W
  Z := fun _ => iprop(emp)
  hentry := fun c => enter X W c V9
  hin := fun c => inside X W c
  hout := fun c => (show (datG X W c V9).Φ (Fin.last grid0.N) ⊢ PhiN X W c 16 from Entails.of_eq (congrArg (PhiN X W c) N_0)).trans (outside X W c)
  hexit := fun c => leave X W c V9

end Cert.KernelIdeal.Gather
-- ==== Proof.KernelIdeal.Deal.lean ====
/-
  What the launch deals: the cells, the tokens of the duties, the credit.
-/
module

public import proofs.«01_k».proof.Proof.KernelIdeal.Region

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

local instance : ∀ e, Nonempty (Elt F e) := inferInstance

/-! ## The cells and the tokens -/

theorem sendS_inj : Function.Injective sendS := fun a b h => by
  have := congrArg Fin.val h; rw [sendS_val, sendS_val] at this; exact Fin.ext (by omega)
theorem recvS_inj : Function.Injective recvS := fun a b h => by
  have := congrArg Fin.val h; rw [recvS_val, recvS_val] at this; exact Fin.ext (by omega)
theorem send_ne_recv (s o : Fin 16) : sendS s ≠ recvS o := fun h => by
  have := congrArg Fin.val h; rw [sendS_val, recvS_val] at this; omega

theorem dma_inj {a b : DmaSem sig} (h : (SemLoc.dma a : SemLoc sig) = .dma b) : a = b := SemLoc.dma.inj h

/-- The send and the receive cells of a device. -/
def dsem : Fin 16 ⊕ Fin 16 → SemLoc sig := Sum.elim (fun s => .dma (sendS s)) fun o => .dma (recvS o)
theorem dsem_inj : Function.Injective dsem := by
  rintro (a | a) (b | b) h
  · exact congrArg Sum.inl (sendS_inj (dma_inj h))
  · exact absurd (dma_inj h) (send_ne_recv a b)
  · exact absurd (dma_inj h).symm (send_ne_recv b a)
  · exact congrArg Sum.inr (recvS_inj (dma_inj h))
theorem dsem_ne (k : Fin 16 ⊕ Fin 16) : dsem k ≠ .reg barrier0 := by rcases k with k | k <;> exact fun h => nomatch h

def barEmb : Fin 16 ↪ GSem nD τ sig := ⟨fun c => barCell c, fun _ _ h => congrArg (fun g : GSem nD τ sig => g.1.1) h⟩
def dmaEmb : Fin 16 × (Fin 16 ⊕ Fin 16) ↪ GSem nD τ sig :=
  ⟨fun ck => (((ck.1 : Dev nD) : Thread nD τ), dsem ck.2), fun _ _ h =>
    Prod.ext (congrArg (fun g : GSem nD τ sig => g.1.1) h) (dsem_inj (congrArg Prod.snd h))⟩

/-- The barrier cells, opened at launch; the send and receive cells, opened by their device in the region. -/
def barCells : Finset (GSem nD τ sig) := Finset.univ.map barEmb
def dmaCells : Finset (GSem nD τ sig) := Finset.univ.map dmaEmb

theorem cells_disjoint : Disjoint barCells dmaCells := by
  rw [Finset.disjoint_left]
  rintro g h₁ h₂
  obtain ⟨c, -, rfl⟩ := Finset.mem_map.mp h₁
  obtain ⟨ck, -, h⟩ := Finset.mem_map.mp h₂
  exact dsem_ne ck.2 (congrArg Prod.snd h)

/-- The duty `k` of device `c`: its cell, the round, and the duty's name. -/
def tok (c : Fin 16) : Fin 16 ⊕ (Fin 16 ⊕ Fin 16) → GSem nD τ sig × ℕ × Fin 16 :=
  Sum.elim (fun p => (barCell p, 0, c)) (Sum.elim (fun s => (sendCell c s, 0, 0)) fun s => (recvCell (c - s) c, 0, 0))

theorem sub_cancel (c s s' : Fin 16) (h : c - s = c - s') : s = s' := by
  have e : ∀ c s : Fin 16, c - (c - s) = s := by decide
  rw [← e c s, h, e]

theorem tok_inj : Function.Injective fun ck : Fin 16 × (Fin 16 ⊕ (Fin 16 ⊕ Fin 16)) => tok ck.1 ck.2 := by
  have hsem {x y : GSem nD τ sig × ℕ × Fin 16} (h : x = y) : x.1.2 = y.1.2 := congrArg (fun t => t.1.2) h
  have hdev {x y : GSem nD τ sig × ℕ × Fin 16} (h : x = y) : x.1.1.1 = y.1.1.1 := congrArg (fun t => t.1.1.1) h
  rintro ⟨c, a | a | a⟩ ⟨d, b | b | b⟩ h
  · have h1 : a = b := hdev h
    have h2 : c = d := congrArg (fun t : GSem nD τ sig × ℕ × Fin 16 => t.2.2) h
    rw [h1, h2]
  · exact nomatch hsem h
  · exact nomatch hsem h
  · exact nomatch hsem h
  · have h1 : c = d := hdev h
    have h2 : a = b := sendS_inj (dma_inj (hsem h))
    rw [h1, h2]
  · exact absurd (dma_inj (hsem h)) (send_ne_recv _ _)
  · exact nomatch hsem h
  · exact absurd (dma_inj (hsem h)).symm (send_ne_recv _ _)
  · have h1 : c = d := recvS_inj (dma_inj (hsem h))
    subst h1
    rw [sub_cancel c a b (hdev h)]

/-- Every duty's token. -/
def toks : Finset (GSem nD τ sig × ℕ × Fin 16) := Finset.univ.map ⟨_, tok_inj⟩

theorem toks_eq : bigSep toks (fun x => (dutyTok ER x.1 x.2.1 x.2.2 : sProp (MT nD τ sig Unit (Elt F) ℕ UU ℕ))) = bigSep Finset.univ fun c : Fin 16 => Toks c := by
  unfold toks
  rw [bigSep_map, bigSep_univ_prod]
  refine bigSep_congr fun c _ => ?_
  rw [BI.bigSep_univ_sum, BI.bigSep_univ_sum]
  rfl

theorem opens_eq : bigSep dmaCells (fun g => (openTok ER g : sProp (MT nD τ sig Unit (Elt F) ℕ UU ℕ)))
    = bigSep Finset.univ fun c : Fin 16 => iprop((bigSep Finset.univ fun s : Fin 16 => openTok ER (sendCell c s)) ∗ bigSep Finset.univ fun o : Fin 16 => openTok ER (recvCell c o)) := by
  unfold dmaCells
  rw [bigSep_map, bigSep_univ_prod]
  refine bigSep_congr fun c _ => ?_
  rw [BI.bigSep_univ_sum]
  rfl

theorem bars_eq (Φ : GSem nD τ sig → sProp (MT nD τ sig Unit (Elt F) ℕ UU ℕ)) : bigSep barCells Φ = bigSep Finset.univ fun c : Fin 16 => Φ (barCell c) := by
  unfold barCells
  rw [bigSep_map]
  rfl

theorem invs_eq : (bigSep (barCells ∪ dmaCells) fun g => cellInv ER (Rd X) (K g) g) = invs X K := by
  rw [bigSep_union cells_disjoint, bars_eq]
  unfold dmaCells invs
  rw [bigSep_map, bigSep_univ_prod]
  refine Eq.trans ?_ (bigSep_sep' _ _ _).symm
  refine congrArg _ (bigSep_congr fun c _ => ?_)
  rw [BI.bigSep_univ_sum]
  exact (bigSep_sep' _ _ _).symm

/-! ## The credit -/

theorem recv_ne_bar (d o p : Fin 16) : (recvCell d o : GSem nD τ sig) ≠ barCell p := fun h => nomatch congrArg Prod.snd h

theorem owed_bar (d c : Fin 16) : O₀ d (barCell c) () = 1 := by
  have h1 : recvOwed d 0 (barCell c) () = 0 := by
    rcases Nat.eq_zero_or_pos (recvOwed d 0 (barCell c) ()) with h | h
    · exact h
    · obtain ⟨s, hs⟩ := recvOwed_pos h
      exact absurd hs.symm (recv_ne_bar _ _ _)
  have h2 : barOwed 0 (barCell c) () = 1 := by
    unfold barOwed
    rw [Finset.filter_true_of_mem (fun j _ => Nat.zero_le _), Finset.sum_apply, Finsupp.finset_sum_apply,
      Finset.sum_eq_single c (fun p _ hp => by rw [tallyAt_apply, if_neg (fun h => hp (congrArg (fun g : GSem nD τ sig => g.1.1) h.1).symm)])
        (fun h => absurd (Finset.mem_univ _) h), tallyAt_apply, if_pos ⟨rfl, rfl⟩]
  show barOwed 0 (barCell c) () + recvOwed d 0 (barCell c) () = 1
  rw [h1, h2]

theorem owed_recv (d c s : Fin 16) (hs : s ≠ 0) : O₀ d (recvCell c (c + s)) () = if d = c + s then cN else 0 := by
  have h1 : barOwed 0 (recvCell c (c + s)) () = 0 := by
    rcases Nat.eq_zero_or_pos (barOwed 0 (recvCell c (c + s)) ()) with h | h
    · exact h
    · obtain ⟨p, hp⟩ := barOwed_pos h
      exact absurd hp (recv_ne_bar _ _ _)
  have ha : ∀ c s : Fin 16, c + s - s = c := by decide
  have h2 : recvOwed d 0 (recvCell c (c + s)) () = if d = c + s then cN else 0 := by
    split
    · next h =>
      subst h
      have hm : s ∈ Finset.univ.filter (fun q : Fin 16 => 0 < q.val) := Finset.mem_filter.mpr ⟨Finset.mem_univ _, Fin.pos_iff_ne_zero.mpr hs⟩
      unfold recvOwed
      rw [Finset.sum_apply, Finsupp.finset_sum_apply, Finset.sum_eq_single s
        (fun p _ hp => by
          rw [tallyAt_apply, if_neg (fun h => hp (sub_cancel (c + s) p s ?_))]
          rw [ha]
          exact (congrArg (fun g : GSem nD τ sig => g.1.1) h.1).symm)
        (fun h => absurd hm h), ha, tallyAt_apply, if_pos ⟨rfl, rfl⟩]
    · next h =>
      rcases Nat.eq_zero_or_pos (recvOwed d 0 (recvCell c (c + s)) ()) with h0 | h0
      · exact h0
      · obtain ⟨p, hp⟩ := recvOwed_pos h0
        exact absurd (recvS_inj (dma_inj (congrArg Prod.snd hp))).symm h
  show barOwed 0 (recvCell c (c + s)) () + recvOwed d 0 (recvCell c (c + s)) () = _
  rw [h1, h2, Nat.zero_add]

theorem launch_bar : tallyOn (barCell c) (launchCredit (Pipeline.owing O₀) 0 (barCell c)) = (tallyAt (barCell c) () 16 : CellTallies nD τ sig Unit) := by
  unfold tallyAt; refine congrArg _ (Finsupp.ext fun u => ?_); cases u
  rw [Pipeline.launchCredit_owing, Finsupp.single_eq_same, Finset.sum_congr rfl fun d _ => owed_bar d c]
  rfl

theorem launch_recv (s : Fin 16) (hs : s ≠ 0) :
    tallyOn (recvCell c (c + s)) (launchCredit (Pipeline.owing O₀) 0 (recvCell c (c + s))) = (tallyAt (recvCell c (c + s)) () cN : CellTallies nD τ sig Unit) := by
  unfold tallyAt; refine congrArg _ (Finsupp.ext fun u => ?_); cases u
  rw [Pipeline.launchCredit_owing, Finsupp.single_eq_same, Finset.sum_congr rfl fun d _ => owed_recv d c s hs,
    Finset.sum_ite_eq' Finset.univ (c + s) fun _ => cN, if_pos (Finset.mem_univ _)]

def recvEmb : Fin 16 ↪ SemLoc sig := ⟨fun o => .dma (recvS o), fun _ _ h => recvS_inj (dma_inj h)⟩

theorem cred_at (s : Fin 16) : cred (tallyOn (recvCell c (c + s)) (launchCredit (Pipeline.owing O₀) 0 (recvCell c (c + s))))
    ⊢ (if s = 0 then iprop(emp) else cred (tallyAt (recvCell c (c + s)) () cN) : sProp (MT nD τ sig Unit (Elt F) ℕ UU ℕ)) := by
  split
  · iintro -; iempintro
  · next h => rw [launch_recv c s h]

/-- The credit the launch gives device `c`. -/
theorem creds : (Pipeline.launchCred O₀ c : sProp (MT nD τ sig Unit (Elt F) ℕ UU ℕ)) ⊢ Creds c := by
  unfold Pipeline.launchCred Creds
  rw [bigSep_univ_at _ (SemLoc.reg barrier0), launch_bar]
  refine sep_mono_right ?_
  have hsub : (Finset.univ.map recvEmb) ⊆ Finset.univ.erase (SemLoc.reg barrier0 : SemLoc sig) := fun x hx => by
    obtain ⟨o, -, rfl⟩ := Finset.mem_map.mp hx
    exact Finset.mem_erase.mpr ⟨(fun h => nomatch h), Finset.mem_univ _⟩
  refine (BI.bigSep_subset hsub).trans ?_
  rw [bigSep_map, bigSep_univ_equiv (upE c)]
  exact bigSep_mono fun s _ => cred_at c s

end Cert.KernelIdeal.Gather
-- ==== Proof.KernelIdeal.Table.lean ====
/-
  The table the host computes: entry j of device c is the word of (c + j) mod 16.
-/
module

public import proofs.«01_k».proof.Proof.KernelIdeal.Grid
public import proofs.«01_k».proof.Proof.Gen.KernelIdeal.Regions
public import Idealize.ShloMosaic.Lib.Claim
public import Idealize.ShloMosaic.Lib.Pointwise

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

variable (m : (ℓ : Loc nD τ sig) → Buf (Elt F) ℓ)

/-- The floored remainder of the words' sum by sixteen, as the host spells it, on every device at every entry. -/
theorem host_entry : ∀ c j : Fin 16,
    (let r := IntOp.remsi ArithUnit.host (IntOp.addi (IntOp.remui ArithUnit.host (IntOp.divui ArithUnit.host (Dev.word (c : Dev nD)) 1#32) 16#32) (BitVec.ofNat 32 j.val))
        (Scalar.select (IntOp.cmpi CmpIPredicate.eq 16#32 0#32) 1#32 16#32);
      Scalar.select (IntOp.andi (IntOp.cmpi CmpIPredicate.ne (IntOp.cmpi CmpIPredicate.slt r 0#32)
          (IntOp.cmpi CmpIPredicate.slt (Scalar.select (IntOp.cmpi CmpIPredicate.eq 16#32 0#32) 1#32 16#32) 0#32)) (IntOp.cmpi CmpIPredicate.ne r 0#32))
        (IntOp.addi r (Scalar.select (IntOp.cmpi CmpIPredicate.eq 16#32 0#32) 1#32 16#32)) r) = wd (c + j) := by
  decide +kernel

theorem ofBuf_v7 (h₁ h₂ h₃) (v : (⟨S16, .i32⟩ : BufTy).Contents (Elt F)) : (StableHlo.TRef.of main_v7 h₁ h₂ h₃ : StableHlo.TRef sig ⟨S16, .i32⟩).ofBuf v = v := rfl
theorem ofBuf_c1 (h₁ h₂ h₃) (v : (⟨S_, .i32⟩ : BufTy).Contents (Elt F)) : (StableHlo.TRef.of main_c_1 h₁ h₂ h₃ : StableHlo.TRef sig ⟨S_, .i32⟩).ofBuf v = v := rfl
theorem toBuf_v8 (h₁ h₂ h₃) (v : (⟨S16, .i32⟩ : BufTy).Contents (Elt F)) : (StableHlo.TRef.of main_v8 h₁ h₂ h₃ : StableHlo.TRef sig ⟨S16, .i32⟩).toBuf v = v := rfl

theorem table_eq : V2 m c main_v8 = tabv c := by
  unfold V2 V1
  entry_read
  simp only [StableHlo.TRef.ofBuf_toBuf, ofBuf_v7, ofBuf_c1, toBuf_v8]
  funext j
  obtain ⟨j0, rfl⟩ : ∃ j0 : Fin 16, j = fun | 0 => j0 := ⟨j 0, by funext a; fin_cases a; rfl⟩
  pointwise
  exact host_entry c j0

end Cert.KernelIdeal.Gather
-- ==== Proof.KernelIdeal.Launch.lean ====
/-
  The launch and the run: what every final state holds.
-/
module

public import proofs.«01_k».proof.Proof.KernelIdeal.Deal
public import proofs.«01_k».proof.Proof.KernelIdeal.Table

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Cert.Own

variable {F : FTy → Type} [FloatOps F]

local notation "𝕄" => MT nD τ sig Unit (Elt F) ℕ UU ℕ

variable (X : Fin 16 → Vec F S4096x256 .f32) (W : Fin 16 → Vec F S4096x8192 .f32) (K : GSem nD τ sig → ℕ)
variable (c : Fin 16) (bd : Option (𝒱₀).V) {α : Type} {Q : α → sProp (MT nD τ sig Unit (Elt F) ℕ UU ℕ)} {Fr : sProp (MT nD τ sig Unit (Elt F) ℕ UU ℕ)}

open Idealize.ShloMosaic.Pipeline (Dat)

local instance : ∀ e, Nonempty (Elt F e) := inferInstance

variable (m : (ℓ : Loc nD τ sig) → Buf (Elt F) ℓ) (ρ : Dev nD → PrngReg)

/-! ## The contents the launch finds -/

/-- Every device's `x`, every device's `w`, and what the output's buffer holds before the region. -/
def mX (c : Fin 16) : Vec F S4096x256 .f32 := m (((c : Dev nD) : Thread nD τ).loc main_arg0)
def mW (c : Fin 16) : Vec F S4096x8192 .f32 := m (((c : Dev nD) : Thread nD τ).loc main_arg1)
def mO (c : Fin 16) : Vec F S256x8192 .f32 := m (((c : Dev nD) : Thread nD τ).loc main_v9)

/-! ## The launch element -/

theorem cell_inj : Function.Injective (Pipeline.PerCore.cellOf (nD := nD) (τ := τ) (Pipeline.pinD pcfgs (tabs F))) :=
  Pipeline.PerCore.cellOf_injective _ (fun _ p => Pipeline.specSemsDistinct_of_nodup spec0 (by decide)) (fun _ p p' h => absurd (Subsingleton.elim p p') h)

variable (F) in
/-- The rounds of the pipeline's cells, of the kernel's cells, and no counter. -/
def u₀ : UU :=
  (initOf (Pipeline.PerCore.cells (Pipeline.pinD pcfgs (tabs F)) cell_inj) (Pipeline.PerCore.launchToks (Pipeline.pinD pcfgs (tabs F)) cell_inj),
    (launchOf barCells dmaCells toks, 1))

/-- The kernel's rounds, held by device 0 until they are dealt. -/
def Ghost (c : Dev nD) : sProp (MT nD τ sig Unit (Elt F) ℕ UU ℕ) := if c = 0 then BI.own (ER (launchOf barCells dmaCells toks)) else iprop(emp)

theorem ghost_all : bigSep Finset.univ (Ghost (F := F)) = BI.own (ER (launchOf barCells dmaCells toks)) := by
  rw [bigSep_univ_at _ (0 : Fin 16), bigSep_congr (s := Finset.univ.erase (0 : Fin 16)) (Ψ := fun _ => (BI.emp : sProp (MT nD τ sig Unit (Elt F) ℕ UU ℕ)))
      fun c hc => by unfold Ghost; rw [if_neg (Finset.ne_of_mem_erase hc)]; rfl, BI.bigSep_emp_const]
  unfold Ghost
  rw [if_pos rfl]
  exact BI.equiv_iff.mp sep_emp

theorem u₀_split : (ownU (u₀ F) : sProp (MT nD τ sig Unit (Elt F) ℕ UU ℕ))
    ⊢ |={Set.univ}=> iprop(BI.own (EP (initOf (Pipeline.PerCore.cells (Pipeline.pinD pcfgs (tabs F)) cell_inj) (Pipeline.PerCore.launchToks (Pipeline.pinD pcfgs (tabs F)) cell_inj)))
      ∗ bigSep Finset.univ (Ghost (F := F))) := by
  unfold u₀
  rw [ghost_all]
  iintro Hu
  ihave H := (ownU_pair _ _) $$ Hu
  icases H with ⟨HP, HX⟩
  ihave H' := (own_pair_emb embR _ _) $$ HX
  icases H' with ⟨HR, -⟩
  imodintro
  isplitl [HP]; · iexact HP
  iexact HR

/-! ## The first thread state -/

/-- What rides along with the buffers until the region. -/
def Ride (c : Dev nD) : sProp (MT nD τ sig Unit (Elt F) ℕ UU ℕ) := iprop(Start (mX m) c ∗ ∃ Wt, owes ((c : Dev nD) : Thread nD τ) (O₀ c) Wt)

/-- What a device's launch gives it besides the protocol's part. -/
def Bundle (c : Dev nD) : sProp (MT nD τ sig Unit (Elt F) ℕ UU ℕ) :=
  iprop(StableHlo.held ((c : Dev nD) : Thread nD τ) (Pipeline.ucRefs τ sig) (V0 m c) ∗ Creds c ∗ owes ((c : Dev nD) : Thread nD τ) (O₀ c) ∅)

theorem unscoped_eq : ∀ sm : SemLoc sig, sm.isScoped .tc = false → sm = .reg barrier0 := by decide

theorem bar_sem : (unscopedSems0 (c : Dev nD) : sProp (MT nD τ sig Unit (Elt F) ℕ UU ℕ)) ⊢ semVal (barCell c) 0 := by
  unfold unscopedSems0
  exact bigSep_elim (Finset.mem_filter.mpr ⟨Finset.mem_univ _, by decide⟩)

theorem first_core : iprop(unscopedBufs (c : Dev nD) (fun b => m (((c : Dev nD) : Thread nD τ).loc b)) ∗ unscopedSems0 (c : Dev nD)
      ∗ owes ((c : Dev nD) : Thread nD τ) (O₀ c) ∅ ∗ Pipeline.launchCred O₀ c ∗ prngReg c (ρ c) ∗ Ghost c)
    ⊢ (iprop(Bundle m c ∗ (semVal (barCell c) 0 ∗ Ghost c)) : sProp (MT nD τ sig Unit (Elt F) ℕ UU ℕ)) := by
  rw [show unscopedBufs (c : Dev nD) (fun b => m (((c : Dev nD) : Thread nD τ).loc b)) = StableHlo.held ((c : Dev nD) : Thread nD τ) (Pipeline.ucRefs τ sig) (V0 m c) from
    Pipeline.unscopedBufs_held (Ix := Unit) (Name := ℕ) (U := UU) (Lvl := ℕ) (c : Dev nD) (V0 m c)]
  unfold Bundle
  iintro ⟨Hh, Hus, HO, Hcr, -, HG⟩
  ihave Hc := (creds (F := F) c) $$ Hcr
  ihave Hb := (bar_sem (F := F) c) $$ Hus
  isplitl [Hh Hc HO]
  · isplitl [Hh]; · iexact Hh
    isplitl [Hc] <;> iassumption
  isplitl [Hb] <;> iassumption

theorem first_intro : iprop(Base (mX m) K ∗ (Mine c ∗ Bundle m c))
    ⊢ (iprop(StableHlo.held ((c : Dev nD) : Thread nD τ) (Pipeline.ucRefs τ sig) (V0 m c) ∗ Ride m c) : sProp (MT nD τ sig Unit (Elt F) ℕ UU ℕ)) := by
  unfold Bundle Ride Start
  iintro ⟨HB, HM, Hh, HC, HO⟩
  isplitl [Hh]; · iexact Hh
  isplitr [HO]
  · iexists K
    isplitl [HB]; · iexact HB
    isplitl [HM] <;> iassumption
  · iexists ∅; iexact HO

/-- Every device's first thread state, made from what the launch deals. -/
theorem first_all : iprop((bigSep Finset.univ fun c : Dev nD => iprop(unscopedBufs (c : Dev nD) (fun b => m (((c : Dev nD) : Thread nD τ).loc b)) ∗ unscopedSems0 (c : Dev nD)
      ∗ owes ((c : Dev nD) : Thread nD τ) (O₀ c) ∅ ∗ Pipeline.launchCred O₀ c ∗ prngReg c (ρ c) ∗ Ghost c)) ∗ levAts L lv)
    ⊢ (|={Set.univ}=> bigSep Finset.univ fun c : Dev nD => iprop(StableHlo.held ((c : Dev nD) : Thread nD τ) (Pipeline.ucRefs τ sig) (V0 m c) ∗ Ride m c) : sProp (MT nD τ sig Unit (Elt F) ℕ UU ℕ)) := by
  iintro ⟨H, -⟩
  ihave H' := (show (bigSep Finset.univ fun c : Dev nD => iprop(unscopedBufs (c : Dev nD) (fun b => m (((c : Dev nD) : Thread nD τ).loc b)) ∗ unscopedSems0 (c : Dev nD)
      ∗ owes ((c : Dev nD) : Thread nD τ) (O₀ c) ∅ ∗ Pipeline.launchCred O₀ c ∗ prngReg c (ρ c) ∗ Ghost c))
      ⊢ (bigSep Finset.univ fun c : Dev nD => iprop(Bundle m c ∗ (semVal (barCell c) 0 ∗ Ghost c)) : sProp (MT nD τ sig Unit (Elt F) ℕ UU ℕ)) from bigSep_mono fun c _ => first_core c m ρ) $$ H
  ihave H2 := (Entails.of_eq (bigSep_sep' _ _ _)) $$ H'
  icases H2 with ⟨HB, H3⟩
  ihave H4 := (Entails.of_eq (bigSep_sep' _ _ _)) $$ H3
  icases H4 with ⟨Hv, HG⟩
  ihave Hu := (Entails.of_eq (ghost_all (F := F))) $$ HG
  ihave Hv' := (Entails.of_eq (bars_eq (F := F) fun g => semVal g 0).symm) $$ Hv
  imod (Rounds.fund_launch ER (Rd (mX m)) cells_disjoint (fun g _ h => h) toks) $$ [Hv' Hu] with ⟨%κ, -, #Hinv, #Hr, Hat, Hopen, Htok⟩
  · isplitl [Hv'] <;> iassumption
  imodintro
  iapply (bigSep_with_persistent (R := Base (mX m) κ) (S := Finset.univ) (Φ := fun c : Fin 16 => iprop(Mine c ∗ Bundle m c)) fun c _ => first_intro κ c m)
  isplitr
  · unfold Base
    isplitr
    · iapply (Entails.of_eq (invs_eq (mX m) κ)); iexact Hinv
    · iapply (Entails.of_eq (bars_eq (F := F) fun g => reached ER g 0)); iexact Hr
  iapply (Entails.of_eq (bigSep_sep' _ _ _).symm)
  isplitr [HB]
  · unfold Mine
    iapply (Entails.of_eq (bigSep_sep' _ _ _).symm)
    isplitl [Hat]
    · iapply (Entails.of_eq (bars_eq (F := F) fun g => atPos ER g 0 ∅ 0)); iexact Hat
    iapply (Entails.of_eq (bigSep_sep' _ _ _).symm)
    isplitl [Hopen]
    · iapply (Entails.of_eq (opens_eq (F := F))); iexact Hopen
    · iapply (Entails.of_eq (toks_eq (F := F))); iexact Htok
  · iexact HB

/-! ## Into the region -/

/-- The four buffers the region touches. -/
def four : Finset (DevRef τ sig) := {Proc.devRef .tc main_arg0, Proc.devRef .tc main_arg1, Proc.devRef .tc main_v8, Proc.devRef .tc main_v9}
theorem four_sub : four ⊆ Pipeline.ucRefs τ sig := by
  intro b hb
  have h := hb
  unfold four at h
  simp only [Finset.mem_insert, Finset.mem_singleton] at h
  rcases h with rfl | rfl | rfl | rfl <;> exact Finset.mem_filter.mpr ⟨StableHlo.devRef_mem_tcRefs _, by decide⟩

theorem four_eq (V : Valuation τ sig (Elt F)) : (bigSep four fun b => ((c : Dev nD), b) ↦{fullShare} V b : sProp (MT nD τ sig Unit (Elt F) ℕ UU ℕ))
    = iprop(a0At c (V main_arg0) ∗ a1At c (V main_arg1) ∗ tbAt c (V main_v8) ∗ outAt c (V main_v9)) := by
  unfold four
  rw [bigSep_insert (by decide), bigSep_insert (by decide), bigSep_insert (by decide), bigSep_singleton]
  rfl

/-- After the host's operations a device holds what the region is entered with. -/
theorem pre_intro : iprop(StableHlo.held ((c : Dev nD) : Thread nD τ) (Pipeline.ucRefs τ sig) (V2 m c) ∗ Ride m c)
    ⊢ (Pre (mX m) (mW m) (mO m) c : sProp (MT nD τ sig Unit (Elt F) ℕ UU ℕ)) := by
  have h : StableHlo.held ((c : Dev nD) : Thread nD τ) (Pipeline.ucRefs τ sig) (V2 m c)
      ⊢ (iprop(a0At c (mX m c) ∗ a1At c (mW m c) ∗ tbAt c (tabv c) ∗ outAt c (mO m c)) : sProp (MT nD τ sig Unit (Elt F) ℕ UU ℕ)) := by
    unfold StableHlo.held
    refine (BI.bigSep_subset four_sub).trans (Entails.of_eq ((four_eq c (V2 m c)).trans ?_))
    rw [table_eq c m, V2_of m c main_arg0 (by decide), V2_of m c main_arg1 (by decide), V2_of m c main_v9 (by decide),
      V1_of m c main_arg0 (by decide), V1_of m c main_arg1 (by decide), V1_of m c main_v9 (by decide)]
    rfl
  unfold Pre Ride
  iintro ⟨Hh, HS, HO⟩
  ihave H := h $$ Hh
  isplitl [H]; · iexact H
  isplitl [HS] <;> iassumption

/-! ## The run -/

/-- @main of device `c`: two stretches of host operations, then the region. -/
def segs (c : Dev nD) : List (Pipeline.PerCore.Seg pcfgs (tabs F) (dats (mX m) (mW m) (mO m)) () defs₀ 𝒱₀ L lv) :=
  [.host (seg0 m 𝒱₀ L lv (fun _ => Ride m) c), .host (seg1 m 𝒱₀ L lv fun _ => Ride m), .region (region (mX m) (mW m) (mO m))]

set_option backward.isDefEq.respectTransparency.types false in
/-- From any memory with all counters zero, every weakly fair run of the sixteen devices ends; then every device's
    arguments are unchanged, its output holds the last step's sum, and every counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v9) = acc (mX m) (mW m) c 15) ∧ r.2.sem = fun _ => 0) :=
  Pipeline.PerCore.θ_run_regions_kit_sems pcfgs (tabs F) (dats (mX m) (mW m) (mO m)) () cell_inj EP defs₀ 𝒱₀ L lv m ρ main (segs m)
    (fun c Q => by
      rewrite [main_chain c, Pipeline.PerCore.Seg.run_eq_chain,
        show (segs m c).map Pipeline.PerCore.Seg.prog = [
          StableHlo.seq (hostOps0 c),
          StableHlo.seq hostOps0_1,
          Prog.lift (.customCall (Pipeline.entry 0) ()) ] from rfl]
      exact .rfl)
    (fun c => by simp only [segs, Pipeline.PerCore.Seg.pipes_host, Pipeline.PerCore.Seg.pipes_region, Pipeline.PerCore.Seg.pipes_nil]; decide)
    (O₀ := O₀) (hL := L_of_ne) (G := Ghost) (u₀ := u₀ F)
    (hu₀ := u₀_split)
    (T₀ := fun c => iprop(StableHlo.held ((c : Dev nD) : Thread nD τ) (Pipeline.ucRefs τ sig) (V0 m c) ∗ Ride m c)) (Tₙ := Last (mX m) (mW m))
    (hch := fun c => ⟨.rfl, .rfl, pre_intro c m, .rfl⟩)
    (hinit := first_all m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v9) = acc (mX m) (mW m) c 15) ∧ s.sem (barCell c) = 0)
    (hfin := fun c s' => by
      unfold Last
      iintro ⟨⟨⟨H0, H1, H9⟩, Hb⟩, HSI⟩
      icombine HSI H0 gives %h0
      icombine HSI H1 gives %h1
      icombine HSI H9 gives %h9
      icombine HSI Hb gives %hb
      imodintro
      isplitr
      · ipureintro
        exact ⟨⟨Buf.eq_of_forall_mem_univ h0, Buf.eq_of_forall_mem_univ h1, Buf.eq_of_forall_mem_univ h9⟩, by simpa using hb⟩
      iexact HSI)
    (hQ := fun s h hs => ⟨fun c => (h c).1,
      sem_eq_zero hs fun c sm hsm => by
        obtain rfl := unscoped_eq sm hsm
        exact (h c).2⟩)

end Cert.KernelIdeal.Gather
-- ==== Proof.Value.lean ====
/-
  What a device's output is at the ideal values: its row block of the reference's result. The sixteen block products a device adds
  run over the whole contracted axis, each device starting at its own block.
-/
module

public import proofs.«01_k».proof.Proof.KernelIdeal.Tail
public import proofs.«01_k».proof.Proof.Gen.ReferenceIdeal
public import Idealize.ShloMosaic.Lib.Layout
public import Idealize.ShloMosaic.Lib.MatmulPlain
public import Idealize.ShloMosaic.Lib.StackMember
public import Idealize.ShloMosaic.Lib.ValueIdx
public import Idealize.ShloMosaic.Lib.Pipeline.ValueKit.Acc

@[expose] public section

noncomputable section

namespace Cert.Value

open Cert.KernelIdeal Cert.KernelIdeal.Gen Cert.KernelIdeal.Gather
open Idealize.ShloMosaic Idealize.ShloMosaic.ValueIdx

/-! ## The contracted axis, block by block -/

/-- Counting the sixteen devices on from device `c`. -/
def onward (c : Fin 16) : Fin 16 ≃ Fin 16 where
  toFun s := c + s
  invFun o := o - c
  left_inv := by revert c; decide
  right_inv := by revert c; decide

/-- Place `k` of block `b` of an axis of 4096 in sixteen blocks. -/
def place (b : Fin 16) (k : Fin 256) : Fin 4096 := ⟨b.val * 256 + k.val, by omega⟩

/-- A sum over the axis is the sum over the blocks, begun at any block. -/
theorem sum_blocks {M : Type*} [AddCommMonoid M] (c : Fin 16) (f : Fin 4096 → M) :
    ∑ t : Fin 16, ∑ k : Fin 256, f (place (c + t) k) = ∑ l : Fin 4096, f l :=
  (Equiv.sum_comp (onward c) fun b => ∑ k : Fin 256, f (place b k)).trans (Fin.sum_mul_add_fin 16 256 f rfl)

/-! ## One product -/

/-- A block of `x` cast to bf16 is the block of `x`. -/
theorem blk_apply (X : Fin 16 → Vec Ideal S4096x256 .f32) (o b : Fin 16) (i k : Fin 256) :
    blk X o b (ix2 i k) = X o (ix2 (place b i) k) := by
  unfold blk k0_pay4
  rw [shapeCast_self, shapeCast_self]
  refine congrArg (X o) ?_
  funext a; apply Fin.ext
  match a with
  | ⟨0, _⟩ => show 256 * b.val + 1 * i.val = b.val * 256 + i.val; omega
  | ⟨1, _⟩ => show 0 + 1 * k.val = k.val; omega

/-- A row block of `w` at an index. -/
theorem wblk_apply (W : Fin 16 → Vec Ideal S4096x8192 .f32) (c b : Fin 16) (k : Fin 256) (j : Fin 8192) :
    wblk W c b (ix2 k j) = W c (ix2 (place b k) j) := by
  unfold wblk
  refine congrArg (W c) ?_
  funext a; apply Fin.ext
  match a with
  | ⟨0, _⟩ => show 256 * b.val + 1 * k.val = b.val * 256 + k.val; omega
  | ⟨1, _⟩ => show 0 + 1 * j.val = j.val; omega

/-- A block product at an index is the sum of the 256 products of entries. -/
theorem mm_apply (a : FVec Ideal S256x256 .bf16) (b : FVec Ideal S256x8192 .f32) (i : Fin 256) (j : Fin 8192) :
    mm a b (ix2 i j) = ∑ k : Fin 256, a (ix2 i k) * b (ix2 k j) := by
  have h := Ideal.matmul_plain_apply (M := 256) (K := 256) (N := 8192) none a (truncf .bf16 b bitsLt_bf16_f32) (constant S256x8192 .f32 0x00000000#32) i j
  rw [constant_apply, Ideal.ofBits_zero_f32, zero_add] at h
  exact h

/-! ## The sum a device holds -/

variable (X : Fin 16 → Vec Ideal S4096x256 .f32) (W : Fin 16 → Vec Ideal S4096x8192 .f32) (c : Fin 16)

/-- Before the last step the output window holds the sum of the products so far. -/
theorem acc_sum (q : S256x8192.Idx) : ∀ t : ℕ, t < 15 → acc X W c t q = ∑ s ∈ Finset.range (t + 1), part X W c s q
  | 0, _ => by rw [Finset.sum_range_one]; rfl
  | t + 1, h => by
    rw [acc_mid X W c (Nat.succ_ne_zero t) (by omega), Finset.sum_range_succ, ← acc_sum q t (by omega)]
    rfl

/-- After it, all sixteen, kept above zero. -/
theorem acc_end (q : S256x8192.Idx) : acc X W c 15 q = max (∑ t : Fin 16, part X W c t.val q) 0 := by
  rw [acc_last X W c rfl, Fin.sum_univ_eq_sum_range (fun s => part X W c s q), Finset.sum_range_succ, ← acc_sum X W c q 14 (by omega),
    ← Ideal.ofBits_zero_f32]
  rfl

/-- A step's product at an index: one block of the contracted axis. -/
theorem part_apply (t : Fin 16) (i : Fin 256) (j : Fin 8192) :
    part X W c t.val (ix2 i j) = ∑ k : Fin 256, X (c + t) (ix2 (place c i) k) * W c (ix2 (place (c + t) k) j) := by
  unfold part
  rw [dv_val, mm_apply]
  exact Finset.sum_congr rfl fun k _ => by rw [blk_apply, wblk_apply]

/-! ## The reference's result -/

/-- The reference at an index: a row of `x` by a column of `w`, kept above zero. -/
theorem ref_apply (x : FVec Ideal Cert.ReferenceIdeal.S4096x4096 .f32) (w : FVec Ideal Cert.ReferenceIdeal.S4096x8192 .f32) (r : Fin 4096) (j : Fin 8192) :
    maximumf (Host.dotGeneral Cert.ReferenceIdeal.dot_S4096x4096_S4096x8192_S4096x8192_1_0_0_1_n_n none x w)
        (broadcastInDim Cert.ReferenceIdeal.S4096x8192 ![] Cert.ReferenceIdeal.Facts₀.bcast_S_S4096x8192 (constant Cert.ReferenceIdeal.S_ .f32 0x00000000#32)) (ix2 r j)
      = max (∑ l : Fin 4096, x (ix2 r l) * w (ix2 l j)) 0 := by
  have h := StackMember.dotGeneral_plain_apply (m := 4096) (k := 4096) (n := 8192) none x w r j
  rw [← h, ← Ideal.ofBits_zero_f32]
  rfl

/-- From the column blocks of `x` and the whole of `w` on every device, each device ends with its row block of the
    reference's result. -/
theorem acc_eq_block (x : FVec Ideal Cert.ReferenceIdeal.S4096x4096 .f32) (w : FVec Ideal Cert.ReferenceIdeal.S4096x8192 .f32)
    (hX : ∀ o, X o = Layout.block ⟨2, ![4096, 256]⟩ ⟨2, ![4096, 4096]⟩ 1 16 o x) (hW : W c = w) :
    acc X W c 15 = Layout.block ⟨2, ![256, 8192]⟩ ⟨2, ![4096, 8192]⟩ 0 16 c
      (maximumf (Host.dotGeneral Cert.ReferenceIdeal.dot_S4096x4096_S4096x8192_S4096x8192_1_0_0_1_n_n none x w)
        (broadcastInDim Cert.ReferenceIdeal.S4096x8192 ![] Cert.ReferenceIdeal.Facts₀.bcast_S_S4096x8192 (constant Cert.ReferenceIdeal.S_ .f32 0x00000000#32))) := by
  funext q
  obtain ⟨i, j, rfl⟩ : ∃ (i : Fin 256) (j : Fin 8192), q = ix2 i j := ⟨q 0, q 1, eq_ix2 q⟩
  have hi : (show Layout.Tiles ⟨2, ![256, 8192]⟩ ⟨2, ![4096, 8192]⟩ 0 16 by decide).idx c (ix2 i j) = ix2 (place c i) j := by
    funext a; apply Fin.ext
    match a with
    | ⟨0, _⟩ => rfl
    | ⟨1, _⟩ => rfl
  rw [acc_end, Layout.block_apply, hi, ref_apply, ← sum_blocks c fun l => x (ix2 (place c i) l) * w (ix2 l j)]
  refine congrArg (max · 0) (Finset.sum_congr rfl fun t _ => ?_)
  rw [part_apply]
  refine Finset.sum_congr rfl fun k _ => ?_
  rw [hX, hW, Layout.block_apply]
  refine congrArg (x · * _) ?_
  funext a; apply Fin.ext
  match a with
  | ⟨0, _⟩ => rfl
  | ⟨1, _⟩ => rfl

end Cert.Value

end
-- ==== Proof.lean ====
/-
  The five claims. Both kernels' runs are the launches of Proof/Kernel/Launch.lean and Proof/KernelIdeal/Launch.lean; the reference's
  run is the generated one; Proof/Value.lean says the two results agree at the ideal values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Adequacy
public import Idealize.ShloMosaic.Init

@[expose] public section

noncomputable section

namespace Cert.Proof

open Idealize.ShloMosaic Idealize.SL.Sem

/-- The kernel at bit patterns ends with its arguments unchanged and every counter zero. -/
theorem frame_kernel : quiescent_Kernel := fun m g _ =>
  (θ_run Cert.Kernel.defs _ _).mono (fun _ h => ⟨fun c => ⟨(h.1 c).1, (h.1 c).2.1⟩, h.2⟩) (Cert.Kernel.Gather.run_main m g)

/-- The kernel at ideal values likewise. -/
theorem frame_kernelIdeal : quiescent_KernelIdeal := fun m g _ =>
  (θ_run Cert.KernelIdeal.defs _ _).mono (fun _ h => ⟨fun c => ⟨(h.1 c).1, (h.1 c).2.1⟩, h.2⟩) (Cert.KernelIdeal.Gather.run_main m g)

/-- The reference ends with its arguments unchanged; it has no counter. -/
theorem frame_reference : quiescent_ReferenceIdeal := fun m g _ =>
  (θ_run Cert.ReferenceIdeal.defs _ _).mono (fun _ h => ⟨fun c => (h c).2, funext fun s => nomatch s⟩) (Cert.ReferenceIdeal.Value.run m g)

/-- From the column blocks of `x` and the whole of `w`, the kernel ends with device `c` holding row block `c` of what the reference
    ends with. -/
theorem values : algebraic_KernelIdeal_ReferenceIdeal := fun m g m' g' _ hm =>
  ⟨_, (θ_run Cert.KernelIdeal.defs _ _).mono
      (fun _ h c => ⟨(h.1 c).2.2.trans (Cert.Value.acc_eq_block _ _ c _ _ (fun o => (hm o).1) (hm c).2), (h.1 c).1, (h.1 c).2.1⟩)
      (Cert.KernelIdeal.Gather.run_main m g),
    (θ_run Cert.ReferenceIdeal.defs _ _).mono (fun _ h => h 0) (Cert.ReferenceIdeal.Value.run m' g')⟩

theorem claim : Cert.Claim :=
  ⟨Cert.Kernel.Gen.facts, Cert.KernelIdeal.Gen.facts, Cert.ReferenceIdeal.Gen.facts,
    frame_kernel, frame_kernelIdeal, frame_reference, trivial, values⟩

end Cert.Proof

end
